-- ==== Defs.lean ====
def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_lf_finite [hPre_lf_finite : Cert.Pre_lf_finite.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_lf_finite.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9)) (m ((c.tc : Thread Cert.Kernel1Ideal.nD Cert.Kernel1Ideal.τ).loc Cert.Kernel1Ideal.main_arg10))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_lf_finite [hPre_lf_finite : Cert.Pre_lf_finite.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_lf_finite.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8)) (m ((c.tc : Thread Cert.Reference1Ideal.nD Cert.Reference1Ideal.τ).loc Cert.Reference1Ideal.main_arg9)) (m ((c.tc : Thread Cert.Reference1Ideal.nD Cert.Reference1Ideal.τ).loc Cert.Reference1Ideal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8)
      ∧ r.2.mem ((c.tc : Thread Cert.Kernel1.nD Cert.Kernel1.τ).loc Cert.Kernel1.main_arg9) = m ((c.tc : Thread Cert.Kernel1.nD Cert.Kernel1.τ).loc Cert.Kernel1.main_arg9)
      ∧ r.2.mem ((c.tc : Thread Cert.Kernel1.nD Cert.Kernel1.τ).loc Cert.Kernel1.main_arg10) = m ((c.tc : Thread Cert.Kernel1.nD Cert.Kernel1.τ).loc Cert.Kernel1.main_arg10))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9)
      ∧ r.2.mem ((c.tc : Thread Cert.Kernel1Ideal.nD Cert.Kernel1Ideal.τ).loc Cert.Kernel1Ideal.main_arg10) = m ((c.tc : Thread Cert.Kernel1Ideal.nD Cert.Kernel1Ideal.τ).loc Cert.Kernel1Ideal.main_arg10))
      ∧ r.2.sem = fun _ => 0)

def quiescent_Kernel1Ideal_pre_lf_finite [hKernel1Ideal : Cert.Kernel1Ideal.Facts] [hPre_lf_finite : Cert.Pre_lf_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_lf_finite m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9)
      ∧ r.2.mem ((c.tc : Thread Cert.Kernel1Ideal.nD Cert.Kernel1Ideal.τ).loc Cert.Kernel1Ideal.main_arg10) = m ((c.tc : Thread Cert.Kernel1Ideal.nD Cert.Kernel1Ideal.τ).loc Cert.Kernel1Ideal.main_arg10))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9)
      ∧ r.2.mem ((c.tc : Thread Cert.Reference1Ideal.nD Cert.Reference1Ideal.τ).loc Cert.Reference1Ideal.main_arg10) = m ((c.tc : Thread Cert.Reference1Ideal.nD Cert.Reference1Ideal.τ).loc Cert.Reference1Ideal.main_arg10))
      ∧ r.2.sem = fun _ => 0)

def quiescent_Reference1Ideal_pre_lf_finite [hReference1Ideal : Cert.Reference1Ideal.Facts] [hPre_lf_finite : Cert.Pre_lf_finite.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_lf_finite m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9)
      ∧ r.2.mem ((c.tc : Thread Cert.Reference1Ideal.nD Cert.Reference1Ideal.τ).loc Cert.Reference1Ideal.main_arg10) = m ((c.tc : Thread Cert.Reference1Ideal.nD Cert.Reference1Ideal.τ).loc Cert.Reference1Ideal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel1_Kernel1Ideal : Prop :=
  True

def algebraic_Kernel1Ideal_Reference1Ideal_pre_lf_finite [hKernel1Ideal : Cert.Kernel1Ideal.Facts] [hReference1Ideal : Cert.Reference1Ideal.Facts] [hPre_lf_finite : Cert.Pre_lf_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_lf_finite m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9)
      ∧ m' ((c.tc : Thread Cert.Reference1Ideal.nD Cert.Reference1Ideal.τ).loc Cert.Reference1Ideal.main_arg10) = m ((c.tc : Thread Cert.Kernel1Ideal.nD Cert.Kernel1Ideal.τ).loc Cert.Kernel1Ideal.main_arg10)) →
    ∃ (v0 : (c : Dev Cert.Kernel1Ideal.nD) → Buf (Elt Ideal) ((c.tc : Thread Cert.Kernel1Ideal.nD Cert.Kernel1Ideal.τ).loc Cert.Kernel1Ideal.main_v3_0)) (v1 : (c : Dev Cert.Kernel1Ideal.nD) → Buf (Elt Ideal) ((c.tc : Thread Cert.Kernel1Ideal.nD Cert.Kernel1Ideal.τ).loc Cert.Kernel1Ideal.main_v3_1)) (v2 : (c : Dev Cert.Kernel1Ideal.nD) → Buf (Elt Ideal) ((c.tc : Thread Cert.Kernel1Ideal.nD Cert.Kernel1Ideal.τ).loc Cert.Kernel1Ideal.main_v3_2)) (v3 : (c : Dev Cert.Kernel1Ideal.nD) → Buf (Elt Ideal) ((c.tc : Thread Cert.Kernel1Ideal.nD Cert.Kernel1Ideal.τ).loc Cert.Kernel1Ideal.main_v3_3)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v3_0) = v0 c
          ∧ r.2.mem ((c.tc : Thread Cert.Kernel1Ideal.nD Cert.Kernel1Ideal.τ).loc Cert.Kernel1Ideal.main_v3_1) = v1 c
          ∧ r.2.mem ((c.tc : Thread Cert.Kernel1Ideal.nD Cert.Kernel1Ideal.τ).loc Cert.Kernel1Ideal.main_v3_2) = v2 c
          ∧ r.2.mem ((c.tc : Thread Cert.Kernel1Ideal.nD Cert.Kernel1Ideal.τ).loc Cert.Kernel1Ideal.main_v3_3) = v3 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
          ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9)
          ∧ r.2.mem ((c.tc : Thread Cert.Kernel1Ideal.nD Cert.Kernel1Ideal.τ).loc Cert.Kernel1Ideal.main_arg10) = m ((c.tc : Thread Cert.Kernel1Ideal.nD Cert.Kernel1Ideal.τ).loc Cert.Kernel1Ideal.main_arg10))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v122) = v0 c
          ∧ r.2.mem ((c.tc : Thread Cert.Reference1Ideal.nD Cert.Reference1Ideal.τ).loc Cert.Reference1Ideal.main_v127) = v1 c
          ∧ r.2.mem ((c.tc : Thread Cert.Reference1Ideal.nD Cert.Reference1Ideal.τ).loc Cert.Reference1Ideal.main_v91) = v2 c
          ∧ r.2.mem ((c.tc : Thread Cert.Reference1Ideal.nD Cert.Reference1Ideal.τ).loc Cert.Reference1Ideal.main_v129) = v3 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9)
          ∧ r.2.mem ((c.tc : Thread Cert.Reference1Ideal.nD Cert.Reference1Ideal.τ).loc Cert.Reference1Ideal.main_arg10) = m' ((c.tc : Thread Cert.Reference1Ideal.nD Cert.Reference1Ideal.τ).loc Cert.Reference1Ideal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v14) = v3 c
          ∧ r.2.mem ((c.tc : Thread Cert.Reference4Ideal.nD Cert.Reference4Ideal.τ).loc Cert.Reference4Ideal.main_v18) = v4 c
          ∧ r.2.mem ((c.tc : Thread Cert.Reference4Ideal.nD Cert.Reference4Ideal.τ).loc Cert.Reference4Ideal.main_v22) = v5 c
          ∧ r.2.mem ((c.tc : Thread Cert.Reference4Ideal.nD Cert.Reference4Ideal.τ).loc Cert.Reference4Ideal.main_v26) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_lf_finite : Cert.Pre_lf_finite.Facts),
    quiescent_Kernel1 (hKernel1 := hKernel1)
    ∧ quiescent_Kernel1Ideal (hKernel1Ideal := hKernel1Ideal)
    ∧ quiescent_Kernel1Ideal_pre_lf_finite (hKernel1Ideal := hKernel1Ideal) (hPre_lf_finite := hPre_lf_finite)
    ∧ quiescent_Reference1Ideal (hReference1Ideal := hReference1Ideal)
    ∧ quiescent_Reference1Ideal_pre_lf_finite (hReference1Ideal := hReference1Ideal) (hPre_lf_finite := hPre_lf_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel1_Kernel1Ideal
    ∧ algebraic_Kernel1Ideal_Reference1Ideal_pre_lf_finite (hKernel1Ideal := hKernel1Ideal) (hReference1Ideal := hReference1Ideal) (hPre_lf_finite := hPre_lf_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_lf_finite.lean ====
abbrev S8704x1024 : Shape := ⟨2, ![8704, 1024]⟩
abbrev S8704x128 : Shape := ⟨2, ![8704, 128]⟩
abbrev S1024 : Shape := ⟨1, ![1024]⟩
abbrev S2x128x8x128x128 : Shape := ⟨5, ![2, 128, 8, 128, 128]⟩
abbrev S128x8x128 : Shape := ⟨3, ![128, 8, 128]⟩
abbrev S128x8 : Shape := ⟨2, ![128, 8]⟩
abbrev S_ : Shape := ⟨0, ![]⟩

class Facts : Prop where
  bcast_S_S8704x128 : S_.BroadcastsInDim S8704x128 (![] : Fin 0 → Fin S8704x128.rank)
  reducesTo_S8704x128_S_d0_1 : S8704x128.ReducesTo [0, 1] S_
  h_S_ : 0 < S_.numel

variable [Facts]

def fn {F : FTy → Type} [FloatOps F] (main_arg0 : FVec F S8704x1024 .bf16) (main_arg1 : FVec F S8704x1024 .bf16) (main_arg2 : FVec F S8704x1024 .bf16) (main_arg3 : FVec F S8704x1024 .f32) (main_arg4 : FVec F S8704x128 .f32) (main_arg5 : FVec F S8704x128 .f32) (main_arg6 : FVec F S1024 .f32) (main_arg7 : FVec F S2x128x8x128x128 .f32) (main_arg8 : FVec F S128x8x128 .f32) (main_arg9 : FVec F S128x8 .f32) (main_arg10 : FVec F S2x128x8x128x128 .f32) : IVec S_ 1 :=
  let main_v0 : FVec F S8704x128 .f32 := Host.absf main_arg5
  let main_cst : FVec F S_ .f32 := constant S_ .f32 0x7F800000#32
  let main_v1 : FVec F S8704x128 .f32 := broadcastInDim S8704x128 ![] bcast_S_S8704x128 main_cst
  let main_v2 : IVec S8704x128 1 := cmpf .olt main_v0 main_v1
  let main_c : IVec S_ 1 := constantI S_ 1 1#1
  let main_v3 : IVec S_ 1 := (fun x v => Host.reduce IntOp.andi x v reducesTo_S8704x128_S_d0_1 h_S_) main_v2 main_c
  main_v3
-- ==== Kernel1.lean ====
abbrev S8704x1024 : Shape := ⟨2, ![8704, 1024]⟩
abbrev S8704x128 : Shape := ⟨2, ![8704, 128]⟩
abbrev S1024 : Shape := ⟨1, ![1024]⟩
abbrev S2x128x8x128x128 : Shape := ⟨5, ![2, 128, 8, 128, 128]⟩
abbrev S128x8x128 : Shape := ⟨3, ![128, 8, 128]⟩
abbrev S128x8 : Shape := ⟨2, ![128, 8]⟩
abbrev S128x8x1 : Shape := ⟨3, ![128, 8, 1]⟩
abbrev S1x1024 : Shape := ⟨2, ![1, 1024]⟩
abbrev S512x1024 : Shape := ⟨2, ![512, 1024]⟩
abbrev S16x1024 : Shape := ⟨2, ![16, 1024]⟩
abbrev S16x128 : Shape := ⟨2, ![16, 128]⟩
abbrev S1x4x8x128x128 : Shape := ⟨5, ![1, 4, 8, 128, 128]⟩
abbrev S4x8x128 : Shape := ⟨3, ![4, 8, 128]⟩
abbrev S4x128 : Shape := ⟨2, ![4, 128]⟩
abbrev S1x128 : Shape := ⟨2, ![1, 128]⟩
abbrev S4x1 : Shape := ⟨2, ![4, 1]⟩
abbrev S1x1x1x128x128 : Shape := ⟨5, ![1, 1, 1, 128, 128]⟩
abbrev S128x128 : Shape := ⟨2, ![128, 128]⟩
abbrev S1x1x128 : Shape := ⟨3, ![1, 1, 128]⟩
abbrev S4 : Shape := ⟨1, ![4]⟩
abbrev S128 : Shape := ⟨1, ![128]⟩

abbrev nBuf : Space → Nat
  | .hbm => 18
  | .vmem => 27
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x1024, .f32⟩
  | .hbm, ⟨4, _⟩ => ⟨S8704x128, .f32⟩
  | .hbm, ⟨5, _⟩ => ⟨S8704x128, .f32⟩
  | .hbm, ⟨6, _⟩ => ⟨S1024, .f32⟩
  | .hbm, ⟨7, _⟩ => ⟨S2x128x8x128x128, .f32⟩
  | .hbm, ⟨8, _⟩ => ⟨S128x8x128, .f32⟩
  | .hbm, ⟨9, _⟩ => ⟨S128x8, .f32⟩
  | .hbm, ⟨10, _⟩ => ⟨S2x128x8x128x128, .f32⟩
  | .hbm, ⟨11, _⟩ => ⟨S128x8x1, .f32⟩
  | .hbm, ⟨12, _⟩ => ⟨S128x8x128, .f32⟩
  | .hbm, ⟨13, _⟩ => ⟨S1x1024, .f32⟩
  | .hbm, ⟨14, _⟩ => ⟨S512x1024, .f32⟩
  | .hbm, ⟨15, _⟩ => ⟨S2x128x8x128x128, .f32⟩
  | .hbm, ⟨16, _⟩ => ⟨S128x8x128, .f32⟩
  | .hbm, ⟨17, _⟩ => ⟨S128x8x128, .f32⟩
  | .local _ .vmem, ⟨0, _⟩ => ⟨S16x1024, .bf16⟩
  | .local _ .vmem, ⟨1, _⟩ => ⟨S16x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .f32⟩
  | .local _ .vmem, ⟨7, _⟩ => ⟨S16x1024, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S1x1024, .f32⟩
  | .local _ .vmem, ⟨13, _⟩ => ⟨S1x4x8x128x128, .f32⟩
  | .local _ .vmem, ⟨14, _⟩ => ⟨S1x4x8x128x128, .f32⟩
  | .local _ .vmem, ⟨15, _⟩ => ⟨S4x8x128, .f32⟩
  | .local _ .vmem, ⟨16, _⟩ => ⟨S4x8x128, .f32⟩
  | .local _ .vmem, ⟨17, _⟩ => ⟨S4x8x128, .f32⟩
  | .local _ .vmem, ⟨18, _⟩ => ⟨S4x8x128, .f32⟩
  | .local _ .vmem, ⟨19, _⟩ => ⟨S16x1024, .f32⟩
  | .local _ .vmem, ⟨20, _⟩ => ⟨S16x1024, .f32⟩
  | .local _ .vmem, ⟨21, _⟩ => ⟨S1x4x8x128x128, .f32⟩
  | .local _ .vmem, ⟨22, _⟩ => ⟨S1x4x8x128x128, .f32⟩
  | .local _ .vmem, ⟨23, _⟩ => ⟨S4x8x128, .f32⟩
  | .local _ .vmem, ⟨24, _⟩ => ⟨S4x8x128, .f32⟩
  | .local _ .vmem, ⟨25, _⟩ => ⟨S4x8x128, .f32⟩
  | .local _ .vmem, ⟨26, _⟩ => ⟨S4x8x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference1Ideal.lean ====
abbrev S8704x1024 : Shape := ⟨2, ![8704, 1024]⟩
abbrev S8704x128 : Shape := ⟨2, ![8704, 128]⟩
abbrev S1024 : Shape := ⟨1, ![1024]⟩
abbrev S2x128x8x128x128 : Shape := ⟨5, ![2, 128, 8, 128, 128]⟩
abbrev S128x8x128 : Shape := ⟨3, ![128, 8, 128]⟩
abbrev S128x8 : Shape := ⟨2, ![128, 8]⟩
abbrev S512x1024 : Shape := ⟨2, ![512, 1024]⟩
abbrev S128x4x8x128 : Shape := ⟨4, ![128, 4, 8, 128]⟩
abbrev S512x8 : Shape := ⟨2, ![512, 8]⟩
abbrev S128x4x8 : Shape := ⟨3, ![128, 4, 8]⟩
abbrev S1x128x8x128x128 : Shape := ⟨5, ![1, 128, 8, 128, 128]⟩
abbrev S128x8x128x128 : Shape := ⟨4, ![128, 8, 128, 128]⟩
abbrev S128x8x4x128 : Shape := ⟨4, ![128, 8, 4, 128]⟩
abbrev S128x8x4 : Shape := ⟨3, ![128, 8, 4]⟩
abbrev S_ : Shape := ⟨0, ![]⟩
abbrev S4x4 : Shape := ⟨2, ![4, 4]⟩
abbrev S128x8x4x1 : Shape := ⟨4, ![128, 8, 4, 1]⟩
abbrev S128x8x1x4 : Shape := ⟨4, ![128, 8, 1, 4]⟩
abbrev S128x8x4x4 : Shape := ⟨4, ![128, 8, 4, 4]⟩
abbrev S128x8x1 : Shape := ⟨3, ![128, 8, 1]⟩
abbrev S128x8x1x1 : Shape := ⟨4, ![128, 8, 1, 1]⟩
abbrev S128x4x8x1 : Shape := ⟨4, ![128, 4, 8, 1]⟩
abbrev S8x128 : Shape := ⟨2, ![8, 128]⟩
abbrev S1x1x8x128 : Shape := ⟨4, ![1, 1, 8, 128]⟩

abbrev nBuf : Space → Nat
  | .hbm => 165
  | .vmem => 0
  | .smem => 0
  | _ => 0

abbrev hbmTy0_0 (i : Nat) : BufTy := match i % 128 with
  | 0 => ⟨S8704x1024, .bf16⟩
  | 1 => ⟨S8704x1024, .bf16⟩
  | 2 => ⟨S8704x1024, .bf16⟩
  | 3 => ⟨S8704x1024, .f32⟩
  | 4 => ⟨S8704x128, .f32⟩
  | 5 => ⟨S8704x128, .f32⟩
  | 6 => ⟨S1024, .f32⟩
  | 7 => ⟨S2x128x8x128x128, .f32⟩
  | 8 => ⟨S128x8x128, .f32⟩
  | 9 => ⟨S128x8, .f32⟩
  | 10 => ⟨S2x128x8x128x128, .f32⟩
  | 11 => ⟨S512x1024, .bf16⟩
  | 12 => ⟨S512x1024, .f32⟩
  | 13 => ⟨S128x4x8x128, .f32⟩
  | 14 => ⟨S512x1024, .bf16⟩
  | 15 => ⟨S512x1024, .f32⟩
  | 16 => ⟨S128x4x8x128, .f32⟩
  | 17 => ⟨S512x1024, .bf16⟩
  | 18 => ⟨S512x1024, .f32⟩
  | 19 => ⟨S128x4x8x128, .f32⟩
  | 20 => ⟨S512x1024, .f32⟩
  | 21 => ⟨S128x4x8x128, .f32⟩
  | 22 => ⟨S512x8, .f32⟩
  | 23 => ⟨S128x4x8, .f32⟩
  | 24 => ⟨S512x8, .f32⟩
  | 25 => ⟨S128x4x8, .f32⟩
  | 26 => ⟨S1x128x8x128x128, .f32⟩
  | 27 => ⟨S128x8x128x128, .f32⟩
  | 28 => ⟨S128x8x4x128, .f32⟩
  | 29 => ⟨S128x8x4x128, .f32⟩
  | 30 => ⟨S128x8x4x128, .f32⟩
  | 31 => ⟨S128x8x4, .f32⟩
  | 32 => ⟨S128x8x4, .f32⟩
  | 33 => ⟨S_, .f32⟩
  | 34 => ⟨S_, .f32⟩
  | 35 => ⟨S128x8x4, .f32⟩
  | 36 => ⟨S_, .i1⟩
  | 37 => ⟨S4x4, .i1⟩
  | 38 => ⟨S4x4, .i32⟩
  | 39 => ⟨S_, .i32⟩
  | 40 => ⟨S4x4, .i32⟩
  | 41 => ⟨S4x4, .i32⟩
  | 42 => ⟨S4x4, .i32⟩
  | 43 => ⟨S4x4, .i1⟩
  | 44 => ⟨S_, .i1⟩
  | 45 => ⟨S4x4, .i1⟩
  | 46 => ⟨S4x4, .i1⟩
  | 47 => ⟨S128x8x4x1, .f32⟩
  | 48 => ⟨S128x8x1x4, .f32⟩
  | 49 => ⟨S128x8x4x4, .f32⟩
  | 50 => ⟨S128x8x4x4, .f32⟩
  | 51 => ⟨S128x8x4x4, .f32⟩
  | 52 => ⟨S128x8x1x4, .f32⟩
  | 53 => ⟨S128x8x4x4, .f32⟩
  | 54 => ⟨S128x8x4x4, .f32⟩
  | 55 => ⟨S_, .f32⟩
  | 56 => ⟨S_, .f32⟩
  | 57 => ⟨S128x8x4x4, .i1⟩
  | 58 => ⟨S128x8x4x4, .f32⟩
  | 59 => ⟨S128x8x4x4, .f32⟩
  | 60 => ⟨S128x8x1, .f32⟩
  | 61 => ⟨S128x8x4, .f32⟩
  | 62 => ⟨S128x8x4, .f32⟩
  | 63 => ⟨S_, .f32⟩
  | 64 => ⟨S128x8x4, .f32⟩
  | 65 => ⟨S128x8x4, .f32⟩
  | 66 => ⟨S128x8x4, .f32⟩
  | 67 => ⟨S128x8x4, .f32⟩
  | 68 => ⟨S128x8x4x4, .f32⟩
  | 69 => ⟨S128x8x4x1, .f32⟩
  | 70 => ⟨S128x8x4x4, .f32⟩
  | 71 => ⟨S128x8x4x4, .f32⟩
  | 72 => ⟨S128x8x4x4, .f32⟩
  | 73 => ⟨S128x8x4x4, .f32⟩
  | 74 => ⟨S128x8x4x128, .f32⟩
  | 75 => ⟨S128x8x4x1, .f32⟩
  | 76 => ⟨S128x8x4x128, .f32⟩
  | 77 => ⟨S128x8x4x128, .f32⟩
  | 78 => ⟨S128x8x4x128, .f32⟩
  | 79 => ⟨S128x8x4x128, .f32⟩
  | 80 => ⟨S_, .f32⟩
  | 81 => ⟨S128x8x4, .f32⟩
  | 82 => ⟨S128x8x4, .f32⟩
  | 83 => ⟨S128x8x4, .f32⟩
  | 84 => ⟨S128x8x4, .f32⟩
  | 85 => ⟨S128x8x4, .f32⟩
  | 86 => ⟨S128x8x4, .f32⟩
  | 87 => ⟨S128x8x4, .f32⟩
  | 88 => ⟨S128x8x4, .f32⟩
  | 89 => ⟨S128x8x4x1, .f32⟩
  | 90 => ⟨S128x8x4x128, .f32⟩
  | 91 => ⟨S128x8x4x128, .f32⟩
  | 92 => ⟨S128x8x1, .f32⟩
  | 93 => ⟨S128x8, .f32⟩
  | 94 => ⟨S128x8x1, .f32⟩
  | 95 => ⟨S128x8x4, .f32⟩
  | 96 => ⟨S128x8x4, .f32⟩
  | 97 => ⟨S128x8x4, .f32⟩
  | 98 => ⟨S128x8x1, .f32⟩
  | 99 => ⟨S128x8x4, .f32⟩
  | 100 => ⟨S128x8x4, .f32⟩
  | 101 => ⟨S128x8x4, .f32⟩
  | 102 => ⟨S128x8x1, .f32⟩
  | 103 => ⟨S128x8, .f32⟩
  | 104 => ⟨S128x8, .f32⟩
  | 105 => ⟨S128x8, .f32⟩
  | 106 => ⟨S128x8, .f32⟩
  | 107 => ⟨S128x8x1x1, .f32⟩
  | 108 => ⟨S128x8x128x128, .f32⟩
  | 109 => ⟨S128x8x128x128, .f32⟩
  | 110 => ⟨S128x8x4x1, .f32⟩
  | 111 => ⟨S128x8x4x128, .f32⟩
  | 112 => ⟨S128x8x4x128, .f32⟩
  | 113 => ⟨S128x8x128x128, .f32⟩
  | 114 => ⟨S128x8x128x128, .f32⟩
  | 115 => ⟨S128x8x1, .f32⟩
  | 116 => ⟨S128x8x128, .f32⟩
  | 117 => ⟨S128x8x128, .f32⟩
  | 118 => ⟨S128x8x128, .f32⟩
  | 119 => ⟨S128x8x128, .f32⟩
  | 120 => ⟨S128x4x8x128, .f32⟩
  | 121 => ⟨S_, .f32⟩
  | 122 => ⟨S128x4x8, .f32⟩
  | 123 => ⟨S128x4x8x1, .f32⟩
  | 124 => ⟨S_, .f32⟩
  | 125 => ⟨S128x4x8x1, .f32⟩
  | 126 => ⟨S128x4x8x1, .f32⟩
  | 127 => ⟨S128x4x8x128, .f32⟩
  | _ => ⟨S8704x1024, .bf16⟩

abbrev hbmTy0_1 (i : Nat) : BufTy := match i % 128 with
  | 0 => ⟨S128x4x8x128, .f32⟩
  | 1 => ⟨S128x4x8x128, .f32⟩
  | 2 => ⟨S_, .f32⟩
  | 3 => ⟨S128x4x8, .f32⟩
  | 4 => ⟨S128x4x8x1, .f32⟩
  | 5 => ⟨S_, .f32⟩
  | 6 => ⟨S128x4x8x1, .f32⟩
  | 7 => ⟨S128x4x8x1, .f32⟩
  | 8 => ⟨S128x4x8x128, .f32⟩
  | 9 => ⟨S128x4x8x128, .f32⟩
  | 10 => ⟨S_, .f32⟩
  | 11 => ⟨S128x4x8x1, .f32⟩
  | 12 => ⟨S128x4x8x1, .f32⟩
  | 13 => ⟨S128x4x8x1, .f32⟩
  | 14 => ⟨S128x4x8x128, .f32⟩
  | 15 => ⟨S128x4x8x128, .f32⟩
  | 16 => ⟨S8x128, .f32⟩
  | 17 => ⟨S1x1x8x128, .f32⟩
  | 18 => ⟨S128x4x8x128, .f32⟩
  | 19 => ⟨S128x4x8x128, .f32⟩
  | 20 => ⟨S128x4x8x128, .f32⟩
  | 21 => ⟨S128x4x8x128, .f32⟩
  | 22 => ⟨S_, .f32⟩
  | 23 => ⟨S128x4x8x128, .f32⟩
  | 24 => ⟨S128x4x8x128, .f32⟩
  | 25 => ⟨S_, .f32⟩
  | 26 => ⟨S128x4x8x128, .f32⟩
  | 27 => ⟨S128x4x8x128, .f32⟩
  | 28 => ⟨S128x4x8x128, .f32⟩
  | 29 => ⟨S512x1024, .f32⟩
  | 30 => ⟨S1x128x8x128x128, .f32⟩
  | 31 => ⟨S128x8x128x128, .f32⟩
  | 32 => ⟨S1x128x8x128x128, .f32⟩
  | 33 => ⟨S1x128x8x128x128, .f32⟩
  | 34 => ⟨S2x128x8x128x128, .f32⟩
  | 35 => ⟨S128x8x1, .f32⟩
  | 36 => ⟨S128x8x128, .f32⟩
  | _ => ⟨S8704x1024, .bf16⟩

abbrev hbmTy (i : Nat) : BufTy := match i / 128 with
  | 0 => hbmTy0_0 i
  | 1 => hbmTy0_1 i
  | _ => ⟨S8704x1024, .bf16⟩

abbrev bufTy : (tb : Table) → Fin (tcTables nBuf tb) → BufTy
  | .hbm, ⟨i, _⟩ => hbmTy i
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_call0_cst : Ref sig .tc := ⟨.hbm, 33, rfl⟩
abbrev main_call0_call0_v0 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_0 : Ref sig .tc := ⟨.hbm, 44, rfl⟩
abbrev main_call1_v5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_1 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_2 : Ref sig .tc := ⟨.hbm, 121, rfl⟩
abbrev main_v93 : Ref sig .tc := ⟨.hbm, 122, rfl⟩
abbrev main_v94 : Ref sig .tc := ⟨.hbm, 123, rfl⟩
abbrev main_cst_3 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_4 : Ref sig .tc := ⟨.hbm, 130, rfl⟩
abbrev main_v100 : Ref sig .tc := ⟨.hbm, 131, rfl⟩
abbrev main_v101 : Ref sig .tc := ⟨.hbm, 132, rfl⟩
abbrev main_cst_5 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_6 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_7 : Ref sig .tc := ⟨.hbm, 150, rfl⟩
abbrev main_v117 : Ref sig .tc := ⟨.hbm, 151, rfl⟩
abbrev main_v118 : Ref sig .tc := ⟨.hbm, 152, rfl⟩
abbrev main_cst_8 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩

abbrev nD : Nat := 1
abbrev τ : Topo := Topo.v7x

variable {F : FTy → Type} [FloatOps F]
-- ==== Kernel2.lean ====
abbrev S8704x2048 : Shape := ⟨2, ![8704, 2048]⟩
abbrev S2048x5632 : Shape := ⟨2, ![2048, 5632]⟩
abbrev S8704x5632 : Shape := ⟨2, ![8704, 5632]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S8704x2048, .bf16⟩
  | .hbm, ⟨1, _⟩ => ⟨S2048x5632, .bf16⟩
  | .hbm, ⟨2, _⟩ => ⟨S2048x5632, .bf16⟩
  | .hbm, ⟨3, _⟩ => ⟨S8704x5632, .bf16⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1088x512, .bf16⟩
  | .local _ .vmem, ⟨7, _⟩ => ⟨S1088x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8704x2048 : Shape := ⟨2, ![8704, 2048]⟩
abbrev S2048x5632 : Shape := ⟨2, ![2048, 5632]⟩
abbrev S8704x5632 : Shape := ⟨2, ![8704, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x5632, .bf16⟩
  | .hbm, ⟨2, _⟩ => ⟨S2048x5632, .bf16⟩
  | .hbm, ⟨3, _⟩ => ⟨S8704x2048, .f32⟩
  | .hbm, ⟨4, _⟩ => ⟨S2048x5632, .f32⟩
  | .hbm, ⟨5, _⟩ => ⟨S8704x5632, .f32⟩
  | .hbm, ⟨6, _⟩ => ⟨S2048x5632, .f32⟩
  | .hbm, ⟨7, _⟩ => ⟨S8704x5632, .f32⟩
  | .hbm, ⟨8, _⟩ => ⟨S8704x5632, .f32⟩
  | .hbm, ⟨9, _⟩ => ⟨S8704x5632, .f32⟩
  | .hbm, ⟨10, _⟩ => ⟨S_, .f32⟩
  | .hbm, ⟨11, _⟩ => ⟨S8704x5632, .f32⟩
  | .hbm, ⟨12, _⟩ => ⟨S8704x5632, .f32⟩
  | .hbm, ⟨13, _⟩ => ⟨S_, .f32⟩
  | .hbm, ⟨14, _⟩ => ⟨S8704x5632, .f32⟩
  | .hbm, ⟨15, _⟩ => ⟨S8704x5632, .f32⟩
  | .hbm, ⟨16, _⟩ => ⟨S8704x5632, .f32⟩
  | .hbm, ⟨17, _⟩ => ⟨S8704x5632, .f32⟩
  | .hbm, ⟨18, _⟩ => ⟨S8704x5632, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel3.lean ====
abbrev S8704x5632 : Shape := ⟨2, ![8704, 5632]⟩
abbrev S2x5504x2048 : Shape := ⟨3, ![2, 5504, 2048]⟩
abbrev S8704x2048 : Shape := ⟨2, ![8704, 2048]⟩
abbrev S2048 : Shape := ⟨1, ![2048]⟩
abbrev S1x2048 : Shape := ⟨2, ![1, 2048]⟩
abbrev S544x5632 : Shape := ⟨2, ![544, 5632]⟩
abbrev S1x5504x512 : Shape := ⟨3, ![1, 5504, 512]⟩
abbrev S544x512 : Shape := ⟨2, ![544, 512]⟩
abbrev S544x2048 : Shape := ⟨2, ![544, 2048]⟩
abbrev S4x544x512 : Shape := ⟨3, ![4, 544, 512]⟩
abbrev S544x5504 : Shape := ⟨2, ![544, 5504]⟩
abbrev S5504x512 : Shape := ⟨2, ![5504, 512]⟩
abbrev S1x544x512 : Shape := ⟨3, ![1, 544, 512]⟩
abbrev S544 : Shape := ⟨1, ![544]⟩
abbrev S544x1 : Shape := ⟨2, ![544, 1]⟩
abbrev S1x512 : Shape := ⟨2, ![1, 512]⟩

abbrev nBuf : Space → Nat
  | .hbm => 9
  | .vmem => 13
  | .smem => 0
  | _ => 0

abbrev bufTy : (tb : Table) → Fin (tcTables nBuf tb) → BufTy
  | .hbm, ⟨0, _⟩ => ⟨S8704x5632, .bf16⟩
  | .hbm, ⟨1, _⟩ => ⟨S2x5504x2048, .bf16⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8704x2048, .f32⟩
  | .hbm, ⟨8, _⟩ => ⟨S8704x2048, .bf16⟩
  | .local _ .vmem, ⟨0, _⟩ => ⟨S544x5632, .bf16⟩
  | .local _ .vmem, ⟨1, _⟩ => ⟨S544x5632, .bf16⟩
  | .local _ .vmem, ⟨2, _⟩ => ⟨S1x5504x512, .bf16⟩
  | .local _ .vmem, ⟨3, _⟩ => ⟨S1x5504x512, .bf16⟩
  | .local _ .vmem, ⟨4, _⟩ => ⟨S544x512, .f32⟩
  | .local _ .vmem, ⟨5, _⟩ => ⟨S544x512, .f32⟩
  | .local _ .vmem, ⟨6, _⟩ => ⟨S1x2048, .f32⟩
  | .local _ .vmem, ⟨7, _⟩ => ⟨S1x2048, .f32⟩
  | .local _ .vmem, ⟨8, _⟩ => ⟨S544x2048, .f32⟩
  | .local _ .vmem, ⟨9, _⟩ => ⟨S544x2048, .f32⟩
  | .local _ .vmem, ⟨10, _⟩ => ⟨S544x2048, .bf16⟩
  | .local _ .vmem, ⟨11, _⟩ => ⟨S544x2048, .bf16⟩
  | .local _ .vmem, ⟨12, _⟩ => ⟨S4x544x512, .f32⟩
  | _, _ => ⟨S8704x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg1 : BitVec 32 := BitVec.ofNat 32 (i 1).val
  let v10 : Index := Scalar.indexCast arg1
  let c0_8 : Index := 0#32
  let c0_9 : Index := 0#32
  ![v10.toNat, 0, 0]
def k0_cond1 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32 : BitVec 32 := 0#32
  let v16 : BitVec 1 := Scalar.cmpi .ne v15 c0_i32
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S544x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S544x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S8704x5632 : Shape := ⟨2, ![8704, 5632]⟩
abbrev S2x5504x2048 : Shape := ⟨3, ![2, 5504, 2048]⟩
abbrev S8704x2048 : Shape := ⟨2, ![8704, 2048]⟩
abbrev S2048 : Shape := ⟨1, ![2048]⟩
abbrev S8704x5504 : Shape := ⟨2, ![8704, 5504]⟩
abbrev S1x5504x2048 : Shape := ⟨3, ![1, 5504, 2048]⟩
abbrev S5504x2048 : Shape := ⟨2, ![5504, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8704x5632, .bf16⟩
  | .hbm, ⟨1, _⟩ => ⟨S2x5504x2048, .bf16⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S8704x5504, .bf16⟩
  | .hbm, ⟨6, _⟩ => ⟨S8704x5504, .f32⟩
  | .hbm, ⟨7, _⟩ => ⟨S1x5504x2048, .bf16⟩
  | .hbm, ⟨8, _⟩ => ⟨S5504x2048, .bf16⟩
  | .hbm, ⟨9, _⟩ => ⟨S5504x2048, .f32⟩
  | .hbm, ⟨10, _⟩ => ⟨S8704x2048, .f32⟩
  | .hbm, ⟨11, _⟩ => ⟨S_, .f32⟩
  | .hbm, ⟨12, _⟩ => ⟨S8704x2048, .f32⟩
  | .hbm, ⟨13, _⟩ => ⟨S8704x2048, .f32⟩
  | .hbm, ⟨14, _⟩ => ⟨S_, .f32⟩
  | .hbm, ⟨15, _⟩ => ⟨S8704x2048, .f32⟩
  | .hbm, ⟨16, _⟩ => ⟨S8704x2048, .f32⟩
  | .hbm, ⟨17, _⟩ => ⟨S8704x2048, .f32⟩
  | .hbm, ⟨18, _⟩ => ⟨S_, .f32⟩
  | .hbm, ⟨19, _⟩ => ⟨S8704, .f32⟩
  | .hbm, ⟨20, _⟩ => ⟨S8704x1, .f32⟩
  | .hbm, ⟨21, _⟩ => ⟨S_, .f32⟩
  | .hbm, ⟨22, _⟩ => ⟨S8704x1, .f32⟩
  | .hbm, ⟨23, _⟩ => ⟨S8704x1, .f32⟩
  | .hbm, ⟨24, _⟩ => ⟨S8704x2048, .f32⟩
  | .hbm, ⟨25, _⟩ => ⟨S8704x2048, .f32⟩
  | .hbm, ⟨26, _⟩ => ⟨S8704x2048, .f32⟩
  | .hbm, ⟨27, _⟩ => ⟨S_, .f32⟩
  | .hbm, ⟨28, _⟩ => ⟨S8704, .f32⟩
  | .hbm, ⟨29, _⟩ => ⟨S8704x1, .f32⟩
  | .hbm, ⟨30, _⟩ => ⟨S_, .f32⟩
  | .hbm, ⟨31, _⟩ => ⟨S8704x1, .f32⟩
  | .hbm, ⟨32, _⟩ => ⟨S8704x1, .f32⟩
  | .hbm, ⟨33, _⟩ => ⟨S8704x2048, .f32⟩
  | .hbm, ⟨34, _⟩ => ⟨S8704x2048, .f32⟩
  | .hbm, ⟨35, _⟩ => ⟨S_, .f32⟩
  | .hbm, ⟨36, _⟩ => ⟨S8704x1, .f32⟩
  | .hbm, ⟨37, _⟩ => ⟨S8704x1, .f32⟩
  | .hbm, ⟨38, _⟩ => ⟨S8704x1, .f32⟩
  | .hbm, ⟨39, _⟩ => ⟨S8704x2048, .f32⟩
  | .hbm, ⟨40, _⟩ => ⟨S8704x2048, .f32⟩
  | .hbm, ⟨41, _⟩ => ⟨S1x2048, .f32⟩
  | .hbm, ⟨42, _⟩ => ⟨S8704x2048, .f32⟩
  | .hbm, ⟨43, _⟩ => ⟨S8704x2048, .f32⟩
  | .hbm, ⟨44, _⟩ => ⟨S1x2048, .f32⟩
  | .hbm, ⟨45, _⟩ => ⟨S8704x2048, .f32⟩
  | .hbm, ⟨46, _⟩ => ⟨S8704x2048, .f32⟩
  | .hbm, ⟨47, _⟩ => ⟨S8704x2048, .bf16⟩
  | _, _ => ⟨S8704x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel4.lean ====
abbrev S8704x2048 : Shape := ⟨2, ![8704, 2048]⟩
abbrev S2x2048x3072 : Shape := ⟨3, ![2, 2048, 3072]⟩
abbrev S2x65536x128 : Shape := ⟨3, ![2, 65536, 128]⟩
abbrev S2x4096x128 : Shape := ⟨3, ![2, 4096, 128]⟩
abbrev S8704x1024 : Shape := ⟨2, ![8704, 1024]⟩
abbrev S512x2048 : Shape := ⟨2, ![512, 2048]⟩
abbrev S1x2048x1024 : Shape := ⟨3, ![1, 2048, 1024]⟩
abbrev S512x1024 : Shape := ⟨2, ![512, 1024]⟩
abbrev S1x4096x128 : Shape := ⟨3, ![1, 4096, 128]⟩
abbrev S2048x1024 : Shape := ⟨2, ![2048, 1024]⟩
abbrev S512x128 : Shape := ⟨2, ![512, 128]⟩
abbrev S1x512x128 : Shape := ⟨3, ![1, 512, 128]⟩

abbrev nBuf : Space → Nat
  | .hbm => 13
  | .vmem => 16
  | .smem => 0
  | _ => 0

abbrev bufTy : (tb : Table) → Fin (tcTables nBuf tb) → BufTy
  | .hbm, ⟨0, _⟩ => ⟨S8704x2048, .bf16⟩
  | .hbm, ⟨1, _⟩ => ⟨S2x2048x3072, .bf16⟩
  | .hbm, ⟨2, _⟩ => ⟨S2x65536x128, .f32⟩
  | .hbm, ⟨3, _⟩ => ⟨S2x65536x128, .f32⟩
  | .hbm, ⟨4, _⟩ => ⟨S2x4096x128, .f32⟩
  | .hbm, ⟨5, _⟩ => ⟨S2x4096x128, .f32⟩
  | .hbm, ⟨6, _⟩ => ⟨S8704x1024, .bf16⟩
  | .hbm, ⟨7, _⟩ => ⟨S8704x1024, .bf16⟩
  | .hbm, ⟨8, _⟩ => ⟨S8704x1024, .bf16⟩
  | .hbm, ⟨9, _⟩ => ⟨S2x65536x128, .f32⟩
  | .hbm, ⟨10, _⟩ => ⟨S2x65536x128, .f32⟩
  | .hbm, ⟨11, _⟩ => ⟨S2x4096x128, .f32⟩
  | .hbm, ⟨12, _⟩ => ⟨S2x4096x128, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S1x4096x128, .f32⟩
  | .local _ .vmem, ⟨15, _⟩ => ⟨S1x4096x128, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15

abbrev nD : Nat := 1
abbrev τ : Topo := Topo.v7x

variable {F : FTy → Type} [FloatOps F]

abbrev grid0 : Pipeline.Grid := ⟨2, ![17, 3], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c1_i32_7 : BitVec 32 := 1#32
  let v13 : BitVec 1 := Scalar.cmpi .eq arg1 c1_i32_7
  let arg0 : BitVec 32 := BitVec.ofNat 32 (i 0).val
  let c16_i32 : BitVec 32 := 16#32
  let v14 : BitVec 1 := Scalar.cmpi .slt arg0 c16_i32
  let v15 : BitVec 1 := Scalar.andi v13 v14
  let v16 : BitVec 32 := Scalar.extui v15
  let c0_i32_8 : BitVec 32 := 0#32
  let v17 : BitVec 1 := Scalar.cmpi .ne v16 c0_i32_8
  v17

def k0_cond6 (i : grid0.Coords) : BitVec 1 :=
  let arg1 : BitVec 32 := BitVec.ofNat 32 (i 1).val
  let c2_i32_12 : BitVec 32 := 2#32
  let v23 : BitVec 1 := Scalar.cmpi .eq arg1 c2_i32_12
  let arg0 : BitVec 32 := BitVec.ofNat 32 (i 0).val
  let c16_i32_13 : BitVec 32 := 16#32
  let v24 : BitVec 1 := Scalar.cmpi .slt arg0 c16_i32_13
  let v25 : BitVec 1 := Scalar.andi v23 v24
  let v26 : BitVec 32 := Scalar.extui v25
  let c0_i32_14 : BitVec 32 := 0#32
  let v27 : BitVec 1 := Scalar.cmpi .ne v26 c0_i32_14
  v27

def k0_cond5 (i : grid0.Coords) : BitVec 1 :=
  let arg1 : BitVec 32 := BitVec.ofNat 32 (i 1).val
  let c1_i32_9 : BitVec 32 := 1#32
  let v18 : BitVec 1 := Scalar.cmpi .eq arg1 c1_i32_9
  let arg0 : BitVec 32 := BitVec.ofNat 32 (i 0).val
  let c16_i32_10 : BitVec 32 := 16#32
  let v19 : BitVec 1 := Scalar.cmpi .eq arg0 c16_i32_10
  let v20 : BitVec 1 := Scalar.andi v18 v19
  let v21 : BitVec 32 := Scalar.extui v20
  let c0_i32_11 : BitVec 32 := 0#32
  let v22 : BitVec 1 := Scalar.cmpi .ne v21 c0_i32_11
  v22

def k0_cond7 (i : grid0.Coords) : BitVec 1 :=
  let arg1 : BitVec 32 := BitVec.ofNat 32 (i 1).val
  let c2_i32_15 : BitVec 32 := 2#32
  let v28 : BitVec 1 := Scalar.cmpi .eq arg1 c2_i32_15
  let arg0 : BitVec 32 := BitVec.ofNat 32 (i 0).val
  let c16_i32_16 : BitVec 32 := 16#32
  let v29 : BitVec 1 := Scalar.cmpi .eq arg0 c16_i32_16
  let v30 : BitVec 1 := Scalar.andi v28 v29
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference4Ideal.lean ====
abbrev S8704x2048 : Shape := ⟨2, ![8704, 2048]⟩
abbrev S2x2048x3072 : Shape := ⟨3, ![2, 2048, 3072]⟩
abbrev S2x65536x128 : Shape := ⟨3, ![2, 65536, 128]⟩
abbrev S2x4096x128 : Shape := ⟨3, ![2, 4096, 128]⟩
abbrev S1x2048x3072 : Shape := ⟨3, ![1, 2048, 3072]⟩
abbrev S2048x3072 : Shape := ⟨2, ![2048, 3072]⟩
abbrev S8704x3072 : Shape := ⟨2, ![8704, 3072]⟩
abbrev S8704x1024 : Shape := ⟨2, ![8704, 1024]⟩
abbrev S1x65536x128 : Shape := ⟨3, ![1, 65536, 128]⟩
abbrev S8192x1024 : Shape := ⟨2, ![8192, 1024]⟩
abbrev S1x4096x128 : Shape := ⟨3, ![1, 4096, 128]⟩
abbrev S512x1024 : Shape := ⟨2, ![512, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x3072, .bf16⟩
  | .hbm, ⟨2, _⟩ => ⟨S2x65536x128, .f32⟩
  | .hbm, ⟨3, _⟩ => ⟨S2x65536x128, .f32⟩
  | .hbm, ⟨4, _⟩ => ⟨S2x4096x128, .f32⟩
  | .hbm, ⟨5, _⟩ => ⟨S2x4096x128, .f32⟩
  | .hbm, ⟨6, _⟩ => ⟨S8704x2048, .f32⟩
  | .hbm, ⟨7, _⟩ => ⟨S1x2048x3072, .bf16⟩
  | .hbm, ⟨8, _⟩ => ⟨S2048x3072, .bf16⟩
  | .hbm, ⟨9, _⟩ => ⟨S2048x3072, .f32⟩
  | .hbm, ⟨10, _⟩ => ⟨S8704x3072, .f32⟩
  | .hbm, ⟨11, _⟩ => ⟨S8704x1024, .f32⟩
  | .hbm, ⟨12, _⟩ => ⟨S8704x1024, .f32⟩
  | .hbm, ⟨13, _⟩ => ⟨S8704x1024, .f32⟩
  | .hbm, ⟨14, _⟩ => ⟨S8704x1024, .bf16⟩
  | .hbm, ⟨15, _⟩ => ⟨S8704x1024, .bf16⟩
  | .hbm, ⟨16, _⟩ => ⟨S8704x1024, .bf16⟩
  | .hbm, ⟨17, _⟩ => ⟨S1x65536x128, .f32⟩
  | .hbm, ⟨18, _⟩ => ⟨S8192x1024, .f32⟩
  | .hbm, ⟨19, _⟩ => ⟨S1x65536x128, .f32⟩
  | .hbm, ⟨20, _⟩ => ⟨S2x65536x128, .f32⟩
  | .hbm, ⟨21, _⟩ => ⟨S1x65536x128, .f32⟩
  | .hbm, ⟨22, _⟩ => ⟨S8192x1024, .f32⟩
  | .hbm, ⟨23, _⟩ => ⟨S1x65536x128, .f32⟩
  | .hbm, ⟨24, _⟩ => ⟨S2x65536x128, .f32⟩
  | .hbm, ⟨25, _⟩ => ⟨S1x4096x128, .f32⟩
  | .hbm, ⟨26, _⟩ => ⟨S512x1024, .f32⟩
  | .hbm, ⟨27, _⟩ => ⟨S1x4096x128, .f32⟩
  | .hbm, ⟨28, _⟩ => ⟨S2x4096x128, .f32⟩
  | .hbm, ⟨29, _⟩ => ⟨S1x4096x128, .f32⟩
  | .hbm, ⟨30, _⟩ => ⟨S512x1024, .f32⟩
  | .hbm, ⟨31, _⟩ => ⟨S1x4096x128, .f32⟩
  | .hbm, ⟨32, _⟩ => ⟨S2x4096x128, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel5.lean ====
abbrev S8704x1024 : Shape := ⟨2, ![8704, 1024]⟩
abbrev S2x2048x2048 : Shape := ⟨3, ![2, 2048, 2048]⟩
abbrev S8704x2048 : Shape := ⟨2, ![8704, 2048]⟩
abbrev S2048 : Shape := ⟨1, ![2048]⟩
abbrev S1x2048 : Shape := ⟨2, ![1, 2048]⟩
abbrev S544x1024 : Shape := ⟨2, ![544, 1024]⟩
abbrev S1x1024x2048 : Shape := ⟨3, ![1, 1024, 2048]⟩
abbrev S544x2048 : Shape := ⟨2, ![544, 2048]⟩
abbrev S1024x2048 : Shape := ⟨2, ![1024, 2048]⟩
abbrev S544 : Shape := ⟨1, ![544]⟩
abbrev S544x1 : Shape := ⟨2, ![544, 1]⟩

abbrev nBuf : Space → Nat
  | .hbm => 10
  | .vmem => 14
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S2x2048x2048, .bf16⟩
  | .hbm, ⟨3, _⟩ => ⟨S8704x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8704x2048, .f32⟩
  | .hbm, ⟨9, _⟩ => ⟨S8704x2048, .bf16⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S544x2048, .f32⟩
  | .local _ .vmem, ⟨7, _⟩ => ⟨S544x2048, .f32⟩
  | .local _ .vmem, ⟨8, _⟩ => ⟨S1x2048, .f32⟩
  | .local _ .vmem, ⟨9, _⟩ => ⟨S1x2048, .f32⟩
  | .local _ .vmem, ⟨10, _⟩ => ⟨S544x2048, .f32⟩
  | .local _ .vmem, ⟨11, _⟩ => ⟨S544x2048, .f32⟩
  | .local _ .vmem, ⟨12, _⟩ => ⟨S544x2048, .bf16⟩
  | .local _ .vmem, ⟨13, _⟩ => ⟨S544x2048, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8704x1024 : Shape := ⟨2, ![8704, 1024]⟩
abbrev S2x2048x2048 : Shape := ⟨3, ![2, 2048, 2048]⟩
abbrev S8704x2048 : Shape := ⟨2, ![8704, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S2x2048x2048, .bf16⟩
  | .hbm, ⟨3, _⟩ => ⟨S8704x2048, .f32⟩
  | .hbm, ⟨4, _⟩ => ⟨S2048, .f32⟩
  | .hbm, ⟨5, _⟩ => ⟨S2048, .f32⟩
  | .hbm, ⟨6, _⟩ => ⟨S8704x2048, .bf16⟩
  | .hbm, ⟨7, _⟩ => ⟨S8704x2048, .f32⟩
  | .hbm, ⟨8, _⟩ => ⟨S1x2048x2048, .bf16⟩
  | .hbm, ⟨9, _⟩ => ⟨S2048x2048, .bf16⟩
  | .hbm, ⟨10, _⟩ => ⟨S2048x2048, .f32⟩
  | .hbm, ⟨11, _⟩ => ⟨S8704x2048, .f32⟩
  | .hbm, ⟨12, _⟩ => ⟨S_, .f32⟩
  | .hbm, ⟨13, _⟩ => ⟨S8704x2048, .f32⟩
  | .hbm, ⟨14, _⟩ => ⟨S8704x2048, .f32⟩
  | .hbm, ⟨15, _⟩ => ⟨S8704x2048, .f32⟩
  | .hbm, ⟨16, _⟩ => ⟨S_, .f32⟩
  | .hbm, ⟨17, _⟩ => ⟨S8704, .f32⟩
  | .hbm, ⟨18, _⟩ => ⟨S8704x1, .f32⟩
  | .hbm, ⟨19, _⟩ => ⟨S_, .f32⟩
  | .hbm, ⟨20, _⟩ => ⟨S8704x1, .f32⟩
  | .hbm, ⟨21, _⟩ => ⟨S8704x1, .f32⟩
  | .hbm, ⟨22, _⟩ => ⟨S8704x2048, .f32⟩
  | .hbm, ⟨23, _⟩ => ⟨S8704x2048, .f32⟩
  | .hbm, ⟨24, _⟩ => ⟨S8704x2048, .f32⟩
  | .hbm, ⟨25, _⟩ => ⟨S_, .f32⟩
  | .hbm, ⟨26, _⟩ => ⟨S8704, .f32⟩
  | .hbm, ⟨27, _⟩ => ⟨S8704x1, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x2048, .f32⟩
  | .hbm, ⟨32, _⟩ => ⟨S8704x2048, .f32⟩
  | .hbm, ⟨33, _⟩ => ⟨S_, .f32⟩
  | .hbm, ⟨34, _⟩ => ⟨S8704x1, .f32⟩
  | .hbm, ⟨35, _⟩ => ⟨S8704x1, .f32⟩
  | .hbm, ⟨36, _⟩ => ⟨S8704x1, .f32⟩
  | .hbm, ⟨37, _⟩ => ⟨S8704x2048, .f32⟩
  | .hbm, ⟨38, _⟩ => ⟨S8704x2048, .f32⟩
  | .hbm, ⟨39, _⟩ => ⟨S1x2048, .f32⟩
  | .hbm, ⟨40, _⟩ => ⟨S8704x2048, .f32⟩
  | .hbm, ⟨41, _⟩ => ⟨S8704x2048, .f32⟩
  | .hbm, ⟨42, _⟩ => ⟨S1x2048, .f32⟩
  | .hbm, ⟨43, _⟩ => ⟨S8704x2048, .f32⟩
  | .hbm, ⟨44, _⟩ => ⟨S8704x2048, .f32⟩
  | .hbm, ⟨45, _⟩ => ⟨S8704x2048, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel6.lean ====
abbrev S8704x2048 : Shape := ⟨2, ![8704, 2048]⟩
abbrev S2x2048x2048 : Shape := ⟨3, ![2, 2048, 2048]⟩
abbrev S2x8704x256 : Shape := ⟨3, ![2, 8704, 256]⟩
abbrev S2x256x2048 : Shape := ⟨3, ![2, 256, 2048]⟩
abbrev S2048 : Shape := ⟨1, ![2048]⟩
abbrev S1x2048 : Shape := ⟨2, ![1, 2048]⟩
abbrev S544x2048 : Shape := ⟨2, ![544, 2048]⟩
abbrev S1x2048x2048 : Shape := ⟨3, ![1, 2048, 2048]⟩
abbrev S1x544x256 : Shape := ⟨3, ![1, 544, 256]⟩
abbrev S1x256x2048 : Shape := ⟨3, ![1, 256, 2048]⟩
abbrev S2048x2048 : Shape := ⟨2, ![2048, 2048]⟩
abbrev S544x256 : Shape := ⟨2, ![544, 256]⟩
abbrev S256x2048 : Shape := ⟨2, ![256, 2048]⟩
abbrev S544 : Shape := ⟨1, ![544]⟩
abbrev S544x1 : Shape := ⟨2, ![544, 1]⟩

abbrev nBuf : Space → Nat
  | .hbm => 11
  | .vmem => 14
  | .smem => 0
  | _ => 0

abbrev bufTy : (tb : Table) → Fin (tcTables nBuf tb) → BufTy
  | .hbm, ⟨0, _⟩ => ⟨S8704x2048, .bf16⟩
  | .hbm, ⟨1, _⟩ => ⟨S2x2048x2048, .bf16⟩
  | .hbm, ⟨2, _⟩ => ⟨S2x8704x256, .f32⟩
  | .hbm, ⟨3, _⟩ => ⟨S2x256x2048, .bf16⟩
  | .hbm, ⟨4, _⟩ => ⟨S8704x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8704x2048, .f32⟩
  | .hbm, ⟨10, _⟩ => ⟨S8704x2048, .bf16⟩
  | .local _ .vmem, ⟨0, _⟩ => ⟨S544x2048, .bf16⟩
  | .local _ .vmem, ⟨1, _⟩ => ⟨S544x2048, .bf16⟩
  | .local _ .vmem, ⟨2, _⟩ => ⟨S1x2048x2048, .bf16⟩
  | .local _ .vmem, ⟨3, _⟩ => ⟨S1x544x256, .f32⟩
  | .local _ .vmem, ⟨4, _⟩ => ⟨S1x544x256, .f32⟩
  | .local _ .vmem, ⟨5, _⟩ => ⟨S1x256x2048, .bf16⟩
  | .local _ .vmem, ⟨6, _⟩ => ⟨S544x2048, .f32⟩
  | .local _ .vmem, ⟨7, _⟩ => ⟨S544x2048, .f32⟩
  | .local _ .vmem, ⟨8, _⟩ => ⟨S1x2048, .f32⟩
  | .local _ .vmem, ⟨9, _⟩ => ⟨S1x2048, .f32⟩
  | .local _ .vmem, ⟨10, _⟩ => ⟨S544x2048, .f32⟩
  | .local _ .vmem, ⟨11, _⟩ => ⟨S544x2048, .f32⟩
  | .local _ .vmem, ⟨12, _⟩ => ⟨S544x2048, .bf16⟩
  | .local _ .vmem, ⟨13, _⟩ => ⟨S544x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8704x2048 : Shape := ⟨2, ![8704, 2048]⟩
abbrev S2x2048x2048 : Shape := ⟨3, ![2, 2048, 2048]⟩
abbrev S2x8704x256 : Shape := ⟨3, ![2, 8704, 256]⟩
abbrev S2x256x2048 : Shape := ⟨3, ![2, 256, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S1x8704x256 : Shape := ⟨3, ![1, 8704, 256]⟩
abbrev S8704x256 : Shape := ⟨2, ![8704, 256]⟩
abbrev S1x256x2048 : Shape := ⟨3, ![1, 256, 2048]⟩
abbrev S256x2048 : Shape := ⟨2, ![256, 2048]⟩
abbrev S8704 : Shape := ⟨1, ![8704]⟩
abbrev S8704x1 : Shape := ⟨2, ![8704, 1]⟩
abbrev S1x2048 : Shape := ⟨2, ![1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x2048, .bf16⟩
  | .hbm, ⟨2, _⟩ => ⟨S2x8704x256, .f32⟩
  | .hbm, ⟨3, _⟩ => ⟨S2x256x2048, .bf16⟩
  | .hbm, ⟨4, _⟩ => ⟨S8704x2048, .f32⟩
  | .hbm, ⟨5, _⟩ => ⟨S2048, .f32⟩
  | .hbm, ⟨6, _⟩ => ⟨S2048, .f32⟩
  | .hbm, ⟨7, _⟩ => ⟨S8704x2048, .f32⟩
  | .hbm, ⟨8, _⟩ => ⟨S1x2048x2048, .bf16⟩
  | .hbm, ⟨9, _⟩ => ⟨S2048x2048, .bf16⟩
  | .hbm, ⟨10, _⟩ => ⟨S2048x2048, .f32⟩
  | .hbm, ⟨11, _⟩ => ⟨S8704x2048, .f32⟩
  | .hbm, ⟨12, _⟩ => ⟨S8704x2048, .f32⟩
  | .hbm, ⟨13, _⟩ => ⟨S8704x2048, .f32⟩
  | .hbm, ⟨14, _⟩ => ⟨S_, .f32⟩
  | .hbm, ⟨15, _⟩ => ⟨S8704x2048, .f32⟩
  | .hbm, ⟨16, _⟩ => ⟨S8704x2048, .f32⟩
  | .hbm, ⟨17, _⟩ => ⟨S_, .f32⟩
  | .hbm, ⟨18, _⟩ => ⟨S8704x2048, .f32⟩
  | .hbm, ⟨19, _⟩ => ⟨S8704x2048, .f32⟩
  | .hbm, ⟨20, _⟩ => ⟨S1x8704x256, .f32⟩
  | .hbm, ⟨21, _⟩ => ⟨S8704x256, .f32⟩
  | .hbm, ⟨22, _⟩ => ⟨S8704x256, .bf16⟩
  | .hbm, ⟨23, _⟩ => ⟨S8704x256, .f32⟩
  | .hbm, ⟨24, _⟩ => ⟨S1x256x2048, .bf16⟩
  | .hbm, ⟨25, _⟩ => ⟨S256x2048, .bf16⟩
  | .hbm, ⟨26, _⟩ => ⟨S256x2048, .f32⟩
  | .hbm, ⟨27, _⟩ => ⟨S8704x2048, .f32⟩
  | .hbm, ⟨28, _⟩ => ⟨S8704x2048, .f32⟩
  | .hbm, ⟨29, _⟩ => ⟨S_, .f32⟩
  | .hbm, ⟨30, _⟩ => ⟨S8704x2048, .f32⟩
  | .hbm, ⟨31, _⟩ => ⟨S8704x2048, .f32⟩
  | .hbm, ⟨32, _⟩ => ⟨S8704x2048, .f32⟩
  | .hbm, ⟨33, _⟩ => ⟨S_, .f32⟩
  | .hbm, ⟨34, _⟩ => ⟨S8704, .f32⟩
  | .hbm, ⟨35, _⟩ => ⟨S8704x1, .f32⟩
  | .hbm, ⟨36, _⟩ => ⟨S_, .f32⟩
  | .hbm, ⟨37, _⟩ => ⟨S8704x1, .f32⟩
  | .hbm, ⟨38, _⟩ => ⟨S8704x1, .f32⟩
  | .hbm, ⟨39, _⟩ => ⟨S8704x2048, .f32⟩
  | .hbm, ⟨40, _⟩ => ⟨S8704x2048, .f32⟩
  | .hbm, ⟨41, _⟩ => ⟨S8704x2048, .f32⟩
  | .hbm, ⟨42, _⟩ => ⟨S_, .f32⟩
  | .hbm, ⟨43, _⟩ => ⟨S8704, .f32⟩
  | .hbm, ⟨44, _⟩ => ⟨S8704x1, .f32⟩
  | .hbm, ⟨45, _⟩ => ⟨S_, .f32⟩
  | .hbm, ⟨46, _⟩ => ⟨S8704x1, .f32⟩
  | .hbm, ⟨47, _⟩ => ⟨S8704x1, .f32⟩
  | .hbm, ⟨48, _⟩ => ⟨S8704x2048, .f32⟩
  | .hbm, ⟨49, _⟩ => ⟨S8704x2048, .f32⟩
  | .hbm, ⟨50, _⟩ => ⟨S_, .f32⟩
  | .hbm, ⟨51, _⟩ => ⟨S8704x1, .f32⟩
  | .hbm, ⟨52, _⟩ => ⟨S8704x1, .f32⟩
  | .hbm, ⟨53, _⟩ => ⟨S8704x1, .f32⟩
  | .hbm, ⟨54, _⟩ => ⟨S8704x2048, .f32⟩
  | .hbm, ⟨55, _⟩ => ⟨S8704x2048, .f32⟩
  | .hbm, ⟨56, _⟩ => ⟨S1x2048, .f32⟩
  | .hbm, ⟨57, _⟩ => ⟨S8704x2048, .f32⟩
  | .hbm, ⟨58, _⟩ => ⟨S8704x2048, .f32⟩
  | .hbm, ⟨59, _⟩ => ⟨S1x2048, .f32⟩
  | .hbm, ⟨60, _⟩ => ⟨S8704x2048, .f32⟩
  | .hbm, ⟨61, _⟩ => ⟨S8704x2048, .f32⟩
  | .hbm, ⟨62, _⟩ => ⟨S8704x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proof.MlstmCopy.lean ====
module

public import proofs.«01_k».proof.Defs
public import proofs.«01_k».proof.Proof.Gen.Kernel1Ideal.Value
public import Idealize.ShloMosaic.Lib.Pipeline.ValueKit

@[expose] public section

set_option maxRecDepth 65536

noncomputable section

namespace Cert.Mlstm

open Cert.Kernel1Ideal Cert.Kernel1Ideal.Gen Cert.Kernel1Ideal.Facts Idealize.ShloMosaic Idealize.ShloMosaic.TcCoe Idealize.SL.Sem

variable {F : FTy → Type} [FloatOps F]

/-! ## One head of one batch element, as the body computes it -/

theorem row_ok : ∀ s : Fin 4, S4x128.Slices ![s.val, 0] S1x128 := by decide
theorem cut_ok : ∀ (b : Fin 4) (h : Fin 8), S16x1024.Slices ![4 * b.val, 128 * h.val] S4x128 := by decide
theorem col_ok : ∀ (b : Fin 4) (h : Fin 8), S16x128.Slices ![4 * b.val, h.val] S4x1 := by decide
theorem head_ok : ∀ h : Fin 8, S16x1024.Slices ![0, 128 * h.val] S16x128 := by decide
theorem gain_ok : ∀ h : Fin 8, S1x1024.Slices ![0, 128 * h.val] S1x128 := by decide
theorem rows_ok : ∀ b : Fin 4, S16x128.Slices ![4 * b.val, 0] S4x128 := by decide

/-- The four token rows of batch element `b`, at the columns of head `h`. -/
def cut {α : Type} (b : Fin 4) (h : Fin 8) (x : S16x1024.Idx → α) : S4x128.Idx → α := extractStridedSlice S4x128 ![4 * b.val, 128 * h.val] x (cut_ok b h)
/-- All token rows, at the columns of head `h`. -/
def headCols {α : Type} (h : Fin 8) (x : S16x1024.Idx → α) : S16x128.Idx → α := extractStridedSlice S16x128 ![0, 128 * h.val] x (head_ok h)
/-- A gate's four values of batch element `b` and head `h`, along the lanes. -/
def gate {α : Type} (b : Fin 4) (h : Fin 8) (x : S16x128.Idx → α) : S4x128.Idx → α :=
  broadcastTo S4x128 (shapeCast S4x1 (extractStridedSlice S4x1 ![4 * b.val, h.val] x (col_ok b h)) shapeCasts_S4x1_S4x1) broadcasts_S4x1_S4x128
/-- One row of four. -/
def row {α : Type} (s : Fin 4) (x : S4x128.Idx → α) : S1x128.Idx → α := extractStridedSlice S1x128 ![s.val, 0] x (row_ok s)
/-- A row, four times. -/
def down {α : Type} (x : S1x128.Idx → α) : S4x128.Idx → α := broadcastTo S4x128 x broadcasts_S1x128_S4x128
/-- A row, four times (its shape restated first). -/
def down' {α : Type} (x : S1x128.Idx → α) : S4x128.Idx → α := broadcastTo S4x128 (shapeCast S1x128 x shapeCasts_S1x128_S1x128) broadcasts_S1x128_S4x128
/-- The float zero along a block. -/
def zero4 : FVec F S4x128 .f32 := broadcast S4x128 (Scalar.ofBits .f32 0x00000000#32)
/-- Minus infinity along a block. -/
def bot4 : FVec F S4x128 .f32 := broadcast S4x128 (Scalar.ofBits .f32 0xFF800000#32)
/-- Which rows are at or after row `s`. -/
def since (s : Fin 4) : IVec S4x128 1 := cmpi .sge (iota .tc S4x128 32 [0] iota_S4x128_d0_w32) (broadcast S4x128 (BitVec.ofNat 32 s.val))
/-- Each row's sum over the lanes. -/
def laneSum (x : FVec F S4x128 .f32) : FVec F S4x1 .f32 :=
  shapeCast S4x1 (multiReduction .add [1] S4 x 0x00000000#32 reduces_S4x128_S4 (.inl rfl) rfl) shapeCasts_S4_S4x1
/-- A column along the lanes. -/
def wide {α : Type} (x : S4x1.Idx → α) : S4x128.Idx → α := broadcastTo S4x128 x broadcasts_S4x1_S4x128

/-- The running sum of the forget gates' logarithms. -/
def cumB (lf : FVec F S4x128 .f32) : FVec F S4x128 .f32 :=
  addf (addf (addf (addf zero4 (select (since 0) (down' (row 0 lf)) zero4)) (select (since 1) (down' (row 1 lf)) zero4))
    (select (since 2) (down' (row 2 lf)) zero4)) (select (since 3) (down' (row 3 lf)) zero4)

/-- The running maximum. -/
def cumMax (r : FVec F S4x128 .f32) : FVec F S4x128 .f32 :=
  maximumf (maximumf (maximumf (maximumf bot4 (select (since 0) (down' (row 0 r)) bot4)) (select (since 1) (down' (row 1 r)) bot4))
    (select (since 2) (down' (row 2 r)) bot4)) (select (since 3) (down' (row 3 r)) bot4)

/-- Minus the larger of the carried maximum and the running one. -/
def negMax (m : FVec F S1x128 .f32) (cm : FVec F S4x128 .f32) : FVec F S4x128 .f32 := subf zero4 (maximumf (down m) cm)

/-- The weight that the carried state has at each row. -/
def carried (m : FVec F S1x128 .f32) (u : FVec F S4x128 .f32) : FVec F S4x128 .f32 := exp (addf (down m) u)

/-- The weight that token `s` has at each row. -/
def coef (s : Fin 4) (q k r u : FVec F S4x128 .f32) : FVec F S4x128 .f32 :=
  select (since s) (mulf (wide (laneSum (mulf q (down (row s k))))) (exp (addf (down (row s r)) u))) zero4

/-- The products of the queries with the carried matrix, at the rows of batch element `b`. -/
def qC (b : Fin 4) (q16 : FVec F S16x128 .bf16) (C : FVec F S128x128 .f32) : FVec F S4x128 .f32 :=
  extractStridedSlice S4x128 ![4 * b.val, 0]
    (matmul dot_S16x128_S128x128_S16x128_1_1_0_0_n_n none q16 (truncf .bf16 C bitsLt_bf16_f32) (constant S16x128 .f32 0x00000000#32)) (rows_ok b)

/-- The numerator. -/
def num (b : Fin 4) (q16 : FVec F S16x128 .bf16) (C : FVec F S128x128 .f32) (q k v r u wi : FVec F S4x128 .f32) : FVec F S4x128 .f32 :=
  addf (addf (addf (addf (addf zero4 (mulf (coef 0 q k r u) (down (row 0 v)))) (mulf (coef 1 q k r u) (down (row 1 v)))) (mulf (coef 2 q k r u) (down (row 2 v))))
    (mulf (coef 3 q k r u) (down (row 3 v)))) (mulf wi (qC b q16 C))

/-- The denominator. -/
def den (n : FVec F S1x128 .f32) (q k r u wi : FVec F S4x128 .f32) : FVec F S4x128 .f32 :=
  addf (addf (addf (addf (addf zero4 (coef 0 q k r u)) (coef 1 q k r u)) (coef 2 q k r u)) (coef 3 q k r u))
    (mulf wi (wide (laneSum (mulf q (down n)))))

/-- A column divided by the number of lanes. -/
def mean (x : FVec F S4x1 .f32) : FVec F S4x1 .f32 := divf x (broadcast S4x1 (Scalar.ofBits .f32 0x43000000#32))

/-- The head's norm with its gain, times the output gate. -/
def normed (hh : FVec F S4x128 .f32) (g : FVec F S1x128 .f32) (o : FVec F S4x128 .f32) : FVec F S4x128 .f32 :=
  let hc := subf hh (wide (mean (laneSum hh)))
  mulf (mulf (mulf hc (wide (rsqrt (addf (mean (laneSum (mulf hc hc))) (broadcast S4x1 (Scalar.ofBits .f32 0x3727C5AC#32)))))) (down g)) o

/-- The logistic function. -/
def logistic (x : FVec F S16x1024 .f32) : FVec F S16x1024 .f32 :=
  divf (broadcast S16x1024 (Scalar.ofBits .f32 0x3F800000#32)) (addf (broadcast S16x1024 (Scalar.ofBits .f32 0x3F800000#32))
    (exp (subf (broadcast S16x1024 (Scalar.ofBits .f32 0x00000000#32)) x)))

/-- One token's row of the weighted values among the sixteen. -/
def place (b s : Fin 4) (we v : FVec F S4x128 .f32) : FVec F S16x128 .f32 :=
  select (cmpi .eq (iota .tc S16x128 32 [0] iota_S16x128_d0_w32) (broadcast S16x128 (BitVec.ofNat 32 (4 * b.val + s.val))))
    (broadcastTo S16x128 (shapeCast S1x128 (mulf (row s we) (row s v)) shapeCasts_S1x128_S1x128) broadcasts_S1x128_S16x128)
    (broadcast S16x128 (Scalar.ofBits .f32 0x00000000#32))

/-- The weighted values, in sixteen rows of which four are this batch element's. -/
def placed (b : Fin 4) (we v : FVec F S4x128 .f32) : FVec F S16x128 .f32 :=
  addf (addf (addf (addf (broadcast S16x128 (Scalar.ofBits .f32 0x00000000#32)) (place b 0 we v)) (place b 1 we v)) (place b 2 we v)) (place b 3 we v)

/-- The new matrix. -/
def newC (b : Fin 4) (wo : FVec F S1x128 .f32) (C : FVec F S128x128 .f32) (we v : FVec F S4x128 .f32) (k16 : FVec F S16x128 .bf16) : FVec F S128x128 .f32 :=
  addf (mulf (broadcastTo S128x128 wo broadcasts_S1x128_S128x128) C)
    (matmul dot_S16x128_S16x128_S128x128_0_0_1_1_n_n none (truncf .bf16 (placed b we v) bitsLt_bf16_f32) k16 (constant S128x128 .f32 0x00000000#32))

/-- The new normaliser. -/
def newN (wo n : FVec F S1x128 .f32) (we k : FVec F S4x128 .f32) : FVec F S1x128 .f32 :=
  addf (mulf wo n) (shapeCast S1x128 (multiReduction .add [0] S128 (mulf we k) 0x00000000#32 reduces_S4x128_S128 (.inl rfl) rfl) shapeCasts_S128_S1x128)

section Copy

variable (x0 x1 x2 : Vec F S16x1024 .bf16) (x3 : Vec F S16x1024 .f32) (x4 x5 : Vec F S16x128 .f32) (x6 : Vec F S1x1024 .f32)
  (x7 : Vec F S1x4x8x128x128 .f32) (x8 x9 : Vec F S4x8x128 .f32) (b : Fin 4) (h : Fin 8)

theorem c_in : ∀ (b : Fin 4) (h : Fin 8) (a : Fin 5), (![0, b.val, h.val, 0, 0] : Fin 5 → ℕ) a + S1x1x1x128x128.size a ≤ S1x4x8x128x128.size a := by decide
theorem n_in : ∀ (b : Fin 4) (h : Fin 8) (a : Fin 3), (![b.val, h.val, 0] : Fin 3 → ℕ) a + S1x1x128.size a ≤ S4x8x128.size a := by decide
theorem h_in : ∀ (b : Fin 4) (h : Fin 8) (a : Fin 2), (![4 * b.val, 128 * h.val] : Fin 2 → ℕ) a + S4x128.size a ≤ S16x1024.size a := by decide

/-- The carried matrix of batch element `b` and head `h`. -/
def cIn : FVec F S128x128 .f32 :=
  shapeCast S128x128 (View.ld (Val := Elt F) x7 (Rect.unit (s := S1x4x8x128x128) ![0, b.val, h.val, 0, 0] S1x1x1x128x128.size (c_in b h))) shapeCasts_S1x1x1x128x128_S128x128
/-- The carried normaliser, or the carried maximum along the lanes. -/
def nIn : FVec F S1x128 .f32 :=
  shapeCast S1x128 (View.ld (Val := Elt F) x8 (Rect.unit (s := S4x8x128) ![b.val, h.val, 0] S1x1x128.size (n_in b h))) shapeCasts_S1x1x128_S1x128

def qf : FVec F S4x128 .f32 := cut b h (extf .f32 x0 bitsLt_bf16_f32)
def rr : FVec F S4x128 .f32 := subf (gate b h x4) (cumB (gate b h x5))
def cm : FVec F S4x128 .f32 := cumMax (rr x4 x5 b h)
def uu : FVec F S4x128 .f32 := negMax (nIn x9 b h) (cm x4 x5 b h)
def wi : FVec F S4x128 .f32 := carried (nIn x9 b h) (uu x4 x5 x9 b h)
/-- The larger of the carried maximum and the last running one. -/
def mx : FVec F S1x128 .f32 := maximumf (nIn x9 b h) (row 3 (cm x4 x5 b h))
def wo : FVec F S1x128 .f32 := exp (subf (nIn x9 b h) (mx x4 x5 x9 b h))
def we : FVec F S4x128 .f32 := exp (subf (rr x4 x5 b h) (down (mx x4 x5 x9 b h)))

/-- The output before its norm. -/
def hOut : FVec F S4x128 .f32 :=
  divf (num b (headCols h x0) (cIn x7 b h) (qf x0 b h) (qf x1 b h) (qf x2 b h) (rr x4 x5 b h) (uu x4 x5 x9 b h) (wi x4 x5 x9 b h))
    (maximumf (absf (den (nIn x8 b h) (qf x0 b h) (qf x1 b h) (rr x4 x5 b h) (uu x4 x5 x9 b h) (wi x4 x5 x9 b h)))
      (exp (subf (uu x4 x5 x9 b h) (cumB (gate b h x5)))))

/-- What the body stores of the output. -/
def outH : FVec F S4x128 .f32 :=
  normed (hOut x0 x1 x2 x4 x5 x7 x8 x9 b h) (extractStridedSlice S1x128 ![0, 128 * h.val] (shapeCast S1x1024 x6 shapeCasts_S1x1024_S1x1024) (gain_ok h)) (cut b h (logistic x3))

/-- What the body stores of the matrix. -/
def outC : FVec F S1x1x1x128x128 .f32 :=
  shapeCast S1x1x1x128x128 (newC b (wo x4 x5 x9 b h) (cIn x7 b h) (we x4 x5 x9 b h) (qf x2 b h) (headCols h x1)) shapeCasts_S128x128_S1x1x1x128x128

/-- What the body stores of the normaliser. -/
def outN : FVec F S1x1x128 .f32 := shapeCast S1x1x128 (newN (wo x4 x5 x9 b h) (nIn x8 b h) (we x4 x5 x9 b h) (qf x1 b h)) shapeCasts_S1x128_S1x1x128

/-- What the body stores of the maximum. -/
def outM : FVec F S1x1x128 .f32 := shapeCast S1x1x128 (addf (row 3 (cumB (gate b h x5))) (mx x4 x5 x9 b h)) shapeCasts_S1x128_S1x1x128

end Copy

/-- The batch elements and heads of a block, the last one stored first. -/
def pairs : List (Fin 4 × Fin 8) :=
  [(3, 7), (2, 7), (1, 7), (0, 7), (3, 6), (2, 6), (1, 6), (0, 6), (3, 5), (2, 5), (1, 5), (0, 5), (3, 4), (2, 4), (1, 4), (0, 4), (3, 3), (2, 3), (1, 3), (0, 3), (3, 2), (2, 2), (1, 2), (0, 2), (3, 1), (2, 1), (1, 1), (0, 1), (3, 0), (2, 0), (1, 0), (0, 0)]

section Pieces

variable (x0 x1 x2 : Vec F S16x1024 .bf16) (x3 : Vec F S16x1024 .f32) (x4 x5 : Vec F S16x128 .f32) (x6 : Vec F S1x1024 .f32)
  (x7 : Vec F S1x4x8x128x128 .f32) (x8 x9 : Vec F S4x8x128 .f32)

def piecesH : List (View.Piece (Elt F) S16x1024 .f32) :=
  pairs.map fun p => ⟨Rect.unit (s := S16x1024) ![4 * p.1.val, 128 * p.2.val] S4x128.size (h_in p.1 p.2), outH x0 x1 x2 x3 x4 x5 x6 x7 x8 x9 p.1 p.2⟩
def piecesC : List (View.Piece (Elt F) S1x4x8x128x128 .f32) :=
  pairs.map fun p => ⟨Rect.unit (s := S1x4x8x128x128) ![0, p.1.val, p.2.val, 0, 0] S1x1x1x128x128.size (c_in p.1 p.2), outC x1 x2 x4 x5 x7 x9 p.1 p.2⟩
def piecesN : List (View.Piece (Elt F) S4x8x128 .f32) :=
  pairs.map fun p => ⟨Rect.unit (s := S4x8x128) ![p.1.val, p.2.val, 0] S1x1x128.size (n_in p.1 p.2), outN x1 x4 x5 x8 x9 p.1 p.2⟩
def piecesM : List (View.Piece (Elt F) S4x8x128 .f32) :=
  pairs.map fun p => ⟨Rect.unit (s := S4x8x128) ![p.1.val, p.2.val, 0] S1x1x128.size (n_in p.1 p.2), outM x4 x5 x9 p.1 p.2⟩

end Pieces

end Cert.Mlstm

end
-- ==== Proof.MlstmPieces.lean ====
module

public import proofs.«01_k».proof.Proof.MlstmCopy

@[expose] public section

set_option maxRecDepth 65536

noncomputable section

namespace Cert.Mlstm

open Cert.Kernel1Ideal Cert.Kernel1Ideal.Gen Cert.Kernel1Ideal.Facts Idealize.ShloMosaic Idealize.ShloMosaic.TcCoe Idealize.ShloMosaic.Tactic Idealize.SL.Sem

variable {F : FTy → Type} [FloatOps F]

/-- What the body's stores leave of the output: one piece for each batch element and head of the block. -/
theorem runH (c : Dev nD) (i : grid0.Coords) (arg1 : Memref sig .tc .vmem S16x1024 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S16x1024 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S1x1024 .f32) (harg7 : arg7.IsWhole) (arg8 : Memref sig .tc .vmem S1x4x8x128x128 .f32) (harg8 : arg8.IsWhole) (arg9 : Memref sig .tc .vmem S4x8x128 .f32) (harg9 : arg9.IsWhole) (arg10 : Memref sig .tc .vmem S4x8x128 .f32) (harg10 : arg10.IsWhole) (arg12 : Memref sig .tc .vmem S16x1024 .f32) (harg12 : arg12.IsWhole) (arg13 : Memref sig .tc .vmem S1x4x8x128x128 .f32) (harg13 : arg13.IsWhole) (arg14 : Memref sig .tc .vmem S4x8x128 .f32) (harg14 : arg14.IsWhole) (arg15 : Memref sig .tc .vmem S4x8x128 .f32) (harg15 : arg15.IsWhole)
    (x0 x1 x2 : Vec F S16x1024 .bf16) (x3 : Vec F S16x1024 .f32) (x4 x5 : Vec F S16x128 .f32) (x6 : Vec F S1x1024 .f32)
    (x7 : Vec F S1x4x8x128x128 .f32) (x8 x9 : Vec F S4x8x128 .f32) :
    (kernelRun0_A (F := F) c i arg1 harg1 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 x9).1
      = piecesH (View.ld (arg1.view.read (Elt F) (harg1.unread x0)) (Rect.unit (s := S16x1024) ![0, 0] S16x1024.size inb_S16x1024_S16x1024_0_0)) (View.ld (arg2.view.read (Elt F) (harg2.unread x1)) (Rect.unit (s := S16x1024) ![0, 0] S16x1024.size inb_S16x1024_S16x1024_0_0)) (View.ld (arg3.view.read (Elt F) (harg3.unread x2)) (Rect.unit (s := S16x1024) ![0, 0] S16x1024.size inb_S16x1024_S16x1024_0_0)) (View.ld (arg4.view.read (Elt F) (harg4.unread x3)) (Rect.unit (s := S16x1024) ![0, 0] S16x1024.size inb_S16x1024_S16x1024_0_0)) (View.ld (arg5.view.read (Elt F) (harg5.unread x4)) (Rect.unit (s := S16x128) ![0, 0] S16x128.size inb_S16x128_S16x128_0_0)) (View.ld (arg6.view.read (Elt F) (harg6.unread x5)) (Rect.unit (s := S16x128) ![0, 0] S16x128.size inb_S16x128_S16x128_0_0)) (View.ld (arg7.view.read (Elt F) (harg7.unread x6)) (Rect.unit (s := S1x1024) ![0, 0] S1x1024.size inb_S1x1024_S1x1024_0_0)) (arg8.view.read (Elt F) (harg8.unread x7)) (arg9.view.read (Elt F) (harg9.unread x8)) (arg10.view.read (Elt F) (harg10.unread x9)) := by
  sl_kernel_rfl

/-- What the body's stores leave of the matrix: one piece for each batch element and head of the block. -/
theorem runC (c : Dev nD) (i : grid0.Coords) (arg1 : Memref sig .tc .vmem S16x1024 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S16x1024 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S1x1024 .f32) (harg7 : arg7.IsWhole) (arg8 : Memref sig .tc .vmem S1x4x8x128x128 .f32) (harg8 : arg8.IsWhole) (arg9 : Memref sig .tc .vmem S4x8x128 .f32) (harg9 : arg9.IsWhole) (arg10 : Memref sig .tc .vmem S4x8x128 .f32) (harg10 : arg10.IsWhole) (arg12 : Memref sig .tc .vmem S16x1024 .f32) (harg12 : arg12.IsWhole) (arg13 : Memref sig .tc .vmem S1x4x8x128x128 .f32) (harg13 : arg13.IsWhole) (arg14 : Memref sig .tc .vmem S4x8x128 .f32) (harg14 : arg14.IsWhole) (arg15 : Memref sig .tc .vmem S4x8x128 .f32) (harg15 : arg15.IsWhole)
    (x0 x1 x2 : Vec F S16x1024 .bf16) (x3 : Vec F S16x1024 .f32) (x4 x5 : Vec F S16x128 .f32) (x6 : Vec F S1x1024 .f32)
    (x7 : Vec F S1x4x8x128x128 .f32) (x8 x9 : Vec F S4x8x128 .f32) :
    (kernelRun0_A (F := F) c i arg1 harg1 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 x9).2.1
      = piecesC (View.ld (arg2.view.read (Elt F) (harg2.unread x1)) (Rect.unit (s := S16x1024) ![0, 0] S16x1024.size inb_S16x1024_S16x1024_0_0)) (View.ld (arg3.view.read (Elt F) (harg3.unread x2)) (Rect.unit (s := S16x1024) ![0, 0] S16x1024.size inb_S16x1024_S16x1024_0_0)) (View.ld (arg5.view.read (Elt F) (harg5.unread x4)) (Rect.unit (s := S16x128) ![0, 0] S16x128.size inb_S16x128_S16x128_0_0)) (View.ld (arg6.view.read (Elt F) (harg6.unread x5)) (Rect.unit (s := S16x128) ![0, 0] S16x128.size inb_S16x128_S16x128_0_0)) (arg8.view.read (Elt F) (harg8.unread x7)) (arg10.view.read (Elt F) (harg10.unread x9)) := by
  sl_kernel_rfl

/-- What the body's stores leave of the normaliser: one piece for each batch element and head of the block. -/
theorem runN (c : Dev nD) (i : grid0.Coords) (arg1 : Memref sig .tc .vmem S16x1024 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S16x1024 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S1x1024 .f32) (harg7 : arg7.IsWhole) (arg8 : Memref sig .tc .vmem S1x4x8x128x128 .f32) (harg8 : arg8.IsWhole) (arg9 : Memref sig .tc .vmem S4x8x128 .f32) (harg9 : arg9.IsWhole) (arg10 : Memref sig .tc .vmem S4x8x128 .f32) (harg10 : arg10.IsWhole) (arg12 : Memref sig .tc .vmem S16x1024 .f32) (harg12 : arg12.IsWhole) (arg13 : Memref sig .tc .vmem S1x4x8x128x128 .f32) (harg13 : arg13.IsWhole) (arg14 : Memref sig .tc .vmem S4x8x128 .f32) (harg14 : arg14.IsWhole) (arg15 : Memref sig .tc .vmem S4x8x128 .f32) (harg15 : arg15.IsWhole)
    (x0 x1 x2 : Vec F S16x1024 .bf16) (x3 : Vec F S16x1024 .f32) (x4 x5 : Vec F S16x128 .f32) (x6 : Vec F S1x1024 .f32)
    (x7 : Vec F S1x4x8x128x128 .f32) (x8 x9 : Vec F S4x8x128 .f32) :
    (kernelRun0_A (F := F) c i arg1 harg1 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 x9).2.2.1
      = piecesN (View.ld (arg2.view.read (Elt F) (harg2.unread x1)) (Rect.unit (s := S16x1024) ![0, 0] S16x1024.size inb_S16x1024_S16x1024_0_0)) (View.ld (arg5.view.read (Elt F) (harg5.unread x4)) (Rect.unit (s := S16x128) ![0, 0] S16x128.size inb_S16x128_S16x128_0_0)) (View.ld (arg6.view.read (Elt F) (harg6.unread x5)) (Rect.unit (s := S16x128) ![0, 0] S16x128.size inb_S16x128_S16x128_0_0)) (arg9.view.read (Elt F) (harg9.unread x8)) (arg10.view.read (Elt F) (harg10.unread x9)) := by
  sl_kernel_rfl

/-- What the body's stores leave of the maximum: one piece for each batch element and head of the block. -/
theorem runM (c : Dev nD) (i : grid0.Coords) (arg1 : Memref sig .tc .vmem S16x1024 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S16x1024 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S1x1024 .f32) (harg7 : arg7.IsWhole) (arg8 : Memref sig .tc .vmem S1x4x8x128x128 .f32) (harg8 : arg8.IsWhole) (arg9 : Memref sig .tc .vmem S4x8x128 .f32) (harg9 : arg9.IsWhole) (arg10 : Memref sig .tc .vmem S4x8x128 .f32) (harg10 : arg10.IsWhole) (arg12 : Memref sig .tc .vmem S16x1024 .f32) (harg12 : arg12.IsWhole) (arg13 : Memref sig .tc .vmem S1x4x8x128x128 .f32) (harg13 : arg13.IsWhole) (arg14 : Memref sig .tc .vmem S4x8x128 .f32) (harg14 : arg14.IsWhole) (arg15 : Memref sig .tc .vmem S4x8x128 .f32) (harg15 : arg15.IsWhole)
    (x0 x1 x2 : Vec F S16x1024 .bf16) (x3 : Vec F S16x1024 .f32) (x4 x5 : Vec F S16x128 .f32) (x6 : Vec F S1x1024 .f32)
    (x7 : Vec F S1x4x8x128x128 .f32) (x8 x9 : Vec F S4x8x128 .f32) :
    (kernelRun0_A (F := F) c i arg1 harg1 arg2 harg2 arg3 harg3 arg4 harg4 arg5 harg5 arg6 harg6 arg7 harg7 arg8 harg8 arg9 harg9 arg10 harg10 arg12 harg12 arg13 harg13 arg14 harg14 arg15 harg15 x0 x1 x2 x3 x4 x5 x6 x7 x8 x9).2.2.2.1
      = piecesM (View.ld (arg5.view.read (Elt F) (harg5.unread x4)) (Rect.unit (s := S16x128) ![0, 0] S16x128.size inb_S16x128_S16x128_0_0)) (View.ld (arg6.view.read (Elt F) (harg6.unread x5)) (Rect.unit (s := S16x128) ![0, 0] S16x128.size inb_S16x128_S16x128_0_0)) (arg10.view.read (Elt F) (harg10.unread x9)) := by
  sl_kernel_rfl

end Cert.Mlstm

end
-- ==== Proof.MlstmStep.lean ====
module

public import Idealize.ShloMosaic.Lib.Pipeline.ValueKit

@[expose] public section

noncomputable section

namespace Cert.Mlstm

open Idealize.ShloMosaic

theorem neg_inf : Ideal.ofBits FTy.f32 0xFF800000#32 = ⊥ := by simp [Ideal.ofBits, Ideal.ieee]

theorem sel (c : Prop) [Decidable c] (x y : EReal) : Scalar.select (if c then 1#1 else 0#1) x y = if c then x else y := by
  by_cases h : c <;> simp [h, Scalar.select]

/-- The sum of a row's values up to token `t`. -/
def upTo (lf : Fin 4 → EReal) (t : Fin 4) : EReal := ∑ s : Fin 4, if s ≤ t then lf s else 0

/-- The input gate less the running sum of the forget gates. -/
def rel (ig lf : Fin 4 → EReal) (s : Fin 4) : EReal := ig s - upTo lf s

/-- The largest value up to token `t`. -/
def top (r : Fin 4 → EReal) (t : Fin 4) : EReal := Finset.univ.fold max ⊥ fun s : Fin 4 => if s ≤ t then r s else ⊥

section Kernel

variable (q k v : Fin 4 → Fin 128 → EReal) (ig lf : Fin 4 → EReal) (C : Fin 128 → Fin 128 → EReal) (n : Fin 128 → EReal) (m : EReal)

/-- The product of query `t` and key `s`. -/
def score (t s : Fin 4) : EReal := ∑ d : Fin 128, q t d * k s d

/-- The relative maximum, with its sign changed. -/
def kU (t : Fin 4) : EReal := 0 - max m (top (rel ig lf) t)
/-- The weight of the carried state. -/
def kW (t : Fin 4) : EReal := Ideal.exp (m + kU ig lf m t)
/-- The weight of token `s` at token `t`. -/
def kS (t s : Fin 4) : EReal := if s ≤ t then score q k t s * Ideal.exp (rel ig lf s + kU ig lf m t) else 0
/-- The output before its norm, with the maximum kept relative to the running sum. -/
def kH (t : Fin 4) (j : Fin 128) : EReal :=
  Ideal.div ((∑ s : Fin 4, kS q k ig lf m t s * v s j) + kW ig lf m t * ∑ d : Fin 128, q t d * C j d)
    (max (FloatOps.absf (F := Ideal) (φ := .f32) ((∑ s : Fin 4, kS q k ig lf m t s) + kW ig lf m t * ∑ d : Fin 128, q t d * n d)) (Ideal.exp (kU ig lf m t - upTo lf t)))
/-- The last relative maximum. -/
def kM : EReal := max m (top (rel ig lf) 3)
/-- The weight of token `s` in the new state. -/
def kE (s : Fin 4) : EReal := Ideal.exp (rel ig lf s - kM ig lf m)
/-- The weight of the old state in the new one. -/
def kO : EReal := Ideal.exp (m - kM ig lf m)

/-- The new matrix, normaliser and maximum. -/
def kC (i j : Fin 128) : EReal := kO ig lf m * C i j + ∑ s : Fin 4, kE ig lf m s * v s i * k s j
def kN (j : Fin 128) : EReal := kO ig lf m * n j + ∑ s : Fin 4, kE ig lf m s * k s j
def kMax : EReal := upTo lf 3 + kM ig lf m

/-- The log weight of token `s` at token `t`, `-∞` for a later token. -/
def rD (t s : Fin 4) : EReal := if s ≤ t then upTo lf t - upTo lf s + ig s else ⊥
/-- The maximum that every log weight of token `t` is taken against. -/
def rM (t : Fin 4) : EReal := max (upTo lf t + m) (Finset.univ.fold max ⊥ fun s : Fin 4 => rD ig lf t s)
def rW (t : Fin 4) : EReal := Ideal.exp (upTo lf t + m - rM ig lf m t)
def rS (t s : Fin 4) : EReal := score q k t s * Ideal.exp (rD ig lf t s - rM ig lf m t)
/-- The output before its norm, with the maximum of the log weights. -/
def rH (t : Fin 4) (j : Fin 128) : EReal :=
  Ideal.div ((∑ s : Fin 4, rS q k ig lf m t s * v s j) + rW ig lf m t * ∑ d : Fin 128, C j d * q t d)
    (max (FloatOps.absf (F := Ideal) (φ := .f32) ((∑ s : Fin 4, rS q k ig lf m t s) + rW ig lf m t * ∑ d : Fin 128, n d * q t d)) (Ideal.exp (-rM ig lf m t)))
def rE (s : Fin 4) : EReal := Ideal.exp (upTo lf 3 - upTo lf s + ig s - rM ig lf m 3)
def rO : EReal := Ideal.exp (upTo lf 3 + m - rM ig lf m 3)
def rC (i j : Fin 128) : EReal := rO ig lf m * C i j + ∑ s : Fin 4, rE ig lf m s * v s i * k s j
def rN (j : Fin 128) : EReal := rO ig lf m * n j + ∑ s : Fin 4, rE ig lf m s * k s j

end Kernel

/-- A real number leaves a difference that has it on both sides. -/
theorem sub_shift (b : ℝ) (x y : EReal) : ((b : EReal) + x) - (b + y) = x - y := by
  have hb : (b : EReal) + -b = 0 := by rw [← sub_eq_add_neg, EReal.sub_self (EReal.coe_ne_top b) (EReal.coe_ne_bot b)]
  rw [sub_eq_add_neg, EReal.neg_add (.inl (EReal.coe_ne_bot b)) (.inl (EReal.coe_ne_top b)), sub_eq_add_neg, sub_eq_add_neg,
    add_comm (b : EReal) x, add_assoc, ← add_assoc (b : EReal), hb, zero_add]

theorem max_shift (b : ℝ) (x y : EReal) : max ((b : EReal) + x) (b + y) = b + max x y := by
  rcases le_total x y with h | h
  · rw [max_eq_right h, max_eq_right (add_le_add_right h _)]
  · rw [max_eq_left h, max_eq_left (add_le_add_right h _)]

section Equal

variable (q k v : Fin 4 → Fin 128 → EReal) (ig lf : Fin 4 → EReal) (C : Fin 128 → Fin 128 → EReal) (n : Fin 128 → EReal) (m : EReal)

/-- A sum of real gates is real. -/
theorem upTo_real (hf : ∀ s, ∃ x : ℝ, lf s = x) (t : Fin 4) : ∃ b : ℝ, upTo lf t = b := by
  choose f hf using hf
  refine ⟨∑ s : Fin 4, if s ≤ t then f s else 0, ?_⟩
  unfold upTo
  rw [Fin.sum_univ_four, Fin.sum_univ_four]
  have h (s : Fin 4) : (if s ≤ t then lf s else 0) = ((if s ≤ t then f s else 0 : ℝ) : EReal) := by
    by_cases hs : s ≤ t <;> simp [hs, hf]
  simp only [h, EReal.coe_add]

theorem rD_eq (hf : ∀ s, ∃ x : ℝ, lf s = x) (t s : Fin 4) : rD ig lf t s = upTo lf t + if s ≤ t then rel ig lf s else ⊥ := by
  unfold rD rel
  by_cases h : s ≤ t
  · rw [if_pos h, if_pos h, sub_eq_add_neg, sub_eq_add_neg, add_assoc, add_comm (-_)]
  · rw [if_neg h, if_neg h, EReal.add_bot]

theorem rM_eq (hf : ∀ s, ∃ x : ℝ, lf s = x) (t : Fin 4) : rM ig lf m t = upTo lf t + max m (top (rel ig lf) t) := by
  obtain ⟨b, hb⟩ := upTo_real lf hf t
  unfold rM top
  simp only [rD_eq ig lf hf, hb]
  have h : (⊥ : EReal) = (b : EReal) + ⊥ := (EReal.add_bot _).symm
  rw [← max_shift]
  congr 1
  conv_lhs => rw [h]
  exact Finset.fold_hom (op := max) (op' := max) (m := fun x : EReal => (b : EReal) + x) (fun x y => (max_shift b x y).symm)

theorem rW_eq (hf : ∀ s, ∃ x : ℝ, lf s = x) (t : Fin 4) : rW ig lf m t = kW ig lf m t := by
  unfold rW kW kU
  rw [rM_eq ig lf m hf]
  obtain ⟨b, hb⟩ := upTo_real lf hf t
  rw [hb, sub_shift, zero_sub, sub_eq_add_neg]

theorem rS_eq (hf : ∀ s, ∃ x : ℝ, lf s = x) (t s : Fin 4) : rS q k ig lf m t s = kS q k ig lf m t s := by
  unfold rS kS kU
  rw [rM_eq ig lf m hf, rD_eq ig lf hf]
  obtain ⟨b, hb⟩ := upTo_real lf hf t
  rw [hb, sub_shift]
  by_cases h : s ≤ t
  · rw [if_pos h, if_pos h, zero_sub, sub_eq_add_neg]
  · rw [if_neg h, if_neg h, sub_eq_add_neg, EReal.bot_add, Ideal.exp_bot, mul_zero]

/-- The two outputs before the norm are equal. -/
theorem rH_eq (hf : ∀ s, ∃ x : ℝ, lf s = x) (t : Fin 4) (j : Fin 128) : rH q k v ig lf C n m t j = kH q k v ig lf C n m t j := by
  have he : Ideal.exp (-rM ig lf m t) = Ideal.exp (kU ig lf m t - upTo lf t) := by
    rw [rM_eq ig lf m hf]
    obtain ⟨b, hb⟩ := upTo_real lf hf t
    unfold kU
    rw [hb, EReal.neg_add (.inl (EReal.coe_ne_bot b)) (.inl (EReal.coe_ne_top b)), zero_sub, sub_eq_add_neg, sub_eq_add_neg, add_comm]
  unfold rH kH
  simp only [rS_eq q k ig lf m hf, rW_eq ig lf m hf, he, mul_comm (C j _), mul_comm (n _)]

theorem rE_eq (hf : ∀ s, ∃ x : ℝ, lf s = x) (s : Fin 4) : rE ig lf m s = kE ig lf m s := by
  unfold rE kE kM
  rw [rM_eq ig lf m hf]
  obtain ⟨b, hb⟩ := upTo_real lf hf 3
  have h : upTo lf 3 - upTo lf s + ig s = b + rel ig lf s := by
    unfold rel
    rw [hb, sub_eq_add_neg, sub_eq_add_neg, add_assoc, add_comm (-_)]
  rw [h, hb, sub_shift]

theorem rO_eq (hf : ∀ s, ∃ x : ℝ, lf s = x) : rO ig lf m = kO ig lf m := by
  unfold rO kO kM
  rw [rM_eq ig lf m hf]
  obtain ⟨b, hb⟩ := upTo_real lf hf 3
  rw [hb, sub_shift]

/-- The two new matrices, normalisers and maxima are equal. -/
theorem rC_eq (hf : ∀ s, ∃ x : ℝ, lf s = x) (i j : Fin 128) : rC k v ig lf C m i j = kC k v ig lf C m i j := by
  unfold rC kC
  simp only [rE_eq ig lf m hf, rO_eq ig lf m hf]
theorem rN_eq (hf : ∀ s, ∃ x : ℝ, lf s = x) (j : Fin 128) : rN k ig lf n m j = kN k ig lf n m j := by
  unfold rN kN
  simp only [rE_eq ig lf m hf, rO_eq ig lf m hf]
theorem rMax_eq (hf : ∀ s, ∃ x : ℝ, lf s = x) : rM ig lf m 3 = kMax ig lf m := rM_eq ig lf m hf 3

end Equal

/-- The mean of a head's lanes. -/
def meanOf (f : Fin 128 → EReal) : EReal := Ideal.div (∑ x, f x) (Ideal.ofBits .f32 0x43000000#32)
/-- A head's value after its norm. -/
def normOf (f : Fin 128 → EReal) (j : Fin 128) : EReal :=
  (f j - meanOf f) * Ideal.rsqrt (meanOf (fun x => (f x - meanOf f) * (f x - meanOf f)) + Ideal.ofBits .f32 0x3727C5AC#32)
/-- The logistic function. -/
def sig (x : EReal) : EReal := Ideal.div 1 (1 + Ideal.exp (-x))

end Cert.Mlstm

end
-- ==== Proof.MlstmRead.lean ====
module

public import proofs.«01_k».proof.Proof.MlstmCopy
public import proofs.«01_k».proof.Proof.MlstmStep

@[expose] public section

set_option maxRecDepth 16384

noncomputable section

namespace Cert.Mlstm

open Cert.Kernel1Ideal Cert.Kernel1Ideal.Gen Cert.Kernel1Ideal.Facts Idealize.ShloMosaic Idealize.ShloMosaic.TcCoe Idealize.SL.Sem

/-- Whether a row is at or after row `s`. -/
theorem since_at (s t : Fin 4) (j : Fin 128) : since s (ix2 t j) = if s ≤ t then 1#1 else 0#1 := by
  have h : ∀ (s t : Fin 4), IntOp.cmpi .sge (BitVec.ofNat 32 t.val) (BitVec.ofNat 32 s.val) = if s ≤ t then 1#1 else 0#1 := by decide
  rw [← h s t]
  unfold since
  pointwise

/-- The running sum at a row. -/
theorem cumB_at (lf : FVec Ideal S4x128 .f32) (t : Fin 4) (j : Fin 128) :
    cumB lf (ix2 t j) = ∑ s : Fin 4, if s ≤ t then lf (ix2 s j) else 0 := by
  rw [Fin.sum_univ_four]
  unfold cumB down' row zero4
  pointwise
  simp only [since_at, sel, zero_add]

/-- The running maximum at a row. -/
theorem cumMax_at (r : FVec Ideal S4x128 .f32) (t : Fin 4) (j : Fin 128) :
    cumMax r (ix2 t j) = Finset.univ.fold max ⊥ fun s : Fin 4 => if s ≤ t then r (ix2 s j) else ⊥ := by
  unfold cumMax down' row bot4
  pointwise
  simp only [since_at, sel, neg_inf]
  rw [show (Finset.univ : Finset (Fin 4)) = {0, 1, 2, 3} by decide, Finset.fold_insert (by decide), Finset.fold_insert (by decide), Finset.fold_insert (by decide), Finset.fold_singleton]
  rw [bot_sup_eq, max_bot_right, max_assoc, max_assoc]

theorem coef_at (s : Fin 4) (q k r u : FVec Ideal S4x128 .f32) (t : Fin 4) (j : Fin 128) :
    coef s q k r u (ix2 t j) = if s ≤ t then (∑ d : Fin 128, q (ix2 t d) * k (ix2 s d)) * Ideal.exp (r (ix2 s j) + u (ix2 t j)) else 0 := by
  unfold coef wide laneSum down row zero4
  pointwise
  simp only [since_at, sel]

theorem qC_at (b : Fin 4) (q16 : FVec Ideal S16x128 .bf16) (C : FVec Ideal S128x128 .f32) (t : Fin 4) (j : Fin 128) :
    qC b q16 C (ix2 t j) = ∑ d : Fin 128, q16 (ix2 ⟨4 * b.val + t.val, by omega⟩ d) * C (ix2 j d) := by
  unfold qC
  pointwise

theorem num_at (b : Fin 4) (q16 : FVec Ideal S16x128 .bf16) (C : FVec Ideal S128x128 .f32) (q k v r u wi : FVec Ideal S4x128 .f32) (t : Fin 4) (j : Fin 128) :
    num b q16 C q k v r u wi (ix2 t j)
      = (∑ s : Fin 4, (if s ≤ t then (∑ d : Fin 128, q (ix2 t d) * k (ix2 s d)) * Ideal.exp (r (ix2 s j) + u (ix2 t j)) else 0) * v (ix2 s j))
        + wi (ix2 t j) * ∑ d : Fin 128, q16 (ix2 ⟨4 * b.val + t.val, by omega⟩ d) * C (ix2 j d) := by
  rw [Fin.sum_univ_four]
  unfold num down row zero4
  pointwise
  simp only [coef_at, qC_at, zero_add]

theorem den_at (n : FVec Ideal S1x128 .f32) (q k r u wi : FVec Ideal S4x128 .f32) (t : Fin 4) (j : Fin 128) :
    den n q k r u wi (ix2 t j)
      = (∑ s : Fin 4, (if s ≤ t then (∑ d : Fin 128, q (ix2 t d) * k (ix2 s d)) * Ideal.exp (r (ix2 s j) + u (ix2 t j)) else 0))
        + wi (ix2 t j) * ∑ d : Fin 128, q (ix2 t d) * n (ix2 0 d) := by
  rw [Fin.sum_univ_four]
  unfold den down wide laneSum zero4
  pointwise
  simp only [coef_at, zero_add]

theorem normed_at (hh : FVec Ideal S4x128 .f32) (g : FVec Ideal S1x128 .f32) (o : FVec Ideal S4x128 .f32) (t : Fin 4) (j : Fin 128) :
    normed hh g o (ix2 t j) = normOf (fun d => hh (ix2 t d)) j * g (ix2 0 j) * o (ix2 t j) := by
  unfold normed mean down wide laneSum normOf meanOf
  pointwise

theorem placed_at (b : Fin 4) (we v : FVec Ideal S4x128 .f32) (i : Fin 16) (j : Fin 128) :
    placed b we v (ix2 i j) = ∑ s : Fin 4, if i.val = 4 * b.val + s.val then we (ix2 s j) * v (ix2 s j) else 0 := by
  have h : ∀ (b s : Fin 4) (i : Fin 16), IntOp.cmpi .eq (BitVec.ofNat 32 i.val) (BitVec.ofNat 32 (4 * b.val + s.val)) = if i.val = 4 * b.val + s.val then 1#1 else 0#1 := by decide +kernel
  rw [Fin.sum_univ_four]
  unfold placed place row
  pointwise
  have h0 := h b 0 i
  have h1 := h b 1 i
  have h2 := h b 2 i
  have h3 := h b 3 i
  simp only [Fin.val_zero, Fin.val_one, Fin.val_two, add_zero, show ((3 : Fin 4) : ℕ) = 3 from rfl] at h0 h1 h2 h3 ⊢
  simp only [h0, h1, h2, h3, sel]

theorem newC_at (b : Fin 4) (wo : FVec Ideal S1x128 .f32) (C : FVec Ideal S128x128 .f32) (we v : FVec Ideal S4x128 .f32) (k16 : FVec Ideal S16x128 .bf16) (i j : Fin 128) :
    newC b wo C we v k16 (ix2 i j) = wo (ix2 0 j) * C (ix2 i j) + ∑ s : Fin 4, we (ix2 s i) * v (ix2 s i) * k16 (ix2 ⟨4 * b.val + s.val, by omega⟩ j) := by
  unfold newC
  pointwise
  simp only [placed_at]
  congr 1
  refine (Fintype.sum_of_injective (fun s : Fin 4 => (⟨4 * b.val + s.val, by omega⟩ : Fin 16)) (fun s s' hs => by simpa [Fin.ext_iff] using hs) _ _ (fun x hx => ?_) (fun s => ?_)).symm
  · rw [Finset.sum_eq_zero fun s _ => if_neg fun hs => hx ⟨s, Fin.ext hs.symm⟩, zero_mul]
  · rw [Finset.sum_eq_single s (fun s' _ hs => if_neg fun he => hs (Fin.ext (by simpa using he.symm))) (by simp), if_pos rfl]

theorem newN_at (wo n : FVec Ideal S1x128 .f32) (we k : FVec Ideal S4x128 .f32) (j : Fin 128) :
    newN wo n we k (ix2 0 j) = wo (ix2 0 j) * n (ix2 0 j) + ∑ s : Fin 4, we (ix2 s j) * k (ix2 s j) := by
  unfold newN
  pointwise

section Out

variable (x0 x1 x2 : Vec Ideal S16x1024 .bf16) (x3 : Vec Ideal S16x1024 .f32) (x4 x5 : Vec Ideal S16x128 .f32) (x6 : Vec Ideal S1x1024 .f32)
  (x7 : Vec Ideal S1x4x8x128x128 .f32) (x8 x9 : Vec Ideal S4x8x128 .f32) (b : Fin 4) (h : Fin 8)

/-- The column of head `h` and lane `d`. -/
def col (h : Fin 8) (d : Fin 128) : Fin 1024 := ⟨128 * h.val + d.val, by omega⟩
/-- The row of batch element `b` and token `t` in a block. -/
def tok (b t : Fin 4) : Fin 16 := ⟨4 * b.val + t.val, by omega⟩
/-- A head's rows of a block. -/
def rows (x : S16x1024.Idx → EReal) (b : Fin 4) (h : Fin 8) (t : Fin 4) (d : Fin 128) : EReal := x (ix2 (tok b t) (col h d))
/-- A head's gates of a block. -/
def gates (x : Vec Ideal S16x128 .f32) (b : Fin 4) (h : Fin 8) (t : Fin 4) : EReal := x (ix2 (tok b t) ⟨h.val, by omega⟩)

theorem qf_at (t : Fin 4) (j : Fin 128) : qf x0 b h (ix2 t j) = rows x0 b h t j := by
  unfold qf cut
  pointwise
  rfl

theorem head_at (i : Fin 16) (j : Fin 128) : headCols (α := Ideal .bf16) h x0 (ix2 i j) = x0 (ix2 i (col h j)) := by
  unfold headCols
  pointwise
  rfl

theorem gate_at (t : Fin 4) (j : Fin 128) : gate (α := Ideal .f32) b h x4 (ix2 t j) = gates x4 b h t := by
  unfold gate
  pointwise
  rfl

theorem cIn_at (i j : Fin 128) : cIn x7 b h (ix2 i j) = x7 (ix5 0 b h i j) := by
  unfold cIn
  refine (shapeCast_apply _ _ (ix2 i j) (ix5 (0 : Fin 1) (0 : Fin 1) (0 : Fin 1) i j) ?_).trans (View.ld_unit_apply_of _ _ _ _ _ _ ?_)
  · rw [Shape.rowMajor_val_two, Shape.rowMajor_val_five]
    simp
  · intro a
    fin_cases a <;> simp

theorem nIn_at (j : Fin 128) : nIn x8 b h (ix2 0 j) = x8 (ix3 b h j) := by
  unfold nIn
  pointwise

theorem gain_at (j : Fin 128) : extractStridedSlice S1x128 ![0, 128 * h.val] (shapeCast S1x1024 x6 shapeCasts_S1x1024_S1x1024) (gain_ok h) (ix2 0 j) = x6 (ix2 0 (col h j)) := by
  pointwise
  rfl

theorem logistic_at (t : Fin 4) (j : Fin 128) : cut b h (logistic (F := Ideal) x3) (ix2 t j) = sig (rows x3 b h t j) := by
  unfold cut logistic sig
  pointwise
  rw [zero_sub]
  rfl

theorem outC_at (i j : Fin 128) : outC x1 x2 x4 x5 x7 x9 b h (ix5 0 0 0 i j) = newC b (wo x4 x5 x9 b h) (cIn x7 b h) (we x4 x5 x9 b h) (qf x2 b h) (headCols h x1) (ix2 i j) := by
  unfold outC
  refine shapeCast_apply _ _ (ix5 (0 : Fin 1) (0 : Fin 1) (0 : Fin 1) i j) (ix2 i j) ?_
  rw [Shape.rowMajor_val_two, Shape.rowMajor_val_five]
  simp

theorem rr_at (t : Fin 4) (j : Fin 128) : rr x4 x5 b h (ix2 t j) = rel (gates x4 b h) (gates x5 b h) t := by
  unfold rr rel upTo
  pointwise
  simp only [gate_at, cumB_at]

theorem cm_at (t : Fin 4) (j : Fin 128) : cm x4 x5 b h (ix2 t j) = top (rel (gates x4 b h) (gates x5 b h)) t := by
  unfold cm top
  rw [cumMax_at]
  simp only [rr_at]

variable (m : EReal) (hm : ∀ j, x9 (ix3 b h j) = m)
include hm

theorem uu_at (t : Fin 4) (j : Fin 128) : uu x4 x5 x9 b h (ix2 t j) = kU (gates x4 b h) (gates x5 b h) m t := by
  unfold uu negMax kU down zero4
  pointwise
  simp only [nIn_at, hm, cm_at]

theorem wi_at (t : Fin 4) (j : Fin 128) : wi x4 x5 x9 b h (ix2 t j) = kW (gates x4 b h) (gates x5 b h) m t := by
  unfold wi carried kW down
  pointwise
  simp only [nIn_at, hm, uu_at x4 x5 x9 b h m hm]

theorem mx_at (j : Fin 128) : mx x4 x5 x9 b h (ix2 0 j) = kM (gates x4 b h) (gates x5 b h) m := by
  unfold mx kM row
  pointwise
  simp only [nIn_at, hm, cm_at]

theorem wo_at (j : Fin 128) : wo x4 x5 x9 b h (ix2 0 j) = kO (gates x4 b h) (gates x5 b h) m := by
  unfold wo kO
  pointwise
  simp only [nIn_at, hm, mx_at x4 x5 x9 b h m hm]

theorem we_at (t : Fin 4) (j : Fin 128) : we x4 x5 x9 b h (ix2 t j) = kE (gates x4 b h) (gates x5 b h) m t := by
  unfold we kE down
  pointwise
  simp only [rr_at, mx_at x4 x5 x9 b h m hm]

/-- The copy's output before its norm, from a head's rows and gates and the carried state. -/
theorem hOut_at (t : Fin 4) (j : Fin 128) :
    hOut x0 x1 x2 x4 x5 x7 x8 x9 b h (ix2 t j)
      = kH (rows x0 b h) (rows x1 b h) (rows x2 b h) (gates x4 b h) (gates x5 b h) (fun i d => x7 (ix5 0 b h i d)) (fun d => x8 (ix3 b h d)) m t j := by
  unfold hOut kH kS score upTo
  pointwise
  simp only [num_at, den_at, qf_at, rr_at, uu_at x4 x5 x9 b h m hm, wi_at x4 x5 x9 b h m hm, cumB_at, gate_at, head_at, cIn_at, nIn_at]
  rfl

/-- What a copy stores of the output. -/
theorem outH_at (t : Fin 4) (j : Fin 128) :
    outH x0 x1 x2 x3 x4 x5 x6 x7 x8 x9 b h (ix2 t j)
      = normOf (fun d => kH (rows x0 b h) (rows x1 b h) (rows x2 b h) (gates x4 b h) (gates x5 b h) (fun i d => x7 (ix5 0 b h i d)) (fun d => x8 (ix3 b h d)) m t d) j
        * x6 (ix2 0 (col h j)) * sig (rows x3 b h t j) := by
  unfold outH
  rw [normed_at, gain_at, logistic_at]
  simp only [hOut_at x0 x1 x2 x4 x5 x7 x8 x9 b h m hm]

/-- What a copy stores of the matrix. -/
theorem outC_eq (i j : Fin 128) :
    outC x1 x2 x4 x5 x7 x9 b h (ix5 0 0 0 i j) = kC (rows x1 b h) (rows x2 b h) (gates x4 b h) (gates x5 b h) (fun i d => x7 (ix5 0 b h i d)) m i j := by
  unfold kC
  rw [outC_at, newC_at]
  simp only [wo_at x4 x5 x9 b h m hm, cIn_at, we_at x4 x5 x9 b h m hm, qf_at, head_at]
  rfl

/-- What a copy stores of the normaliser. -/
theorem outN_eq (j : Fin 128) :
    outN x1 x4 x5 x8 x9 b h (ix3 0 0 j) = kN (rows x1 b h) (gates x4 b h) (gates x5 b h) (fun d => x8 (ix3 b h d)) m j := by
  unfold outN kN
  pointwise
  simp only [newN_at, wo_at x4 x5 x9 b h m hm, nIn_at, we_at x4 x5 x9 b h m hm, qf_at]

/-- What a copy stores of the maximum. -/
theorem outM_eq (j : Fin 128) : outM x4 x5 x9 b h (ix3 0 0 j) = kMax (gates x4 b h) (gates x5 b h) m := by
  unfold outM kMax row upTo
  pointwise
  simp only [cumB_at, gate_at, mx_at x4 x5 x9 b h m hm]

end Out

end Cert.Mlstm

end
-- ==== Proof.MlstmBlock.lean ====
module

public import proofs.«01_k».proof.Proof.MlstmRead

@[expose] public section

set_option maxRecDepth 16384

noncomputable section

namespace Cert.Mlstm

open Cert.Kernel1Ideal Cert.Kernel1Ideal.Gen Cert.Kernel1Ideal.Facts Idealize.ShloMosaic Idealize.ShloMosaic.TcCoe Idealize.SL.Sem

/-- Every batch element and head of a block is in the list. -/
theorem pairs_all : ∀ p : Fin 4 × Fin 8, p ∈ pairs := by decide

/-- Where one batch element and head alone writes a place, what is left there is what that one writes. -/
theorem canon_pairs {S : Shape} {e : EltTy} (size : Fin S.rank → ℕ) (off : Fin 4 × Fin 8 → Fin S.rank → ℕ)
    (inb : ∀ p a, off p a + size a ≤ S.size a) (w : (p : Fin 4 × Fin 8) → (Rect.unit (off p) size (inb p)).shape.Idx → Elt Ideal e)
    (p : Fin 4 × Fin 8) (x : (Rect.unit (off p) size (inb p)).shape.Idx) (y : S.Idx) (hy : ∀ a, (y a : ℕ) = off p a + (x a : ℕ))
    (hu : ∀ p', (∀ a, off p' a ≤ (y a : ℕ) ∧ (y a : ℕ) < off p' a + size a) → p' = p) :
    View.canon (pairs.map fun p => (⟨Rect.unit (off p) size (inb p), w p⟩ : View.Piece (Elt Ideal) S e)) y = w p x := by
  have hx : (Rect.unit (off p) size (inb p)).idx x = y := by
    funext a
    apply Fin.ext
    rw [Rect.idx_unit_val, hy a]
  refine View.canon_eq_of_allAt _ _ _ ⟨_, List.mem_map.mpr ⟨p, pairs_all p, rfl⟩, hx ▸ LoadRect.idx_mem _ x⟩ ?_
  intro q hq x' hx'
  obtain ⟨p', -, rfl⟩ := List.mem_map.mp hq
  have hv : ∀ a, (y a : ℕ) = off p' a + (x' a : ℕ) := fun a => by
    rw [← hx']
    exact Rect.idx_unit_val (off p') size (inb p') x' a
  obtain rfl : p' = p := hu p' fun a => by
    have h1 := hv a
    have h2 : (x' a : ℕ) < size a := (x' a).isLt
    omega
  refine congrArg (w p') (funext fun a => Fin.ext ?_)
  have h1 := hv a
  have h2 := hy a
  omega

section Canon

variable (x0 x1 x2 : Vec Ideal S16x1024 .bf16) (x3 : Vec Ideal S16x1024 .f32) (x4 x5 : Vec Ideal S16x128 .f32) (x6 : Vec Ideal S1x1024 .f32)
  (x7 : Vec Ideal S1x4x8x128x128 .f32) (x8 x9 : Vec Ideal S4x8x128 .f32) (b : Fin 4) (h : Fin 8)

/-- The block of the normaliser at a batch element, a head and a lane. -/
theorem canonN (j : Fin 128) : View.canon (piecesN x1 x4 x5 x8 x9) (ix3 b h j) = outN x1 x4 x5 x8 x9 b h (ix3 0 0 j) := by
  unfold piecesN
  refine canon_pairs (e := .f32) (S := S4x8x128) S1x1x128.size (fun p => ![p.1.val, p.2.val, 0]) (fun p => n_in p.1 p.2) (fun p => outN x1 x4 x5 x8 x9 p.1 p.2) (b, h) (ix3 0 0 j : S1x1x128.Idx) (ix3 b h j) ?_ ?_
  · intro a; fin_cases a <;> simp
  · rintro ⟨b', h'⟩ H
    have h0 := H 0
    have h1 := H 1
    simp at h0 h1
    exact Prod.ext (Fin.ext (by simp; omega)) (Fin.ext (by simp; omega))

/-- The block of the maximum at a batch element, a head and a lane. -/
theorem canonM (j : Fin 128) : View.canon (piecesM x4 x5 x9) (ix3 b h j) = outM x4 x5 x9 b h (ix3 0 0 j) := by
  unfold piecesM
  refine canon_pairs (e := .f32) (S := S4x8x128) S1x1x128.size (fun p => ![p.1.val, p.2.val, 0]) (fun p => n_in p.1 p.2) (fun p => outM x4 x5 x9 p.1 p.2) (b, h) (ix3 0 0 j : S1x1x128.Idx) (ix3 b h j) ?_ ?_
  · intro a; fin_cases a <;> simp
  · rintro ⟨b', h'⟩ H
    have h0 := H 0
    have h1 := H 1
    simp at h0 h1
    exact Prod.ext (Fin.ext (by simp; omega)) (Fin.ext (by simp; omega))

/-- The block of the matrix at a batch element, a head, a row and a column. -/
theorem canonC (z : Fin 1) (i j : Fin 128) : View.canon (piecesC x1 x2 x4 x5 x7 x9) (ix5 z b h i j) = outC x1 x2 x4 x5 x7 x9 b h (ix5 0 0 0 i j) := by
  unfold piecesC
  refine canon_pairs (e := .f32) (S := S1x4x8x128x128) S1x1x1x128x128.size (fun p => ![0, p.1.val, p.2.val, 0, 0]) (fun p => c_in p.1 p.2) (fun p => outC x1 x2 x4 x5 x7 x9 p.1 p.2) (b, h) (ix5 0 0 0 i j : S1x1x1x128x128.Idx) (ix5 z b h i j) ?_ ?_
  · intro a; fin_cases a <;> simp
  · rintro ⟨b', h'⟩ H
    have h0 := H 1
    have h1 := H 2
    simp at h0 h1
    exact Prod.ext (Fin.ext (by simp; omega)) (Fin.ext (by simp; omega))

/-- The block of the output at a token and a column. -/
theorem canonH (t : Fin 4) (j : Fin 128) : View.canon (piecesH x0 x1 x2 x3 x4 x5 x6 x7 x8 x9) (ix2 (tok b t) (col h j)) = outH x0 x1 x2 x3 x4 x5 x6 x7 x8 x9 b h (ix2 t j) := by
  unfold piecesH
  refine canon_pairs (e := .f32) (S := S16x1024) S4x128.size (fun p => ![4 * p.1.val, 128 * p.2.val]) (fun p => h_in p.1 p.2) (fun p => outH x0 x1 x2 x3 x4 x5 x6 x7 x8 x9 p.1 p.2) (b, h) (ix2 t j : S4x128.Idx) (ix2 (tok b t) (col h j)) ?_ ?_
  · intro a; fin_cases a <;> simp [tok, col]
  · rintro ⟨b', h'⟩ H
    have h0 := H 0
    have h1 := H 1
    simp [tok, col] at h0 h1
    exact Prod.ext (Fin.ext (by simp; omega)) (Fin.ext (by simp; omega))

end Canon

end Cert.Mlstm

end
-- ==== Proof.MlstmRef.lean ====
module

public import proofs.«01_k».proof.Defs
public import proofs.«01_k».proof.Proof.Gen.Reference1Ideal.Read
public import proofs.«01_k».proof.Proof.MlstmStep
public import Idealize.ShloMosaic.Lib.Pipeline.ValueKit

@[expose] public section

set_option maxRecDepth 16384

noncomputable section

namespace Cert.Mlstm.Ref

open Cert.Reference1Ideal Cert.Reference1Ideal.Gen Cert.Reference1Ideal.Facts Idealize.ShloMosaic Idealize.ShloMosaic.TcCoe Idealize.SL.Sem
open Cert.Reference1Ideal.Read

/-- The column of head `h` and lane `d`. -/
def col (h : Fin 8) (d : Fin 128) : Fin 1024 := ⟨128 * h.val + d.val, by omega⟩
/-- The row of batch element `b` and token `t`. -/
def tok (b : Fin 128) (t : Fin 4) : Fin 8704 := ⟨8192 + 4 * b.val + t.val, by omega⟩
/-- A head's rows. -/
def rows (x : S8704x1024.Idx → EReal) (b : Fin 128) (h : Fin 8) (t : Fin 4) (d : Fin 128) : EReal := x (ix2 (tok b t) (col h d))
/-- A head's gates. -/
def gates (x : S8704x128.Idx → EReal) (b : Fin 128) (h : Fin 8) (t : Fin 4) : EReal := x (ix2 (tok b t) ⟨h.val, by omega⟩)

variable (x0 x1 x2 : (⟨S8704x1024, .bf16⟩ : BufTy).Contents (Elt Ideal)) (x3 : (⟨S8704x1024, .f32⟩ : BufTy).Contents (Elt Ideal))
  (x4 x5 : (⟨S8704x128, .f32⟩ : BufTy).Contents (Elt Ideal)) (x6 : (⟨S1024, .f32⟩ : BufTy).Contents (Elt Ideal))
  (x7 x10 : (⟨S2x128x8x128x128, .f32⟩ : BufTy).Contents (Elt Ideal)) (x8 : (⟨S128x8x128, .f32⟩ : BufTy).Contents (Elt Ideal))
  (x9 : (⟨S128x8, .f32⟩ : BufTy).Contents (Elt Ideal)) (b : Fin 128) (h : Fin 8)

theorem tok_eq (t : Fin 4) (k : Fin 8704) (hk : k.val = 8192 + (b.val * 4 + t.val)) : k = tok b t := Fin.ext (by show k.val = 8192 + 4 * b.val + t.val; omega)
theorem col_eq (d : Fin 128) (l : Fin 1024) (hl : l.val = h.val * 128 + d.val) : l = col h d := Fin.ext (by show l.val = 128 * h.val + d.val; omega)

theorem v17_at (t : Fin 4) (d : Fin 128) : val_main_v17 (F := Ideal) x0 (ix4 b h t d) = rows x0 b h t d := by
  unfold val_main_v17 val_main_v2 val_main_v1 val_main_v0
  pointwise
  exact congrArg₂ (fun k l => x0 (ix2 k l)) (tok_eq b t _ rfl) (col_eq h d _ rfl)

theorem v18_at (t : Fin 4) (d : Fin 128) : val_main_v18 (F := Ideal) x1 (ix4 b h t d) = rows x1 b h t d := by
  unfold val_main_v18 val_main_v5 val_main_v4 val_main_v3
  pointwise
  exact congrArg₂ (fun k l => x1 (ix2 k l)) (tok_eq b t _ rfl) (col_eq h d _ rfl)

theorem v19_at (t : Fin 4) (d : Fin 128) : val_main_v19 (F := Ideal) x2 (ix4 b h t d) = rows x2 b h t d := by
  unfold val_main_v19 val_main_v8 val_main_v7 val_main_v6
  pointwise
  exact congrArg₂ (fun k l => x2 (ix2 k l)) (tok_eq b t _ rfl) (col_eq h d _ rfl)

theorem v10_at (t : Fin 4) (d : Fin 128) : val_main_v10 (F := Ideal) x3 (ix4 b t h d) = rows x3 b h t d := by
  unfold val_main_v10 val_main_v9
  pointwise
  exact congrArg₂ (fun k l => x3 (ix2 k l)) (tok_eq b t _ rfl) (col_eq h d _ rfl)

theorem v20_at (t : Fin 4) : val_main_v20 (F := Ideal) x4 (ix3 b h t) = gates x4 b h t := by
  unfold val_main_v20 val_main_v12 val_main_v11
  pointwise
  exact congrArg (fun k => x4 (ix2 k ⟨h.val, by omega⟩)) (tok_eq b t _ rfl)

theorem v21_at (t : Fin 4) : val_main_v21 (F := Ideal) x5 (ix3 b h t) = gates x5 b h t := by
  unfold val_main_v21 val_main_v14 val_main_v13
  pointwise
  exact congrArg (fun k => x5 (ix2 k ⟨h.val, by omega⟩)) (tok_eq b t _ rfl)

theorem v16_at (i j : Fin 128) : val_main_v16 (F := Ideal) x7 (ix4 b h i j) = x7 (ix5 1 b h i j) := by
  unfold val_main_v16 val_main_v15
  pointwise

/-- One term of the window that ends at an element: the value there, zero before the first. -/
def windowTerm (x : S128x8x4.Idx → EReal) (t n : Fin 4) : EReal :=
  if hin : ∀ a : Fin 3, (![0, 0, 3] : Fin 3 → ℕ) a ≤ ((ix3 b h t : S128x8x4.Idx) a).val * (![1, 1, 1] : Fin 3 → ℕ) a + ((⟨3, ![1, 1, 4]⟩ : Shape).rowMajor.symm n a).val
      ∧ ((ix3 b h t : S128x8x4.Idx) a).val * (![1, 1, 1] : Fin 3 → ℕ) a + ((⟨3, ![1, 1, 4]⟩ : Shape).rowMajor.symm n a).val - (![0, 0, 3] : Fin 3 → ℕ) a < S128x8x4.size a
    then x (fun a => ⟨((ix3 b h t : S128x8x4.Idx) a).val * (![1, 1, 1] : Fin 3 → ℕ) a + ((⟨3, ![1, 1, 4]⟩ : Shape).rowMajor.symm n a).val - (![0, 0, 3] : Fin 3 → ℕ) a, (hin a).2⟩) else 0

theorem windowTerm_at (x : S128x8x4.Idx → EReal) (t n : Fin 4) :
    windowTerm b h x t n = if hn : 3 ≤ t.val + n.val then x (ix3 b h ⟨t.val + n.val - 3, by omega⟩) else 0 := by
  have hw : ∀ (n : Fin 4) (a : Fin 3), ((⟨3, ![1, 1, 4]⟩ : Shape).rowMajor.symm n a).val = (![0, 0, n.val] : Fin 3 → ℕ) a := by decide +kernel
  unfold windowTerm
  by_cases hn : 3 ≤ t.val + n.val
  · rw [dif_pos hn, dif_pos]
    · congr 1
      funext a
      apply Fin.ext
      show _ * _ + _ - _ = _
      rw [hw]
      fin_cases a <;> simp
    · intro a
      rw [hw]
      fin_cases a <;> simp <;> omega
  · rw [dif_neg hn, dif_neg]
    intro hin
    have := (hin 2).1
    rw [hw] at this
    simp at this
    omega

/-- A window of four that ends at each element sums the values up to it. -/
theorem window_at (x : S128x8x4.Idx → EReal) (t : Fin 4) :
    Ideal.hostReduceWindowAdd ![1, 1, 4] ![1, 1, 1] ![0, 0, 3] ![0, 0, 0] reduceWindows_S128x8x4_S128x8x4_w1s1p0_0_w1s1p0_0_w4s1p3_0 x 0 (ix3 b h t)
      = ∑ s : Fin 4, if s ≤ t then x (ix3 b h s) else 0 := by
  unfold Ideal.hostReduceWindowAdd Host.reduceWindow
  refine (congrArg (fun f => List.foldl f 0 (List.finRange 4)) (funext fun r => funext fun n : Fin 4 => congrArg (r + ·) (?_ : _ = windowTerm b h x t n))).trans ?_
  · unfold windowTerm
    exact dite_congr rfl (fun _ => rfl) (fun _ => rfl)
  rw [show List.finRange 4 = [0, 1, 2, 3] by decide]
  simp only [List.foldl, windowTerm_at]
  rw [Fin.sum_univ_four]
  fin_cases t <;> simp <;> rfl

theorem v22_at (t : Fin 4) : val_main_v22 (F := Ideal) x5 (ix3 b h t) = upTo (gates x5 b h) t := by
  have hz : val_main_call0_call0_v0 (F := Ideal) (Shape.Idx.first h_S_) = 0 := by
    unfold val_main_call0_call0_v0 val_main_call0_call0_cst
    pointwise
  unfold val_main_v22 Host.reduceWindowAdd upTo
  rw [Ideal.hostReduceWindowAdd_def, hz, window_at]
  simp only [v21_at]

theorem v24_at (t s : Fin 4) : val_main_v24 (F := Ideal) (ix2 t s) = if s ≤ t then 1#1 else 0#1 := by
  fin_cases t <;> fin_cases s <;> rfl

theorem v33_at (t s : Fin 4) : val_main_v33 (F := Ideal) x4 x5 (ix4 b h t s) = rD (gates x4 b h) (gates x5 b h) t s := by
  unfold val_main_v33 val_main_v32 val_main_v31 val_main_v30 val_main_v29 val_main_v28 val_main_v27 val_main_v26 val_main_v25 val_main_call2_v1 val_main_call2_v2 val_main_call2_v0 val_main_cst rD
  pointwise
  have hc : id (constant (F := Ideal) S_ FTy.f32 0xFF800000#32) ix0 = ⊥ := neg_inf
  simp only [v24_at, v22_at, v20_at, sel, hc]

theorem v36_at (t : Fin 4) : val_main_v36 (F := Ideal) x5 x9 (ix3 b h t) = upTo (gates x5 b h) t + x9 (ix2 b h) := by
  unfold val_main_v36 val_main_v35 val_main_v34
  pointwise
  rw [v22_at]

theorem v38_at (t : Fin 4) : val_main_v38 (F := Ideal) x4 x5 x9 (ix3 b h t) = rM (gates x4 b h) (gates x5 b h) (x9 (ix2 b h)) t := by
  unfold val_main_v38 val_main_v37 val_main_cst_0 rM
  pointwise
  simp only [v36_at, v33_at, neg_inf]

theorem v40_at (t : Fin 4) : val_main_v40 (F := Ideal) x4 x5 x9 (ix3 b h t) = rW (gates x4 b h) (gates x5 b h) (x9 (ix2 b h)) t := by
  unfold val_main_v40 val_main_v39 rW
  pointwise
  simp only [v36_at, v38_at]

theorem v46_at (t s : Fin 4) : val_main_v46 (F := Ideal) x0 x1 x4 x5 x9 (ix4 b h t s)
    = rS (rows x0 b h) (rows x1 b h) (gates x4 b h) (gates x5 b h) (x9 (ix2 b h)) t s := by
  unfold val_main_v46 val_main_v45 val_main_v44 val_main_v43 val_main_v42 val_main_v41 rS score
  pointwise
  simp only [v17_at, v18_at, v33_at, v38_at]

theorem v52_at (t : Fin 4) (j : Fin 128) : val_main_v52 (F := Ideal) x0 x1 x2 x4 x5 x7 x9 (ix4 b h t j)
    = (∑ s : Fin 4, rS (rows x0 b h) (rows x1 b h) (gates x4 b h) (gates x5 b h) (x9 (ix2 b h)) t s * rows x2 b h s j)
      + rW (gates x4 b h) (gates x5 b h) (x9 (ix2 b h)) t * ∑ d : Fin 128, rows x0 b h t d * x7 (ix5 1 b h j d) := by
  unfold val_main_v52 val_main_v51 val_main_v50 val_main_v49 val_main_v48 val_main_v47
  pointwise
  simp only [v46_at, v19_at, v40_at, v17_at, v16_at]

theorem v60_at (t : Fin 4) : val_main_v60 (F := Ideal) x0 x1 x4 x5 x8 x9 (ix3 b h t)
    = max (FloatOps.absf (F := Ideal) (φ := .f32) ((∑ s : Fin 4, rS (rows x0 b h) (rows x1 b h) (gates x4 b h) (gates x5 b h) (x9 (ix2 b h)) t s)
        + rW (gates x4 b h) (gates x5 b h) (x9 (ix2 b h)) t * ∑ d : Fin 128, x8 (ix3 b h d) * rows x0 b h t d)) (Ideal.exp (-rM (gates x4 b h) (gates x5 b h) (x9 (ix2 b h)) t)) := by
  unfold val_main_v60 val_main_v59 val_main_v58 val_main_v57 val_main_v56 val_main_v55 val_main_v54 val_main_v53 val_main_cst_1
  pointwise
  simp only [v46_at, v38_at, v40_at, v17_at]

theorem v63_at (t : Fin 4) (j : Fin 128) : val_main_v63 (F := Ideal) x0 x1 x2 x4 x5 x7 x8 x9 (ix4 b h t j)
    = rH (rows x0 b h) (rows x1 b h) (rows x2 b h) (gates x4 b h) (gates x5 b h) (fun i d => x7 (ix5 1 b h i d)) (fun d => x8 (ix3 b h d)) (x9 (ix2 b h)) t j := by
  unfold val_main_v63 val_main_v62 val_main_v61 rH
  pointwise
  simp only [v52_at, v60_at, mul_comm (x7 _)]

theorem v65_at : val_main_v65 (F := Ideal) x4 x5 x9 (ix2 b h) = rM (gates x4 b h) (gates x5 b h) (x9 (ix2 b h)) 3 := by
  unfold val_main_v65 val_main_v64
  pointwise
  exact v38_at _ _ _ _ _ 3

theorem v73_at (s : Fin 4) : val_main_v73 (F := Ideal) x4 x5 x9 (ix3 b h s) = rE (gates x4 b h) (gates x5 b h) (x9 (ix2 b h)) s := by
  unfold val_main_v73 val_main_v72 val_main_v71 val_main_v70 val_main_v69 val_main_v68 val_main_v67 val_main_v66 rE
  pointwise
  simp only [v22_at, v20_at, v65_at]

theorem v78_at : val_main_v78 (F := Ideal) x4 x5 x9 (ix2 b h) = rO (gates x4 b h) (gates x5 b h) (x9 (ix2 b h)) := by
  unfold val_main_v78 val_main_v77 val_main_v76 val_main_v75 val_main_v74 rO
  pointwise
  simp only [v22_at, v65_at]

/-- The reference's new matrix. -/
theorem v86_at (i j : Fin 128) : val_main_v86 (F := Ideal) x1 x2 x4 x5 x7 x9 (ix4 b h i j)
    = rC (rows x1 b h) (rows x2 b h) (gates x4 b h) (gates x5 b h) (fun i d => x7 (ix5 1 b h i d)) (x9 (ix2 b h)) i j := by
  unfold val_main_v86 val_main_v85 val_main_v84 val_main_v83 val_main_v82 val_main_v81 val_main_v80 val_main_v79 rC
  pointwise
  simp only [v78_at, v16_at, v73_at, v19_at, v18_at]

/-- The reference's new normaliser. -/
theorem v91_at (j : Fin 128) : val_main_v91 (F := Ideal) x1 x4 x5 x8 x9 (ix3 b h j)
    = rN (rows x1 b h) (gates x4 b h) (gates x5 b h) (fun d => x8 (ix3 b h d)) (x9 (ix2 b h)) j := by
  unfold val_main_v91 val_main_v90 val_main_v89 val_main_v88 val_main_v87 rN
  pointwise
  simp only [v78_at, v73_at, v18_at]

/-- The reference's new maximum. -/
theorem v129_at (j : Fin 128) : val_main_v129 (F := Ideal) x4 x5 x9 (ix3 b h j) = rM (gates x4 b h) (gates x5 b h) (x9 (ix2 b h)) 3 := by
  unfold val_main_v129 val_main_v128
  pointwise
  exact v65_at _ _ _ _ _

/-- The reference's stacked matrices: layer 0's as given, layer 1's new. -/
theorem v127_at0 (i j : Fin 128) : val_main_v127 (F := Ideal) x1 x2 x4 x5 x7 x9 x10 (ix5 0 b h i j) = x10 (ix5 0 b h i j) := by
  unfold val_main_v127
  refine (concatenate_pair_apply_left (t := S2x128x8x128x128) (s₁ := S1x128x8x128x128) (s₂ := S1x128x8x128x128) 0 _ _ _ _ rfl (ix5 (0 : Fin 1) b h i j) ?_).trans ?_
  · intro a
    fin_cases a <;> rfl
  · unfold val_main_v125 val_main_v124 val_main_v123
    pointwise

theorem v127_at1 (i j : Fin 128) : val_main_v127 (F := Ideal) x1 x2 x4 x5 x7 x9 x10 (ix5 1 b h i j) = val_main_v86 (F := Ideal) x1 x2 x4 x5 x7 x9 (ix4 b h i j) := by
  unfold val_main_v127
  refine (concatenate_pair_apply_right (t := S2x128x8x128x128) (s₁ := S1x128x8x128x128) (s₂ := S1x128x8x128x128) 0 _ _ _ _ rfl rfl (ix5 (0 : Fin 1) b h i j) ?_ ?_).trans ?_
  · intro a
    fin_cases a <;> simp
  · rfl
  · unfold val_main_v126
    pointwise

theorem v92_at (t : Fin 4) (j : Fin 128) : val_main_v92 (F := Ideal) x0 x1 x2 x4 x5 x7 x8 x9 (ix4 b t h j)
    = rH (rows x0 b h) (rows x1 b h) (rows x2 b h) (gates x4 b h) (gates x5 b h) (fun i d => x7 (ix5 1 b h i d)) (fun d => x8 (ix3 b h d)) (x9 (ix2 b h)) t j := by
  unfold val_main_v92
  pointwise
  exact v63_at _ _ _ _ _ _ _ _ _ _ _ _

theorem v96_at (t : Fin 4) : val_main_v96 (F := Ideal) x0 x1 x2 x4 x5 x7 x8 x9 (ix4 b t h 0)
    = meanOf fun d => val_main_v92 (F := Ideal) x0 x1 x2 x4 x5 x7 x8 x9 (ix4 b t h d) := by
  unfold val_main_v96 val_main_v95 val_main_v94 val_main_v93 val_main_cst_2 val_main_cst_3 meanOf
  pointwise

theorem v110_at (t : Fin 4) (j : Fin 128) : val_main_v110 (F := Ideal) x0 x1 x2 x4 x5 x7 x8 x9 (ix4 b t h j)
    = normOf (fun d => val_main_v92 (F := Ideal) x0 x1 x2 x4 x5 x7 x8 x9 (ix4 b t h d)) j := by
  unfold val_main_v110 val_main_v109 val_main_v108 val_main_v107 val_main_v106 val_main_v105 val_main_v104 val_main_v103 val_main_v102 val_main_v101 val_main_v100 val_main_v99 val_main_v98 val_main_v97 val_main_cst_4 val_main_cst_5 val_main_cst_6 normOf
  pointwise
  simp only [v96_at]
  rfl

/-- The reference's output. -/
theorem v122_at (t : Fin 4) (j : Fin 128) (r : Fin 512) (hr : r.val = 4 * b.val + t.val) : val_main_v122 (F := Ideal) x0 x1 x2 x3 x4 x5 x6 x7 x8 x9 (ix2 r (col h j))
    = normOf (fun d => rH (rows x0 b h) (rows x1 b h) (rows x2 b h) (gates x4 b h) (gates x5 b h) (fun i d => x7 (ix5 1 b h i d)) (fun d => x8 (ix3 b h d)) (x9 (ix2 b h)) t d) j
      * x6 (ix1 (col h j)) * sig (rows x3 b h t j) := by
  unfold val_main_v122
  refine (shapeCast_apply _ _ (ix2 r (col h j)) (ix4 b t h j) ?_).trans ?_
  · rw [Shape.rowMajor_val_two, Shape.rowMajor_val_four]
    unfold col
    simp
    omega
  · unfold val_main_v121 val_main_v120 val_main_v119 val_main_v118 val_main_v117 val_main_v116 val_main_v115 val_main_v114 val_main_v113 val_main_v112 val_main_v111 val_main_cst_7 val_main_cst_8 sig
    pointwise
    simp only [v110_at, v92_at, v10_at]
    exact congrArg (fun l => _ * x6 (ix1 l) * _) (col_eq h j _ rfl)

end Cert.Mlstm.Ref

end
-- ==== Proof.MlstmPre.lean ====
module

public import proofs.«01_k».proof.Pre_lf_finite
public import Idealize.ShloMosaic.Lib.Pipeline.ValueKit
public import Idealize.ShloMosaic.PureOps.Ideal

@[expose] public section

set_option maxRecDepth 16384

noncomputable section

namespace Cert.Mlstm

open Cert.Pre_lf_finite Idealize.ShloMosaic

/-- The shapes the precondition's operations ask for. -/
theorem facts : Cert.Pre_lf_finite.Facts where
  bcast_S_S8704x128 := by decide
  reducesTo_S8704x128_S_d0_1 := by decide
  h_S_ := by decide

/-- Where the precondition holds, every forget gate is a real number. -/
theorem real_of_pre [Cert.Pre_lf_finite.Facts] (a0 a1 a2 : FVec Ideal S8704x1024 .bf16) (a3 : FVec Ideal S8704x1024 .f32) (a4 a5 : FVec Ideal S8704x128 .f32)
    (a6 : FVec Ideal S1024 .f32) (a7 : FVec Ideal S2x128x8x128x128 .f32) (a8 : FVec Ideal S128x8x128 .f32) (a9 : FVec Ideal S128x8 .f32) (a10 : FVec Ideal S2x128x8x128x128 .f32)
    (hp : Cert.Pre_lf_finite.fn (F := Ideal) a0 a1 a2 a3 a4 a5 a6 a7 a8 a9 a10 = fun _ => 1#1) (i : S8704x128.Idx) : ∃ x : ℝ, a5 i = (x : EReal) := by
  have h := congrFun hp (fun a => a.elim0)
  unfold Cert.Pre_lf_finite.fn at h
  simp only [Host.reduce_eq_fold] at h
  have hr : ∀ {x y z : BitVec 1}, IntOp.andi y z = 1#1 ↔ y = 1#1 ∧ z = 1#1 := by decide
  have h2 := ((Finset.fold_op_rel_iff_and (r := fun _ y => y = 1#1) (c := (1#1 : BitVec 1)) (fun {x y z} => hr (x := x))).mp h).2 i
    (Finset.mem_filter.mpr ⟨Finset.mem_univ _, Subsingleton.elim _ _⟩)
  have h3 : Ideal.cmp .olt (max (a5 i) (-(a5 i))) (Ideal.ofBits .f32 0x7F800000#32) = 1#1 := h2
  rw [show (Ideal.ofBits .f32 0x7F800000#32 : EReal) = ⊤ by simp [Ideal.ofBits, Ideal.ieee]] at h3
  have h4 : max (a5 i) (-(a5 i)) < (⊤ : EReal) := by
    by_contra hn
    simp [Ideal.cmp, hn] at h3
  generalize a5 i = v at h4
  induction v using EReal.rec with
  | bot => simp at h4
  | coe x => exact ⟨x, rfl⟩
  | top => simp at h4

end Cert.Mlstm

end
-- ==== Proof.Mlstm.lean ====
module

public import proofs.«01_k».proof.Defs
public import proofs.«01_k».proof.Proof.Gen.Kernel1Ideal.Value
public import proofs.«01_k».proof.Proof.Gen.Reference1Ideal.Read
public import Idealize.ShloMosaic.Lib.Pipeline.ValueKit
public import proofs.«01_k».proof.Proof.MlstmPieces
public import proofs.«01_k».proof.Proof.MlstmBlock
public import proofs.«01_k».proof.Proof.MlstmRef
public import proofs.«01_k».proof.Proof.MlstmPre

@[expose] public section

set_option maxRecDepth 16384

noncomputable section

namespace Cert.Mlstm

open Cert.Kernel1Ideal Cert.Kernel1Ideal.Gen Idealize.ShloMosaic Idealize.ShloMosaic.TcCoe Idealize.SL.Sem
open Cert.Reference1Ideal.Read

/-- Where each window's block is at a grid point. -/
theorem idx : ∀ t : Fin grid0.N,
    win0_0.index t = ![512 + (grid0.coords t 0).val, 0] ∧ win0_1.index t = ![512 + (grid0.coords t 0).val, 0]
      ∧ win0_2.index t = ![512 + (grid0.coords t 0).val, 0] ∧ win0_3.index t = ![512 + (grid0.coords t 0).val, 0]
      ∧ win0_4.index t = ![512 + (grid0.coords t 0).val, 0] ∧ win0_5.index t = ![512 + (grid0.coords t 0).val, 0]
      ∧ win0_6.index t = ![0, 0] ∧ win0_7.index t = ![1, (grid0.coords t 0).val, 0, 0, 0]
      ∧ win0_8.index t = ![(grid0.coords t 0).val, 0, 0] ∧ win0_9.index t = ![(grid0.coords t 0).val, 0, 0] := by
  decide +kernel

/-- Where each result's block is at a grid point. -/
theorem idxOut : ∀ t : Fin grid0.N,
    win0_10.index t = ![(grid0.coords t 0).val, 0] ∧ win0_11.index t = ![1, (grid0.coords t 0).val, 0, 0, 0]
      ∧ win0_12.index t = ![(grid0.coords t 0).val, 0, 0] ∧ win0_13.index t = ![(grid0.coords t 0).val, 0, 0] := by
  decide +kernel

/-- Loading a whole block is the block. -/
theorem ldRows {e : EltTy} (X : Vec Ideal S16x1024 e) (inb) : View.ld (Val := Elt Ideal) X (Rect.unit (s := S16x1024) ![0, 0] ![16, 1024] inb) = X :=
  View.ld_unit_lit inb X (by decide)
theorem ldGates {e : EltTy} (X : Vec Ideal S16x128 e) (inb) : View.ld (Val := Elt Ideal) X (Rect.unit (s := S16x128) ![0, 0] ![16, 128] inb) = X :=
  View.ld_unit_lit inb X (by decide)
theorem ldGain {e : EltTy} (X : Vec Ideal S1x1024 e) (inb) : View.ld (Val := Elt Ideal) X (Rect.unit (s := S1x1024) ![0, 0] ![1, 1024] inb) = X :=
  View.ld_unit_lit inb X (by decide)

section Blocks

variable (m : (ℓ : Loc nD τ Cert.Kernel1Ideal.sig) → Buf (Elt Ideal) ℓ) (c : Dev nD) (t : Fin grid0.N)

/-- The batch element of the arrays at place `b` of a grid point's block. -/
def elt (b : Fin 4) : Fin 128 := ⟨4 * (grid0.coords t 0).val + b.val, by have : (grid0.coords t 0).val < 32 := (grid0.coords t 0).isLt; omega⟩

variable (b : Fin 4) (h : Fin 8)

/-- The queries, keys and values of a block. -/
theorem q_blk : rows (iblk m c 0 t) b h = Ref.rows (m ((c : Thread nD τ).loc main_arg0)) (elt t b) h := by
  obtain ⟨e0, -⟩ := idx t
  have hx : (grid0.coords t 0).val < 32 := (grid0.coords t 0).isLt
  funext s d
  unfold rows Ref.rows
  blk_point [iblk, V, e0, tok, col, Ref.tok, Ref.col, elt]
theorem k_blk : rows (iblk m c 1 t) b h = Ref.rows (m ((c : Thread nD τ).loc main_arg1)) (elt t b) h := by
  obtain ⟨-, e1, -⟩ := idx t
  have hx : (grid0.coords t 0).val < 32 := (grid0.coords t 0).isLt
  funext s d
  unfold rows Ref.rows
  blk_point [iblk, V, e1, tok, col, Ref.tok, Ref.col, elt]
theorem v_blk : rows (iblk m c 2 t) b h = Ref.rows (m ((c : Thread nD τ).loc main_arg2)) (elt t b) h := by
  obtain ⟨-, -, e2, -⟩ := idx t
  have hx : (grid0.coords t 0).val < 32 := (grid0.coords t 0).isLt
  funext s d
  unfold rows Ref.rows
  blk_point [iblk, V, e2, tok, col, Ref.tok, Ref.col, elt]

/-- The output gate of a block. -/
theorem o_blk : rows (iblk m c 3 t) b h = Ref.rows (m ((c : Thread nD τ).loc main_arg3)) (elt t b) h := by
  obtain ⟨-, -, -, e3, -⟩ := idx t
  have hx : (grid0.coords t 0).val < 32 := (grid0.coords t 0).isLt
  funext s d
  unfold rows Ref.rows
  blk_point [iblk, V, e3, tok, col, Ref.tok, Ref.col, elt]

/-- The input and forget gates of a block. -/
theorem i_blk : gates (iblk m c 4 t) b h = Ref.gates (m ((c : Thread nD τ).loc main_arg4)) (elt t b) h := by
  obtain ⟨-, -, -, -, e4, -⟩ := idx t
  have hx : (grid0.coords t 0).val < 32 := (grid0.coords t 0).isLt
  funext s
  unfold gates Ref.gates
  blk_point [iblk, V, e4, tok, Ref.tok, elt]
theorem f_blk : gates (iblk m c 5 t) b h = Ref.gates (m ((c : Thread nD τ).loc main_arg5)) (elt t b) h := by
  obtain ⟨-, -, -, -, -, e5, -⟩ := idx t
  have hx : (grid0.coords t 0).val < 32 := (grid0.coords t 0).isLt
  funext s
  unfold gates Ref.gates
  blk_point [iblk, V, e5, tok, Ref.tok, elt]

/-- The gain of the norm. -/
theorem g_blk (j : Fin 128) : (iblk m c 6 t) (ix2 0 (col h j)) = (m ((c : Thread nD τ).loc main_arg6)) (ix1 (Ref.col h j)) := by
  obtain ⟨-, -, -, -, -, -, e6, -⟩ := idx t
  blk_point [iblk, V, e6, col, Ref.col]

/-- The matrix, the normaliser and the maximum a block starts from. -/
theorem C_blk (i j : Fin 128) : (iblk m c 7 t) (ix5 0 b h i j) = (m ((c : Thread nD τ).loc main_arg7)) (ix5 1 (elt t b) h i j) := by
  obtain ⟨-, -, -, -, -, -, -, e7, -⟩ := idx t
  have hx : (grid0.coords t 0).val < 32 := (grid0.coords t 0).isLt
  blk_point [iblk, V, e7, elt]
theorem n_blk (j : Fin 128) : (iblk m c 8 t) (ix3 b h j) = (m ((c : Thread nD τ).loc main_arg8)) (ix3 (elt t b) h j) := by
  obtain ⟨-, -, -, -, -, -, -, -, e8, -⟩ := idx t
  have hx : (grid0.coords t 0).val < 32 := (grid0.coords t 0).isLt
  blk_point [iblk, V, e8, elt]
theorem m_blk (j : Fin 128) : (iblk m c 9 t) (ix3 b h j) = (m ((c : Thread nD τ).loc main_arg9)) (ix2 (elt t b) h) := by
  obtain ⟨-, -, -, -, -, -, -, -, -, e9⟩ := idx t
  have hx : (grid0.coords t 0).val < 32 := (grid0.coords t 0).isLt
  blk_point [iblk, V, e9, elt]

/-- What a grid point leaves of the normaliser is the reference's at the place the block has in the array. -/
theorem pointN (hf : ∀ i, ∃ x : ℝ, (m ((c : Thread nD τ).loc main_arg5)) i = (x : EReal)) (j : Fin 128) :
    (outsAt0 m c t).2.2.1 (ix3 b h j) = val_main_v91 (F := Ideal) (m ((c : Thread nD τ).loc main_arg1)) (m ((c : Thread nD τ).loc main_arg4)) (m ((c : Thread nD τ).loc main_arg5)) (m ((c : Thread nD τ).loc main_arg8)) (m ((c : Thread nD τ).loc main_arg9)) (ix3 (elt t b) h j) := by
  unfold outsAt0 out0_A_12
  simp only []
  rw [runN, View.read_writes_junk_eq_canon]
  simp only [Memref.IsWhole.read_unread, ldRows, ldGates, ldGain]
  rw [canonN]
  rw [outN_eq _ _ _ _ _ b h _ (fun l => m_blk m c t b h l) j, Ref.v91_at, k_blk, i_blk, f_blk]
  rw [show (fun d => (iblk m c 8 t) (ix3 b h d)) = fun d => (m ((c : Thread nD τ).loc main_arg8)) (ix3 (elt t b) h d) from funext fun d => n_blk m c t b h d]
  exact (rN_eq _ _ _ _ _ (fun s => hf _) j).symm

/-- What a grid point leaves of the maximum is the reference's at the place the block has in the array. -/
theorem pointM (hf : ∀ i, ∃ x : ℝ, (m ((c : Thread nD τ).loc main_arg5)) i = (x : EReal)) (j : Fin 128) :
    (outsAt0 m c t).2.2.2 (ix3 b h j) = val_main_v129 (F := Ideal) (m ((c : Thread nD τ).loc main_arg4)) (m ((c : Thread nD τ).loc main_arg5)) (m ((c : Thread nD τ).loc main_arg9)) (ix3 (elt t b) h j) := by
  unfold outsAt0 out0_A_13
  simp only []
  rw [runM, View.read_writes_junk_eq_canon]
  simp only [Memref.IsWhole.read_unread, ldRows, ldGates, ldGain]
  rw [canonM]
  rw [outM_eq _ _ _ b h _ (fun l => m_blk m c t b h l) j, Ref.v129_at, i_blk, f_blk]
  exact (rMax_eq _ _ _ (fun s => hf _)).symm

/-- What a grid point leaves of the matrix is the reference's at the place the block has in the array. -/
theorem pointC (hf : ∀ i, ∃ x : ℝ, (m ((c : Thread nD τ).loc main_arg5)) i = (x : EReal)) (z : Fin 1) (i j : Fin 128) :
    (outsAt0 m c t).2.1 (ix5 z b h i j) = val_main_v127 (F := Ideal) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg9)) (m ((c : Thread nD τ).loc main_arg10)) (ix5 1 (elt t b) h i j) := by
  unfold outsAt0 out0_A_11
  simp only []
  rw [runC, View.read_writes_junk_eq_canon]
  simp only [Memref.IsWhole.read_unread, ldRows, ldGates, ldGain]
  rw [canonC]
  rw [outC_eq _ _ _ _ _ _ b h _ (fun l => m_blk m c t b h l) i j, Ref.v127_at1, Ref.v86_at, k_blk, v_blk, i_blk, f_blk]
  rw [show (fun i d => (iblk m c 7 t) (ix5 0 b h i d)) = fun i d => (m ((c : Thread nD τ).loc main_arg7)) (ix5 1 (elt t b) h i d) from funext fun i => funext fun d => C_blk m c t b h i d]
  exact (rC_eq _ _ _ _ _ _ (fun s => hf _) i j).symm

/-- What a grid point leaves of the output is the reference's at the place the block has in the array. -/
theorem pointH (hf : ∀ i, ∃ x : ℝ, (m ((c : Thread nD τ).loc main_arg5)) i = (x : EReal)) (s : Fin 4) (j : Fin 128) (r : Fin 512) (hr : r.val = 4 * (elt t b).val + s.val) :
    (outsAt0 m c t).1 (ix2 (tok b s) (col h j)) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r (Ref.col h j)) := by
  unfold outsAt0 out0_A_10
  simp only []
  rw [runH, View.read_writes_junk_eq_canon]
  simp only [Memref.IsWhole.read_unread, ldRows, ldGates, ldGain]
  rw [canonH]
  rw [outH_at _ _ _ _ _ _ _ _ _ _ b h _ (fun l => m_blk m c t b h l) s j, Ref.v122_at _ _ _ _ _ _ _ _ _ _ (elt t b) h s j r hr, q_blk, k_blk, v_blk, o_blk, i_blk, f_blk, g_blk]
  rw [show (fun i d => (iblk m c 7 t) (ix5 0 b h i d)) = fun i d => (m ((c : Thread nD τ).loc main_arg7)) (ix5 1 (elt t b) h i d) from funext fun i => funext fun d => C_blk m c t b h i d,
    show (fun d => (iblk m c 8 t) (ix3 b h d)) = fun d => (m ((c : Thread nD τ).loc main_arg8)) (ix3 (elt t b) h d) from funext fun d => n_blk m c t b h d]
  exact congrArg₂ (· * ·) (congrArg₂ (· * ·) (congrArg (fun f => normOf f j) (funext fun d => (rH_eq _ _ _ _ _ _ _ _ (fun s => hf _) s d).symm)) rfl) rfl

end Blocks

/-- The array of the output after the run is the reference's of the launched arguments. -/
theorem final10 (m : (ℓ : Loc nD τ Cert.Kernel1Ideal.sig) → Buf (Elt Ideal) ℓ) (c : Dev nD) (hf : ∀ i, ∃ x : ℝ, (m ((c : Thread nD τ).loc main_arg5)) i = (x : EReal)) :
    (dats m 0 c).arrAt 10 cfg0.N = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  obtain ⟨e10, e11, e12, e13⟩ := idxOut t
  have hx : (grid0.coords t 0).val < 32 := (grid0.coords t 0).isLt
  blk_simp
  rw [after0_10]
  obtain ⟨r, l, rfl⟩ : ∃ (r : Fin 16) (l : Fin 1024), y = ix2 r l := ⟨_, _, eq_ix2 y⟩
  obtain ⟨b, s, rfl⟩ : ∃ (b : Fin 4) (s : Fin 4), r = tok b s := ⟨⟨r.val / 4, by omega⟩, ⟨r.val % 4, by omega⟩, Fin.ext (by simp [tok]; omega)⟩
  obtain ⟨h, j, rfl⟩ : ∃ (h : Fin 8) (j : Fin 128), l = col h j := ⟨⟨l.val / 128, by omega⟩, ⟨l.val % 128, by omega⟩, Fin.ext (by simp [col]; omega)⟩
  have hi : (((View.whole main_v3_0).slice (win0_10.rect t)).emb (ix2 (tok b s) (col h j))) = ix2 ⟨4 * (elt t b).val + s.val, by omega⟩ (Ref.col h j) := by
    blk_ext [e10, elt, tok, col, Ref.col]
  rw [hi]
  exact pointH m c t b h hf s j _ rfl

/-- The array of the matrix after the run is the reference's of the launched arguments. -/
theorem final11 (m : (ℓ : Loc nD τ Cert.Kernel1Ideal.sig) → Buf (Elt Ideal) ℓ) (c : Dev nD) (hf : ∀ i, ∃ x : ℝ, (m ((c : Thread nD τ).loc main_arg5)) i = (x : EReal)) :
    (dats m 0 c).arrAt 11 cfg0.N = val_main_v127 (F := Ideal) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg9)) (m ((c : Thread nD τ).loc main_arg10)) := by
  refine (dats m 0 c).arrAt_eq_of_coversWhere_of_agree 11 _ (fun β => 1 ≤ β 0) (by decide +kernel) (fun t _ y => ?_) (fun y hy => ?_)
  · obtain ⟨e10, e11, e12, e13⟩ := idxOut t
    have hx : (grid0.coords t 0).val < 32 := (grid0.coords t 0).isLt
    blk_simp
    rw [after0_11]
    obtain ⟨z, b, h, i, j, rfl⟩ : ∃ (z : Fin 1) (b : Fin 4) (h : Fin 8) (i j : Fin 128), y = ix5 z b h i j := ⟨_, _, _, _, _, eq_ix5 y⟩
    have hi : (((View.whole main_v3_1).slice (win0_11.rect t)).emb (ix5 z b h i j)) = ix5 1 (elt t b) h i j := by
      blk_ext [e11, elt]
    rw [hi]
    exact pointC m c t b h hf z i j
  · blk_simp [Pipeline.Window.cell_apply] at hy
    obtain ⟨z, b, h, i, j, rfl⟩ : ∃ (z : Fin 2) (b : Fin 128) (h : Fin 8) (i j : Fin 128), y = ix5 z b h i j := ⟨_, _, _, _, _, eq_ix5 y⟩
    obtain rfl : z = 0 := by
      apply Fin.ext
      simp at hy
      omega
    refine Eq.trans ?_ (Ref.v127_at0 _ _ _ _ _ _ _ b h i j).symm
    rfl

/-- The array of the normaliser after the run is the reference's of the launched arguments. -/
theorem final12 (m : (ℓ : Loc nD τ Cert.Kernel1Ideal.sig) → Buf (Elt Ideal) ℓ) (c : Dev nD) (hf : ∀ i, ∃ x : ℝ, (m ((c : Thread nD τ).loc main_arg5)) i = (x : EReal)) :
    (dats m 0 c).arrAt 12 cfg0.N = val_main_v91 (F := Ideal) (m ((c : Thread nD τ).loc main_arg1)) (m ((c : Thread nD τ).loc main_arg4)) (m ((c : Thread nD τ).loc main_arg5)) (m ((c : Thread nD τ).loc main_arg8)) (m ((c : Thread nD τ).loc main_arg9)) := by
  refine (dats m 0 c).arrAt_eq_of_covers 12 _ (by decide +kernel) fun t _ y => ?_
  obtain ⟨e10, e11, e12, e13⟩ := idxOut t
  have hx : (grid0.coords t 0).val < 32 := (grid0.coords t 0).isLt
  blk_simp
  rw [after0_12]
  obtain ⟨b, h, j, rfl⟩ : ∃ (b : Fin 4) (h : Fin 8) (j : Fin 128), y = ix3 b h j := ⟨_, _, _, eq_ix3 y⟩
  have hi : (((View.whole main_v3_2).slice (win0_12.rect t)).emb (ix3 b h j)) = ix3 (elt t b) h j := by
    blk_ext [e12, elt]
  rw [hi]
  exact pointN m c t b h hf j

/-- The array of the maximum after the run is the reference's of the launched arguments. -/
theorem final13 (m : (ℓ : Loc nD τ Cert.Kernel1Ideal.sig) → Buf (Elt Ideal) ℓ) (c : Dev nD) (hf : ∀ i, ∃ x : ℝ, (m ((c : Thread nD τ).loc main_arg5)) i = (x : EReal)) :
    (dats m 0 c).arrAt 13 cfg0.N = val_main_v129 (F := Ideal) (m ((c : Thread nD τ).loc main_arg4)) (m ((c : Thread nD τ).loc main_arg5)) (m ((c : Thread nD τ).loc main_arg9)) := by
  refine (dats m 0 c).arrAt_eq_of_covers 13 _ (by decide +kernel) fun t _ y => ?_
  obtain ⟨e10, e11, e12, e13⟩ := idxOut t
  have hx : (grid0.coords t 0).val < 32 := (grid0.coords t 0).isLt
  blk_simp
  rw [after0_13]
  obtain ⟨b, h, j, rfl⟩ : ∃ (b : Fin 4) (h : Fin 8) (j : Fin 128), y = ix3 b h j := ⟨_, _, _, eq_ix3 y⟩
  have hi : (((View.whole main_v3_3).slice (win0_13.rect t)).emb (ix3 b h j)) = ix3 (elt t b) h j := by
    blk_ext [e13, elt]
  rw [hi]
  exact pointM m c t b h hf j

/-- Where every forget gate is a real number, the program and the reference, run in exact arithmetic on the same
    arguments, end with the same results. -/
theorem equal [Cert.Pre_lf_finite.Facts] : Cert.algebraic_Kernel1Ideal_Reference1Ideal_pre_lf_finite := by
  intro m ρ m' ρ' hpre hagree
  have hf : ∀ c : Dev nD, ∀ i, ∃ x : ℝ, (m ((c : Thread nD τ).loc main_arg5)) i = (x : EReal) := fun c => real_of_pre _ _ _ _ _ _ _ _ _ _ _ (hpre c)
  refine ⟨fun c => val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)), fun c => val_main_v127 (F := Ideal) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg9)) (m ((c : Thread nD τ).loc main_arg10)), fun c => val_main_v91 (F := Ideal) (m ((c : Thread nD τ).loc main_arg1)) (m ((c : Thread nD τ).loc main_arg4)) (m ((c : Thread nD τ).loc main_arg5)) (m ((c : Thread nD τ).loc main_arg8)) (m ((c : Thread nD τ).loc main_arg9)), fun c => val_main_v129 (F := Ideal) (m ((c : Thread nD τ).loc main_arg4)) (m ((c : Thread nD τ).loc main_arg5)) (m ((c : Thread nD τ).loc main_arg9)), ?_, ?_⟩
  · refine (θ_run Cert.Kernel1Ideal.defs _ _).mono (fun r h c => ?_) (Cert.Kernel1Ideal.Value.run_blocks (F := Ideal) m ρ)
    have h' := h c
    rw [final10 m c (hf c), final11 m c (hf c), final12 m c (hf c), final13 m c (hf c)] at h'
    exact h'
  · refine (θ_run Cert.Reference1Ideal.defs _ _).mono (fun r h c => ?_) (Cert.Reference1Ideal.Value.run (F := Ideal) m' ρ')
    have h' := h c
    obtain ⟨a0, a1, a2, a3, a4, a5, a6, a7, a8, a9, a10⟩ := hagree c
    refine ⟨h'.1.trans ?_, h'.2.1.trans ?_, h'.2.2.1.trans ?_, h'.2.2.2.1.trans ?_, h'.2.2.2.2⟩
    · rw [val_main_v122_eq]
      show val_main_v122 (F := Ideal) (m' ((c : Thread nD τ).loc Cert.Reference1Ideal.main_arg0)) (m' ((c : Thread nD τ).loc Cert.Reference1Ideal.main_arg1)) (m' ((c : Thread nD τ).loc Cert.Reference1Ideal.main_arg2)) (m' ((c : Thread nD τ).loc Cert.Reference1Ideal.main_arg3)) (m' ((c : Thread nD τ).loc Cert.Reference1Ideal.main_arg4)) (m' ((c : Thread nD τ).loc Cert.Reference1Ideal.main_arg5)) (m' ((c : Thread nD τ).loc Cert.Reference1Ideal.main_arg6)) (m' ((c : Thread nD τ).loc Cert.Reference1Ideal.main_arg7)) (m' ((c : Thread nD τ).loc Cert.Reference1Ideal.main_arg8)) (m' ((c : Thread nD τ).loc Cert.Reference1Ideal.main_arg9)) = _
      rw [a0, a1, a2, a3, a4, a5, a6, a7, a8, a9]
    · rw [val_main_v127_eq]
      show val_main_v127 (F := Ideal) (m' ((c : Thread nD τ).loc Cert.Reference1Ideal.main_arg1)) (m' ((c : Thread nD τ).loc Cert.Reference1Ideal.main_arg2)) (m' ((c : Thread nD τ).loc Cert.Reference1Ideal.main_arg4)) (m' ((c : Thread nD τ).loc Cert.Reference1Ideal.main_arg5)) (m' ((c : Thread nD τ).loc Cert.Reference1Ideal.main_arg7)) (m' ((c : Thread nD τ).loc Cert.Reference1Ideal.main_arg9)) (m' ((c : Thread nD τ).loc Cert.Reference1Ideal.main_arg10)) = _
      rw [a1, a2, a4, a5, a7, a9, a10]
    · rw [val_main_v91_eq]
      show val_main_v91 (F := Ideal) (m' ((c : Thread nD τ).loc Cert.Reference1Ideal.main_arg1)) (m' ((c : Thread nD τ).loc Cert.Reference1Ideal.main_arg4)) (m' ((c : Thread nD τ).loc Cert.Reference1Ideal.main_arg5)) (m' ((c : Thread nD τ).loc Cert.Reference1Ideal.main_arg8)) (m' ((c : Thread nD τ).loc Cert.Reference1Ideal.main_arg9)) = _
      rw [a1, a4, a5, a8, a9]
    · rw [val_main_v129_eq]
      show val_main_v129 (F := Ideal) (m' ((c : Thread nD τ).loc Cert.Reference1Ideal.main_arg4)) (m' ((c : Thread nD τ).loc Cert.Reference1Ideal.main_arg5)) (m' ((c : Thread nD τ).loc Cert.Reference1Ideal.main_arg9)) = _
      rw [a4, a5, a9]

end Cert.Mlstm

end
-- ==== Proof.FfnUp.lean ====
module

public import proofs.«01_k».proof.Defs
public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.FfnUp

open Cert.Kernel2Ideal Cert.Kernel2Ideal.Gen Idealize.ShloMosaic Idealize.ShloMosaic.TcCoe Idealize.SL.Sem
open Cert.Reference2Ideal.Read
open Idealize.ShloMosaic.Pipeline (Dat)

/-- Where each window's block lies at a grid point: the rows follow coordinate 0, the columns coordinate 1. -/
theorem idx : ∀ t : Fin grid0.N,
    win0_0.index t = ![(grid0.coords t 0).val, 0] ∧ win0_1.index t = ![0, (grid0.coords t 1).val]
      ∧ win0_2.index t = ![0, (grid0.coords t 1).val] ∧ win0_3.index t = ![(grid0.coords t 0).val, (grid0.coords t 1).val] := by
  decide +kernel

/-- The result array after the run is the reference's value of the launched arguments. -/
theorem final (m : (ℓ : Loc nD τ sig) → Buf (Elt Ideal) ℓ) (c : Dev nD) :
    (dats m 0 c).arrAt 3 cfg0.N
      = val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := idx t
  blk_simp
  rw [after0_3]
  frame_out
  unfold k0_pay1
  simp only [val_main_v7_apply, val_main_v6_apply, val_main_v5_apply, val_main_call0_v5_apply, val_main_call0_v4_apply,
    val_main_call0_cst_0_apply, val_main_call0_v3_apply, val_main_call0_v2_apply, val_main_call0_cst_apply,
    val_main_call0_v1_apply, val_main_call0_v0_apply, val_main_v2_apply, val_main_v4_apply, val_main_v0_apply, val_main_v1_apply, val_main_v3_apply]
  pointwise
  simp only [zero_sub]
  blk_point [iblk, V, e0, e1, e2, e3]

/-- The program and the reference, run in exact arithmetic on the same arguments, end with the same result. -/
theorem equal : Cert.algebraic_Kernel2Ideal_Reference2Ideal := by
  intro m ρ m' ρ' _ hagree
  refine ⟨fun c => val_main_v7 (F := Ideal) (m ((c : Thread nD τ).loc main_arg0)) (m ((c : Thread nD τ).loc main_arg1)) (m ((c : Thread nD τ).loc main_arg2)), ?_, ?_⟩
  · refine (θ_run Cert.Kernel2Ideal.defs _ _).mono (fun r h c => ?_) (Cert.Kernel2Ideal.Value.run_blocks (F := Ideal) m ρ)
    have h' := h c
    rw [final m c] at h'
    exact h'
  · refine (θ_run Cert.Reference2Ideal.defs _ _).mono (fun r h c => ?_) (Cert.Reference2Ideal.Value.run (F := Ideal) m' ρ')
    have h' := h c
    obtain ⟨a0, a1, a2⟩ := hagree c
    refine ⟨?_, h'.2⟩
    rw [h'.1, a0, a1, a2]
    rfl

end Cert.FfnUp

end
-- ==== Proof.FfnDownRun.lean ====
/- The run of the FFN's down projection (`Cert.Kernel3Ideal`). Its grid is 16 row blocks by 4 column blocks. Each point
   stores its own column block of `alpha * x + 0.5 * (h @ w)` into one slab of a scratch buffer of four; the last point of
   a row block reads the four slabs back, normalises the rows and stores both results. The invariant between points says
   that the slabs stored so far hold what their points stored. -/
module

public import proofs.«01_k».proof.Defs
public import proofs.«01_k».proof.Proof.Gen.Kernel3Ideal.Skeleton
public import proofs.«01_k».proof.Proof.Gen.Kernel3Ideal.Frame
public import Idealize.ShloMosaic.Lib.Pipeline.FrameBody
public import Idealize.ShloMosaic.Lib.Pipeline.ValueKit
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.FfnDown

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The point is the last of its row block: the kernel's own test. -/
abbrev last (i : grid0.Coords) : Prop := k0_cond1 i = 1#1

/-- The last points are those with remainder 3. -/
theorem last_iff : ∀ t : Fin cfg0.N, last (grid0.coords t) ↔ t.val % 4 = 3 := by decide +kernel

/-- A point stores into the slab of its remainder. -/
theorem slab_off : ∀ t : Fin cfg0.N, k0_off1 (grid0.coords t) = ![t.val % 4, 0, 0] := by decide +kernel

/-- Window 0 is used at every point. -/
theorem live0 : ∀ t : Fin cfg0.N, cfg0.idle 0 (grid0.coords t) = false := fun _ => rfl
/-- Window 1 is used at every point. -/
theorem live1 : ∀ t : Fin cfg0.N, cfg0.idle 1 (grid0.coords t) = false := fun _ => rfl
/-- Window 2 is used at every point. -/
theorem live2 : ∀ t : Fin cfg0.N, cfg0.idle 2 (grid0.coords t) = false := fun _ => rfl
/-- Window 3 is used at every point. -/
theorem live3 : ∀ t : Fin cfg0.N, cfg0.idle 3 (grid0.coords t) = false := fun _ => rfl
/-- Window 4 is used at every point. -/
theorem live4 : ∀ t : Fin cfg0.N, cfg0.idle 4 (grid0.coords t) = false := fun _ => rfl
/-- Output 5 is stored exactly at the last point of a row block, -/
theorem live5 : ∀ t : Fin cfg0.N, last (grid0.coords t) → cfg0.idle 5 (grid0.coords t) = false := by decide +kernel
/-- at the other points it is left alone -/
theorem idle5 : ∀ t : Fin cfg0.N, ¬ last (grid0.coords t) → cfg0.idle 5 (grid0.coords t) = true := by decide +kernel
/-- and not written back. -/
theorem kept5 : ∀ t : Fin cfg0.N, ¬ last (grid0.coords t) → (cfg0.win 5).flush t = false := by decide +kernel
/-- Output 6 is stored exactly at the last point of a row block, -/
theorem live6 : ∀ t : Fin cfg0.N, last (grid0.coords t) → cfg0.idle 6 (grid0.coords t) = false := by decide +kernel
/-- at the other points it is left alone -/
theorem idle6 : ∀ t : Fin cfg0.N, ¬ last (grid0.coords t) → cfg0.idle 6 (grid0.coords t) = true := by decide +kernel
/-- and not written back. -/
theorem kept6 : ∀ t : Fin cfg0.N, ¬ last (grid0.coords t) → (cfg0.win 6).flush t = false := by decide +kernel

/-- The staging buffer of window 0 at point `t`, -/
abbrev stage0 (t : Fin cfg0.N) : Memref sig .tc .vmem S544x5632 .bf16 := win0_0.stage (cfg0.slots t 0)
/-- which is a whole buffer. -/
abbrev whole0 (t : Fin cfg0.N) : (stage0 t).IsWhole := hstage0_0 ((cfg0.slots t 0).cast nbuf0_0)
/-- The staging buffer of window 1 at point `t`, -/
abbrev stage1 (t : Fin cfg0.N) : Memref sig .tc .vmem S1x5504x512 .bf16 := win0_1.stage (cfg0.slots t 1)
/-- which is a whole buffer. -/
abbrev whole1 (t : Fin cfg0.N) : (stage1 t).IsWhole := hstage0_1 ((cfg0.slots t 1).cast nbuf0_1)
/-- The staging buffer of window 2 at point `t`, -/
abbrev stage2 (t : Fin cfg0.N) : Memref sig .tc .vmem S544x512 .f32 := win0_2.stage (cfg0.slots t 2)
/-- which is a whole buffer. -/
abbrev whole2 (t : Fin cfg0.N) : (stage2 t).IsWhole := hstage0_2 ((cfg0.slots t 2).cast nbuf0_2)
/-- The staging buffer of window 3 at point `t`, -/
abbrev stage3 (t : Fin cfg0.N) : Memref sig .tc .vmem S1x2048 .f32 := win0_3.stage (cfg0.slots t 3)
/-- which is a whole buffer. -/
abbrev whole3 (t : Fin cfg0.N) : (stage3 t).IsWhole := hstage0_3 ((cfg0.slots t 3).cast nbuf0_3)
/-- The staging buffer of window 4 at point `t`, -/
abbrev stage4 (t : Fin cfg0.N) : Memref sig .tc .vmem S1x2048 .f32 := win0_4.stage (cfg0.slots t 4)
/-- which is a whole buffer. -/
abbrev whole4 (t : Fin cfg0.N) : (stage4 t).IsWhole := hstage0_4 ((cfg0.slots t 4).cast nbuf0_4)
/-- The staging buffer of window 5 at point `t`, -/
abbrev stage5 (t : Fin cfg0.N) : Memref sig .tc .vmem S544x2048 .f32 := win0_5.stage (cfg0.slots t 5)
/-- which is a whole buffer. -/
abbrev whole5 (t : Fin cfg0.N) : (stage5 t).IsWhole := hstage0_5 ((cfg0.slots t 5).cast nbuf0_5)
/-- The staging buffer of window 6 at point `t`, -/
abbrev stage6 (t : Fin cfg0.N) : Memref sig .tc .vmem S544x2048 .bf16 := win0_6.stage (cfg0.slots t 6)
/-- which is a whole buffer. -/
abbrev whole6 (t : Fin cfg0.N) : (stage6 t).IsWhole := hstage0_6 ((cfg0.slots t 6).cast nbuf0_6)
/-- The scratch buffer of four slabs, -/
abbrev scratch : Memref sig .tc .vmem S4x544x512 .f32 := Memref.whole cc0_scratch0
/-- which is a whole buffer. -/
theorem scratch_whole : scratch.IsWhole := Memref.isWhole_whole _

/-! ## One run of the body -/

set_option maxHeartbeats 1000000 in
/-- At a point that is not the last of its row block the body changes the scratch buffer only. What it writes there is the
    list of pieces given. -/
noncomputable def runInner (c : Dev nD) (i : grid0.Coords) (arg2 : Memref sig .tc .vmem S544x5632 .bf16) (harg2 : arg2.IsWhole) (arg3 : Memref sig .tc .vmem S1x5504x512 .bf16) (harg3 : arg3.IsWhole) (arg4 : Memref sig .tc .vmem S544x512 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S544x2048 .f32) (harg7 : arg7.IsWhole) (arg8 : Memref sig .tc .vmem S544x2048 .bf16) (harg8 : arg8.IsWhole) (arg9 : Memref sig .tc .vmem S4x544x512 .f32) (harg9 : arg9.IsWhole) (hl : ¬ last i)
    (x0 : Vec F S544x5632 .bf16) (x1 : Vec F S1x5504x512 .bf16) (x2 : Vec F S544x512 .f32) (x3 : Vec F S1x2048 .f32) (x4 : Vec F S1x2048 .f32) :
    { L : List (View.Piece (Elt F) S4x544x512 .f32) //
      ∀ (y5 : Vec F S544x2048 .f32) (y6 : Vec F S544x2048 .bf16) (s : Vec F S4x544x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6
                ∗ (arg9.view.loc (c : Thread nD τ) ↦[arg9.view.set]{fullShare} arg9.view.writes (Elt F) (harg9.unread s) L)) -∗ K ⟨⟩))
          ⊢ wp frame (wpE (defs₀ (F := F)) Variants.none c none) E (cc0_ffn_down i arg2 harg2 arg3 harg3 arg4 harg4 arg5 harg5 arg6 harg6 arg7 harg7 arg8 harg8 arg9 harg9) K } := by
  refine ⟨?_, fun y5 y6 s E K => ?run⟩
  case run =>
    simp only [cc0_ffn_down_eq_skeleton]; unfold cc0_ffn_down_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hfs
    sl_exec (disch := first | sl_exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 1000000 in
/-- At the last point of a row block, over a scratch buffer whose first three slabs read as `p0`, `p1`, `p2`, the body leaves
    the pieces given in the two outputs' buffers and in the scratch buffer. -/
noncomputable def runLast (c : Dev nD) (i : grid0.Coords) (arg2 : Memref sig .tc .vmem S544x5632 .bf16) (harg2 : arg2.IsWhole) (arg3 : Memref sig .tc .vmem S1x5504x512 .bf16) (harg3 : arg3.IsWhole) (arg4 : Memref sig .tc .vmem S544x512 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S544x2048 .f32) (harg7 : arg7.IsWhole) (arg8 : Memref sig .tc .vmem S544x2048 .bf16) (harg8 : arg8.IsWhole) (arg9 : Memref sig .tc .vmem S4x544x512 .f32) (harg9 : arg9.IsWhole) (hl : last i) (ho : k0_off1 i = ![3, 0, 0])
    (x0 : Vec F S544x5632 .bf16) (x1 : Vec F S1x5504x512 .bf16) (x2 : Vec F S544x512 .f32) (x3 : Vec F S1x2048 .f32) (x4 : Vec F S1x2048 .f32) (p0 p1 p2 : Vec F S1x544x512 .f32) :
    Σ' (L5 : List (View.Piece (Elt F) S544x2048 .f32)), Σ' (L6 : List (View.Piece (Elt F) S544x2048 .bf16)), { L : List (View.Piece (Elt F) S4x544x512 .f32) //
      ∀ (s : Vec F S4x544x512 .f32) (h0 : arg9.view.readAt (Elt F) (Rect.unit (s := S4x544x512) ![0, 0, 0] S1x544x512.size inb_S4x544x512_S1x544x512_0_0_0).toLoadRect (harg9.unread s) = p0) (h1 : arg9.view.readAt (Elt F) (Rect.unit (s := S4x544x512) ![1, 0, 0] S1x544x512.size inb_S4x544x512_S1x544x512_1_0_0).toLoadRect (harg9.unread s) = p1) (h2 : arg9.view.readAt (Elt F) (Rect.unit (s := S4x544x512) ![2, 0, 0] S1x544x512.size inb_S4x544x512_S1x544x512_2_0_0).toLoadRect (harg9.unread s) = p2) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (arg9.view.loc (c : Thread nD τ) ↦[arg9.view.set]{fullShare} arg9.view.writes (Elt F) (harg9.unread s) L)) -∗ K ⟨⟩))
          ⊢ wp frame (wpE (defs₀ (F := F)) Variants.none c none) E (cc0_ffn_down i arg2 harg2 arg3 harg3 arg4 harg4 arg5 harg5 arg6 harg6 arg7 harg7 arg8 harg8 arg9 harg9) K } := by
  refine ⟨?_, ?_, ?_, fun s h0 h1 h2 E K => ?run⟩
  case run =>
    letI : ClosedOff (k0_off1 i) := ⟨![3, 0, 0], ho⟩
    simp only [cc0_ffn_down_eq_skeleton]; unfold cc0_ffn_down_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg9.eq_unread hfs
    sl_exec (disch := first | sl_exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexact HS

/-! ## What the points leave -/

/-- What point `t` stores into its slab. -/
def stored (c : Dev nD) (t : Fin cfg0.N) : Vec F S1x544x512 .f32 :=
  k0_pay1 ((stage2 t).view.readAt (Elt F) (Rect.unit (s := S544x512) ![0, 0] S544x512.size inb_S544x512_S544x512_0_0).toLoadRect ((whole2 t).unread (iblk m c 2 t)))
    ((stage0 t).view.readAt (Elt F) (Rect.unit (s := S544x5632) ![0, 0] S544x5504.size inb_S544x5632_S544x5504_0_0).toLoadRect ((whole0 t).unread (iblk m c 0 t)))
    ((stage1 t).view.readAt (Elt F) (Rect.unit (s := S1x5504x512) ![0, 0, 0] S1x5504x512.size inb_S1x5504x512_S1x5504x512_0_0_0).toLoadRect ((whole1 t).unread (iblk m c 1 t)))

/-- The point of remainder `k` in the row block of `t`. -/
def sib (t : Fin cfg0.N) (k : ℕ) (hk : k < 4) : Fin cfg0.N :=
  ⟨t.val - t.val % 4 + k, by have h : t.val < 64 := lt_of_lt_of_eq t.isLt N_0; have e : cfg0.N = 64 := N_0; omega⟩

/-- At the last point: the pieces the body leaves. -/
abbrev lastRun (c : Dev nD) (t : Fin cfg0.N) (h : t.val % 4 = 3) :=
  runLast c (grid0.coords t) (stage0 t) (whole0 t) (stage1 t) (whole1 t) (stage2 t) (whole2 t) (stage3 t) (whole3 t) (stage4 t) (whole4 t) (stage5 t) (whole5 t) (stage6 t) (whole6 t) scratch scratch_whole ((last_iff t).mpr h) (by rw [slab_off t, h])
    (iblk m c 0 t) (iblk m c 1 t) (iblk m c 2 t) (iblk m c 3 t) (iblk m c 4 t) (stored m c (sib t 0 (by decide))) (stored m c (sib t 1 (by decide))) (stored m c (sib t 2 (by decide)))

/-- Those of the first output tile it, -/
theorem cover5 (c : Dev nD) (t : Fin cfg0.N) (h : t.val % 4 = 3) (y : S544x2048.Idx) :
    ∃ pc ∈ (lastRun m c t h).1, y ∈ pc.1.set :=
  View.cover_of_tiledL (lastRun m c t h).1 S544x512.size (by sl_kernel_rfl) y
/-- and so do those of the second. -/
theorem cover6 (c : Dev nD) (t : Fin cfg0.N) (h : t.val % 4 = 3) (y : S544x2048.Idx) :
    ∃ pc ∈ (lastRun m c t h).2.1, y ∈ pc.1.set :=
  View.cover_of_tiledL (lastRun m c t h).2.1 S544x512.size (by sl_kernel_rfl) y

/-- A view of the shape of an output's buffer, to read pieces through. -/
abbrev view5 : View sig .tc .vmem S544x2048 .f32 := (Memref.whole cc0_stg5_0 : Memref sig .tc .vmem S544x2048 .f32).view
/-- The same for the second output. -/
abbrev view6 : View sig .tc .vmem S544x2048 .bf16 := (Memref.whole cc0_stg6_0 : Memref sig .tc .vmem S544x2048 .bf16).view

/-- What the last point of a row block leaves in the first output's buffer (at other points: of no account). -/
def out5 (c : Dev nD) (t : Fin cfg0.N) : Vec F S544x2048 .f32 :=
  if h : t.val % 4 = 3 then view5.read (Elt F) (view5.writes (Elt F) view5.junk (lastRun m c t h).1) else view5.read (Elt F) view5.junk
/-- What it leaves in the second output's buffer. -/
def out6 (c : Dev nD) (t : Fin cfg0.N) : Vec F S544x2048 .bf16 :=
  if h : t.val % 4 = 3 then view6.read (Elt F) (view6.writes (Elt F) view6.junk (lastRun m c t h).2.1) else view6.read (Elt F) view6.junk

/-- Before point `n` the slabs of the earlier points of its row block hold what those points stored. -/
def Held (c : Dev nD) (n : ℕ) (s : Vec F S4x544x512 .f32) : Prop :=
  ∀ (t : Fin cfg0.N) (k : ℕ), t.val + k = n → t.val % 4 + k < 4 → 0 < k →
    ∀ (y : S4x544x512.Idx) (x : S1x544x512.Idx), (∀ a, (y a).val = (![t.val % 4, 0, 0] : Fin 3 → ℕ) a + (x a).val) → s y = stored m c t x

/-- The invariant between points. -/
def inv (c : Dev nD) (n : ℕ) : sProp 𝕄 :=
  iprop(∃ s, ⌜Held m c n s⌝ ∗ owns (c : Thread nD τ) scratch fullShare s ∗ (∃ r, prngReg c r))

/-- The proof data of the pipeline: each input's buffer holds its block after the body, the outputs' what the last point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ t := inv m c t.val
  q _ := fullShare
  owed _ := 0

/-- The arrays are as the region finds them. -/
theorem A_eq (c : Dev nD) (w : Fin cfg0.W) : (dats m 0 c).A w = V m c (Pipeline.arrRef spec0 w) := by
  dsimp only [dats]
/-- An input's buffer holds its block when the body starts. -/
theorem before0 (c : Dev nD) (t : Fin cfg0.N) (d) : (dats m 0 c).before 0 t d = iblk m c 0 t :=
  before0_0_of m (dats m 0 c) (A_eq m c 0) (fun _ => rfl) t d
/-- The same for the next input. -/
theorem before1 (c : Dev nD) (t : Fin cfg0.N) (d) : (dats m 0 c).before 1 t d = iblk m c 1 t :=
  before0_1_of m (dats m 0 c) (A_eq m c 1) (fun _ => rfl) t d
/-- The same for the next input. -/
theorem before2 (c : Dev nD) (t : Fin cfg0.N) (d) : (dats m 0 c).before 2 t d = iblk m c 2 t :=
  before0_2_of m (dats m 0 c) (A_eq m c 2) (fun _ => rfl) t d
/-- The same for the next input. -/
theorem before3 (c : Dev nD) (t : Fin cfg0.N) (d) : (dats m 0 c).before 3 t d = iblk m c 3 t :=
  before0_3_of m (dats m 0 c) (A_eq m c 3) (fun _ => rfl) t d
/-- The same for the next input. -/
theorem before4 (c : Dev nD) (t : Fin cfg0.N) (d) : (dats m 0 c).before 4 t d = iblk m c 4 t :=
  before0_4_of m (dats m 0 c) (A_eq m c 4) (fun _ => rfl) t d

/-- A read of a slab that holds what point `t` stored. -/
theorem read_slab (c : Dev nD) (n : ℕ) (s : Vec F S4x544x512 .f32) (hs : Held m c n s) (t : Fin cfg0.N) (k : ℕ) (hn : t.val + k = n)
    (hk : t.val % 4 + k < 4) (h0 : 0 < k) (o : ℕ) (ho : t.val % 4 = o) (inb : ∀ a, (![o, 0, 0] : Fin 3 → ℕ) a + S1x544x512.size a ≤ S4x544x512.size a) :
    scratch.view.readAt (Elt F) (Rect.unit (s := S4x544x512) ![o, 0, 0] S1x544x512.size inb).toLoadRect (scratch_whole.unread s) = stored m c t := by
  subst ho
  funext x
  rw [View.readAt_apply, scratch_whole.read_unread]
  refine hs t k hn hk h0 _ x fun a => ?_
  show (![t.val % 4, 0, 0] : Fin 3 → ℕ) a + 1 * (x a).val = _
  rw [Nat.one_mul]

/-- One more slab: after a point that is not the last, its own slab holds what it stored, the earlier ones are as they were. -/
theorem held_step (c : Dev nD) (t : Fin cfg0.N) (hm : t.val % 4 ≠ 3) (s : Vec F S4x544x512 .f32) (hs : Held m c t.val s) :
    Held m c (t.val + 1) (scratch.view.read (Elt F) (scratch.view.writes (Elt F) (scratch_whole.unread s)
      [⟨Rect.unit (s := S4x544x512) (k0_off1 (grid0.coords t)) S1x544x512.size (k0_off1_inb (grid0.coords t)), stored m c t⟩])) := by
  intro u k hk hlt h0 y x hx
  obtain hk1 | hk1 : k = 1 ∨ 1 < k := by omega
  · have hu : u = t := Fin.ext (by omega)
    subst hu
    exact View.read_writes_cons_unit_of_mem _ _ _ _ _ y x (slab_off u) hx
  · rw [View.read_writes_cons_unit_of_not_mem _ _ _ _ _ y (slab_off t) (0 : Fin 3) (by
      have e := hx 0
      have e' : (y 0).val = u.val % 4 + (x 0).val := e
      have l : (x 0).val < 1 := (x 0).isLt
      left
      show (y 0).val < t.val % 4
      omega)]
    rw [show scratch.view.writes (Elt F) (scratch_whole.unread s) [] = scratch_whole.unread s from rfl, scratch_whole.read_unread]
    exact hs u (k - 1) (by omega) (by omega) (by omega) y x hx

/-- After the last point of a row block nothing is claimed of the slabs. -/
theorem held_last (c : Dev nD) (t : Fin cfg0.N) (hm : t.val % 4 = 3) (s : Vec F S4x544x512 .f32) : Held m c (t.val + 1) s := by
  intro u k hk hlt h0; exfalso; omega

/-! ## The body at a point -/

set_option maxHeartbeats 6400000 in
/-- The body at any point keeps the invariant and leaves each window's buffer as the proof data say. -/
theorem sound_body (c : Dev nD) (t : Fin cfg0.N) :
    iprop(inv m c t.val ∗ (dats m 0 c).owesAt () t.castSucc ∗ (∃ d, owns (c : Thread nD τ) (stage0 t) fullShare ((dats m 0 c).before 0 t d)) ∗ (∃ d, owns (c : Thread nD τ) (stage1 t) fullShare ((dats m 0 c).before 1 t d)) ∗ (∃ d, owns (c : Thread nD τ) (stage2 t) fullShare ((dats m 0 c).before 2 t d)) ∗ (∃ d, owns (c : Thread nD τ) (stage3 t) fullShare ((dats m 0 c).before 3 t d)) ∗ (∃ d, owns (c : Thread nD τ) (stage4 t) fullShare ((dats m 0 c).before 4 t d)) ∗ (∃ d, owns (c : Thread nD τ) (stage5 t) fullShare ((dats m 0 c).before 5 t d)) ∗ (∃ d, owns (c : Thread nD τ) (stage6 t) fullShare ((dats m 0 c).before 6 t d)))
      ⊢ wp frame (wpE (defs₀ (F := F)) Variants.none c none) Set.univ (bodyAt0 t) (fun _ =>
        iprop(inv m c (t.val + 1) ∗ (dats m 0 c).owesAt () t.castSucc ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)) := by
  unfold bodyAt0
  simp only [before0, before1, before2, before3, before4]
  unfold inv
  by_cases h0 : t.val % 4 = 3
  · rw [show (dats m 0 c).leavesExact 0 t = owns (c : Thread nD τ) (stage0 t) fullShare (iblk m c 0 t) from by
      unfold Dat.leavesExact; rw [live0 t]; rfl]
    rw [show (dats m 0 c).leavesExact 1 t = owns (c : Thread nD τ) (stage1 t) fullShare (iblk m c 1 t) from by
      unfold Dat.leavesExact; rw [live1 t]; rfl]
    rw [show (dats m 0 c).leavesExact 2 t = owns (c : Thread nD τ) (stage2 t) fullShare (iblk m c 2 t) from by
      unfold Dat.leavesExact; rw [live2 t]; rfl]
    rw [show (dats m 0 c).leavesExact 3 t = owns (c : Thread nD τ) (stage3 t) fullShare (iblk m c 3 t) from by
      unfold Dat.leavesExact; rw [live3 t]; rfl]
    rw [show (dats m 0 c).leavesExact 4 t = owns (c : Thread nD τ) (stage4 t) fullShare (iblk m c 4 t) from by
      unfold Dat.leavesExact; rw [live4 t]; rfl]
    rw [show (dats m 0 c).leavesExact 5 t = owns (c : Thread nD τ) (stage5 t) fullShare (out5 m c t) from by
      unfold Dat.leavesExact; rw [live5 t ((last_iff t).mpr h0)]; rfl]
    rw [show (dats m 0 c).leavesExact 6 t = owns (c : Thread nD τ) (stage6 t) fullShare (out6 m c t) from by
      unfold Dat.leavesExact; rw [live6 t ((last_iff t).mpr h0)]; rfl]
    iintro ⟨⟨%s, %hs, HS, Hg⟩, Ho, ⟨%d0, H0⟩, ⟨%d1, H1⟩, ⟨%d2, H2⟩, ⟨%d3, H3⟩, ⟨%d4, H4⟩, ⟨%d5, H5⟩, ⟨%d6, H6⟩⟩
    have ht : t.val < 64 := lt_of_lt_of_eq t.isLt N_0
    rw [show out5 m c t = _ from dif_pos h0, show out6 m c t = _ from dif_pos h0]
    iapply ((lastRun m c t h0).2.2.2 s
      (read_slab m c t.val s hs (sib t 0 (by decide)) 3 (by unfold sib; dsimp only; omega) (by unfold sib; dsimp only; omega) (by decide) 0 (by unfold sib; dsimp only; omega) _)
      (read_slab m c t.val s hs (sib t 1 (by decide)) 2 (by unfold sib; dsimp only; omega) (by unfold sib; dsimp only; omega) (by decide) 1 (by unfold sib; dsimp only; omega) _)
      (read_slab m c t.val s hs (sib t 2 (by decide)) 1 (by unfold sib; dsimp only; omega) (by unfold sib; dsimp only; omega) (by decide) 2 (by unfold sib; dsimp only; omega) _)
      Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, HS⟩
    isplitl [HS Hg]
    · iexists (scratch.view.read (Elt F) (scratch.view.writes (Elt F) (scratch_whole.unread s) (lastRun m c t h0).2.2.1))
      isplitr; · ipureintro; exact held_last m c t h0 _
      isplitl [HS]
      · unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5 m c t h0)
    unfold owns; iexists _; isplitr
    swap; · iexact H6
    ipureintro; exact View.read_writes_of_cover _ _ _ _ _ (cover6 m c t h0)
  · rw [show (dats m 0 c).leavesExact 0 t = owns (c : Thread nD τ) (stage0 t) fullShare (iblk m c 0 t) from by
      unfold Dat.leavesExact; rw [live0 t]; rfl]
    rw [show (dats m 0 c).leavesExact 1 t = owns (c : Thread nD τ) (stage1 t) fullShare (iblk m c 1 t) from by
      unfold Dat.leavesExact; rw [live1 t]; rfl]
    rw [show (dats m 0 c).leavesExact 2 t = owns (c : Thread nD τ) (stage2 t) fullShare (iblk m c 2 t) from by
      unfold Dat.leavesExact; rw [live2 t]; rfl]
    rw [show (dats m 0 c).leavesExact 3 t = owns (c : Thread nD τ) (stage3 t) fullShare (iblk m c 3 t) from by
      unfold Dat.leavesExact; rw [live3 t]; rfl]
    rw [show (dats m 0 c).leavesExact 4 t = owns (c : Thread nD τ) (stage4 t) fullShare (iblk m c 4 t) from by
      unfold Dat.leavesExact; rw [live4 t]; rfl]
    have hl : ¬ last (grid0.coords t) := fun h => h0 ((last_iff t).mp h)
    rw [Dat.leavesExact_idle (dats m 0 c) 5 t (idle5 t hl) (kept5 t hl)]
    rw [Dat.leavesExact_idle (dats m 0 c) 6 t (idle6 t hl) (kept6 t hl)]
    iintro ⟨⟨%s, %hs, HS, Hg⟩, Ho, ⟨%d0, H0⟩, ⟨%d1, H1⟩, ⟨%d2, H2⟩, ⟨%d3, H3⟩, ⟨%d4, H4⟩, ⟨%d5, H5⟩, ⟨%d6, H6⟩⟩
    iapply ((runInner c (grid0.coords t) (stage0 t) (whole0 t) (stage1 t) (whole1 t) (stage2 t) (whole2 t) (stage3 t) (whole3 t) (stage4 t) (whole4 t) (stage5 t) (whole5 t) (stage6 t) (whole6 t) scratch scratch_whole hl
      (iblk m c 0 t) (iblk m c 1 t) (iblk m c 2 t) (iblk m c 3 t) (iblk m c 4 t)).2 _ _ s Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · iexists (scratch.view.read (Elt F) (scratch.view.writes (Elt F) (scratch_whole.unread s)
        [⟨Rect.unit (s := S4x544x512) (k0_off1 (grid0.coords t)) S1x544x512.size (k0_off1_inb (grid0.coords t)), stored m c t⟩]))
      isplitr; · ipureintro; exact held_step m c t h0 s hs
      isplitl [HS]
      · unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6

/-- The body's row of the table at a point is the body there. -/
theorem row_at (t : Fin cfg0.N) : defs₀ (F := F) .tc cfg0.body (cfg0.bodyArgs t (cfg0.slots t)) = bodyAt0 t := by
  unfold defs₀; rw [Defs.onTc_tc]

/-- The library's obligation, at every point. -/
theorem obligation (c : Dev nD) : BodyObligation (dats (F := F) m 0 c) (defs₀ (F := F)) Variants.none () Set.univ := fun t => by
  rw [bigSep_W0, bigSep_W0, row_at]
  exact triple_restated (sound_body m c t) rfl .rfl fun _ => .rfl

/-- What the region is handed: the scratch buffer at some contents and the generator register. -/
theorem entry_eq (c : Dev nD) : (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- Before the first point nothing is claimed of the slabs. -/
theorem hin (c : Dev nD) : Pipeline.ΦA spec0 c ⊢ (dats m 0 c).Φ 0 := by
  rw [show (dats m 0 c).Φ 0 = inv m c 0 from rfl, entry_eq]
  unfold inv
  iintro ⟨⟨%s, HS⟩, Hg⟩
  iexists s
  isplitr
  · ipureintro; intro u k hk hlt h0; exfalso; omega
  isplitl [HS]
  · iexact HS
  iexact Hg

/-- After the last point the scratch buffer is handed back at whatever it holds. -/
theorem hout (c : Dev nD) : (dats m 0 c).Φ (Fin.last cfg0.N) ⊢ Pipeline.ΦA spec0 c := by
  rw [show (dats m 0 c).Φ (Fin.last cfg0.N) = inv m c (Fin.last cfg0.N).val from rfl, entry_eq]
  unfold inv
  iintro ⟨%s, %hs, HS, Hg⟩
  isplitl [HS]
  · iexists _; iexact HS
  iexact Hg

/-! ## The program's run -/

set_option backward.isDefEq.respectTransparency.types false in
/-- Every weakly fair execution ends, with the arrays at what the pipeline's data say and every counter at zero. -/
theorem runs : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (runs m ρ)))
    ((θ_run defs _ _).mono (fun _ h => h.2) (runs m ρ))

end Cert.FfnDown

end
-- ==== Proof.Rows.lean ====
module

public import Idealize.ShloMosaic.Lib.Pipeline.ValueKit
public import Idealize.ShloMosaic.PureOps.Ideal.Laws

@[expose] public section

set_option maxRecDepth 16384

noncomputable section

namespace Cert.Rows

open Idealize.ShloMosaic

/-- The mean of a row of 2048 numbers: their sum divided by 2048. -/
def rowMean (z : Fin 2048 → EReal) : EReal := Ideal.div (∑ k, z k) (Ideal.ofBits .f32 1157627904#32)

/-- One element of the layer norm of a row `z`: the row's deviation from its mean, times the reciprocal square root of the
    mean squared deviation plus the small constant, times the weight `g`, plus the bias `b`. -/
def lnorm (z : Fin 2048 → EReal) (g b : EReal) (j : Fin 2048) : EReal :=
  (z j - rowMean z) * Ideal.rsqrt (rowMean (fun k => (z k - rowMean z) * (z k - rowMean z)) + Ideal.ofBits .f32 925353388#32) * g + b

/-- The residual's factor, the constant both programs write. -/
def alpha : EReal := Ideal.ofBits .f32 1068827891#32

end Cert.Rows

end
-- ==== Proof.FfnDown.lean ====
/- The value of the FFN's down projection: the run's two results are the reference's. -/
module

public import proofs.«01_k».proof.Defs
public import proofs.«01_k».proof.Proof.FfnDownRun
public import proofs.«01_k».proof.Proof.Gen.Reference3Ideal.Read
public import Idealize.ShloMosaic.Lib.Pipeline.ValueKit
public import proofs.«01_k».proof.Proof.Rows

@[expose] public section

set_option maxRecDepth 16384

noncomputable section

namespace Cert.FfnDown

open Cert.Kernel3Ideal Cert.Kernel3Ideal.Gen Idealize.ShloMosaic Idealize.ShloMosaic.TcCoe Idealize.SL.Sem
open Cert.Reference3Ideal.Read
open Cert.Rows

/-! ## A row of four slabs -/

/-- Row `r` of four slabs side by side. -/
def row (p0 p1 p2 p3 : Vec Ideal S1x544x512 .f32) (r : Fin 544) (k : Fin 2048) : EReal :=
  if h0 : k.val < 512 then p0 (ix3 0 r ⟨k.val - 0, by omega⟩)
  else if h1 : k.val < 1024 then p1 (ix3 0 r ⟨k.val - 512, by omega⟩)
  else if h2 : k.val < 1536 then p2 (ix3 0 r ⟨k.val - 1024, by omega⟩)
  else p3 (ix3 0 r ⟨k.val - 1536, by omega⟩)

theorem row0 (p0 p1 p2 p3 : Vec Ideal S1x544x512 .f32) (r : Fin 544) (j : Fin 512) : row p0 p1 p2 p3 r ⟨0 + j.val, by omega⟩ = p0 (ix3 0 r j) := by
  unfold row
  rw [dif_pos (by show 0 + j.val < 512; omega)]
  congr 2; exact Fin.ext (by show 0 + j.val - 0 = j.val; omega)

theorem row1 (p0 p1 p2 p3 : Vec Ideal S1x544x512 .f32) (r : Fin 544) (j : Fin 512) : row p0 p1 p2 p3 r ⟨512 + j.val, by omega⟩ = p1 (ix3 0 r j) := by
  unfold row
  rw [dif_neg (by show ¬ 512 + j.val < 512; omega)]; rw [dif_pos (by show 512 + j.val < 1024; omega)]
  congr 2; exact Fin.ext (by show 512 + j.val - 512 = j.val; omega)

theorem row2 (p0 p1 p2 p3 : Vec Ideal S1x544x512 .f32) (r : Fin 544) (j : Fin 512) : row p0 p1 p2 p3 r ⟨1024 + j.val, by omega⟩ = p2 (ix3 0 r j) := by
  unfold row
  rw [dif_neg (by show ¬ 1024 + j.val < 512; omega)]; rw [dif_neg (by show ¬ 1024 + j.val < 1024; omega)]; rw [dif_pos (by show 1024 + j.val < 1536; omega)]
  congr 2; exact Fin.ext (by show 1024 + j.val - 1024 = j.val; omega)

theorem row3 (p0 p1 p2 p3 : Vec Ideal S1x544x512 .f32) (r : Fin 544) (j : Fin 512) : row p0 p1 p2 p3 r ⟨1536 + j.val, by omega⟩ = p3 (ix3 0 r j) := by
  unfold row
  rw [dif_neg (by show ¬ 1536 + j.val < 512; omega)]; rw [dif_neg (by show ¬ 1536 + j.val < 1024; omega)]; rw [dif_neg (by show ¬ 1536 + j.val < 1536; omega)];
  congr 2; exact Fin.ext (by show 1536 + j.val - 1536 = j.val; omega)

/-- A sum over a row is the sum of its four quarters' sums. -/
theorem sum_quarters (f : Fin 2048 → EReal) : ∑ k, f k
    = ∑ k : Fin 512, f ⟨0 + k.val, by omega⟩ + ∑ k : Fin 512, f ⟨512 + k.val, by omega⟩ + ∑ k : Fin 512, f ⟨1024 + k.val, by omega⟩ + ∑ k : Fin 512, f ⟨1536 + k.val, by omega⟩ := by
  have e := Fin.sum_univ_add (a := 512) (b := 1536) (f := fun k : Fin (512 + 1536) => f k)
  have e2 := Fin.sum_univ_add (a := 512) (b := 1024) (f := fun k : Fin (512 + 1024) => f (Fin.natAdd 512 k))
  have e3 := Fin.sum_univ_add (a := 512) (b := 512) (f := fun k : Fin (512 + 512) => f (Fin.natAdd 512 (Fin.natAdd 512 k)))
  refine e.trans ((congrArg _ (e2.trans (congrArg _ e3))).trans ?_)
  rw [add_assoc, add_assoc]
  refine congrArg₂ _ ?_ (congrArg₂ _ ?_ (congrArg₂ _ ?_ ?_)) <;>
    exact Finset.sum_congr rfl fun k _ => congrArg f (Fin.ext (by simp; try omega))

/-- The kernel's mean of a row. -/
theorem mean_eq (p0 p1 p2 p3 : Vec Ideal S1x544x512 .f32) (r : Fin 544) : (k0_pay5 p0 p1 p2 p3) (ix2 r 0) = rowMean (row p0 p1 p2 p3 r) := by
  unfold rowMean
  rw [sum_quarters]
  simp only [row0, row1, row2, row3]
  unfold k0_pay5
  pointwise

/-- The kernel's scale of a row: the reciprocal root of its variance and the small constant. -/
theorem scale_eq (p0 p1 p2 p3 : Vec Ideal S1x544x512 .f32) (r : Fin 544) : (k0_pay8 (k0_pay5 p0 p1 p2 p3) (k0_pay6 p0 p1 p2 p3 p0) (k0_pay7 p0 p1 p2 p3 p1) p2 p3) (ix2 r 0)
    = Ideal.rsqrt (rowMean (fun k => (row p0 p1 p2 p3 r k - rowMean (row p0 p1 p2 p3 r)) * (row p0 p1 p2 p3 r k - rowMean (row p0 p1 p2 p3 r))) + Ideal.ofBits .f32 925353388#32) := by
  rw [← mean_eq]
  rw [rowMean, sum_quarters]
  simp only [row0, row1, row2, row3]
  unfold k0_pay8 k0_pay6 k0_pay7
  generalize k0_pay5 p0 p1 p2 p3 = M
  pointwise

/-- What the last point stores into column block 0 of the first output: the normalised row. -/
theorem col0 (p0 p1 p2 p3 : Vec Ideal S1x544x512 .f32) (g b : Vec Ideal S1x512 .f32) (r : Fin 544) (j : Fin 512) :
    k0_pay9 (k0_pay5 p0 p1 p2 p3) (k0_pay6 p0 p1 p2 p3 p0) (k0_pay7 p0 p1 p2 p3 p1) p2 p3 p0 g b (ix2 r j)
      = lnorm (row p0 p1 p2 p3 r) (g (ix2 0 j)) (b (ix2 0 j)) ⟨0 + j.val, by omega⟩ := by
  rw [lnorm, ← scale_eq p0 p1 p2 p3 r, ← mean_eq p0 p1 p2 p3 r]
  unfold k0_pay9
  rw [show row p0 p1 p2 p3 r ⟨0 + j.val, by omega⟩ = p0 (ix3 0 r j) from row0 _ _ _ _ _ _]
  generalize k0_pay8 (k0_pay5 p0 p1 p2 p3) (k0_pay6 p0 p1 p2 p3 p0) (k0_pay7 p0 p1 p2 p3 p1) p2 p3 = S
  generalize k0_pay5 p0 p1 p2 p3 = M
  pointwise

/-- What the last point stores into column block 1 of the first output: the normalised row. -/
theorem col1 (p0 p1 p2 p3 : Vec Ideal S1x544x512 .f32) (g b : Vec Ideal S1x512 .f32) (r : Fin 544) (j : Fin 512) :
    k0_pay11 (k0_pay5 p0 p1 p2 p3) (k0_pay8 (k0_pay5 p0 p1 p2 p3) (k0_pay6 p0 p1 p2 p3 p0) (k0_pay7 p0 p1 p2 p3 p1) p2 p3) p1 g b (ix2 r j)
      = lnorm (row p0 p1 p2 p3 r) (g (ix2 0 j)) (b (ix2 0 j)) ⟨512 + j.val, by omega⟩ := by
  rw [lnorm, ← scale_eq p0 p1 p2 p3 r, ← mean_eq p0 p1 p2 p3 r]
  unfold k0_pay11
  rw [show row p0 p1 p2 p3 r ⟨512 + j.val, by omega⟩ = p1 (ix3 0 r j) from row1 _ _ _ _ _ _]
  generalize k0_pay8 (k0_pay5 p0 p1 p2 p3) (k0_pay6 p0 p1 p2 p3 p0) (k0_pay7 p0 p1 p2 p3 p1) p2 p3 = S
  generalize k0_pay5 p0 p1 p2 p3 = M
  pointwise

/-- What the last point stores into column block 2 of the first output: the normalised row. -/
theorem col2 (p0 p1 p2 p3 : Vec Ideal S1x544x512 .f32) (g b : Vec Ideal S1x512 .f32) (r : Fin 544) (j : Fin 512) :
    k0_pay13 (k0_pay5 p0 p1 p2 p3) (k0_pay8 (k0_pay5 p0 p1 p2 p3) (k0_pay6 p0 p1 p2 p3 p0) (k0_pay7 p0 p1 p2 p3 p1) p2 p3) p2 g b (ix2 r j)
      = lnorm (row p0 p1 p2 p3 r) (g (ix2 0 j)) (b (ix2 0 j)) ⟨1024 + j.val, by omega⟩ := by
  rw [lnorm, ← scale_eq p0 p1 p2 p3 r, ← mean_eq p0 p1 p2 p3 r]
  unfold k0_pay13
  rw [show row p0 p1 p2 p3 r ⟨1024 + j.val, by omega⟩ = p2 (ix3 0 r j) from row2 _ _ _ _ _ _]
  generalize k0_pay8 (k0_pay5 p0 p1 p2 p3) (k0_pay6 p0 p1 p2 p3 p0) (k0_pay7 p0 p1 p2 p3 p1) p2 p3 = S
  generalize k0_pay5 p0 p1 p2 p3 = M
  pointwise

/-- What the last point stores into column block 3 of the first output: the normalised row. -/
theorem col3 (p0 p1 p2 p3 : Vec Ideal S1x544x512 .f32) (g b : Vec Ideal S1x512 .f32) (r : Fin 544) (j : Fin 512) :
    k0_pay3 (k0_pay5 p0 p1 p2 p3) (k0_pay8 (k0_pay5 p0 p1 p2 p3) (k0_pay6 p0 p1 p2 p3 p0) (k0_pay7 p0 p1 p2 p3 p1) p2 p3) p3 g b (ix2 r j)
      = lnorm (row p0 p1 p2 p3 r) (g (ix2 0 j)) (b (ix2 0 j)) ⟨1536 + j.val, by omega⟩ := by
  rw [lnorm, ← scale_eq p0 p1 p2 p3 r, ← mean_eq p0 p1 p2 p3 r]
  unfold k0_pay3
  rw [show row p0 p1 p2 p3 r ⟨1536 + j.val, by omega⟩ = p3 (ix3 0 r j) from row3 _ _ _ _ _ _]
  generalize k0_pay8 (k0_pay5 p0 p1 p2 p3) (k0_pay6 p0 p1 p2 p3 p0) (k0_pay7 p0 p1 p2 p3 p1) p2 p3 = S
  generalize k0_pay5 p0 p1 p2 p3 = M
  pointwise

/-! ## What the run leaves, block by block -/

/-- A read inside the store written last. -/
theorem read_col {sp : Space} {e : EltTy} (v : View sig .tc sp S544x2048 e) (f : v.ty.Contents (Elt Ideal)) (o : ℕ) (inb : ∀ a, (![0, o] : Fin 2 → ℕ) a + S544x512.size a ≤ S544x2048.size a)
    (w : Vec Ideal S544x512 e) (L : List (View.Piece (Elt Ideal) S544x2048 e)) (r : Fin 544) (j : Fin 512) (J : Fin 2048) (hJ : J.val = o + j.val) :
    v.read (Elt Ideal) (v.writes (Elt Ideal) f (⟨Rect.unit (s := S544x2048) ![0, o] S544x512.size inb, w⟩ :: L)) (ix2 r J) = w (ix2 r j) := by
  refine View.read_writes_cons_unit_of_mem v f inb w L (ix2 r J) (ix2 r j) rfl fun a => ?_
  match a with
  | ⟨0, _⟩ => exact (Nat.zero_add _).symm
  | ⟨1, _⟩ => exact hJ

/-- A read to the left of the store written last. -/
theorem read_past {sp : Space} {e : EltTy} (v : View sig .tc sp S544x2048 e) (f : v.ty.Contents (Elt Ideal)) (o : ℕ) (inb : ∀ a, (![0, o] : Fin 2 → ℕ) a + S544x512.size a ≤ S544x2048.size a)
    (w : Vec Ideal S544x512 e) (L : List (View.Piece (Elt Ideal) S544x2048 e)) (r : Fin 544) (J : Fin 2048) (hJ : J.val < o) :
    v.read (Elt Ideal) (v.writes (Elt Ideal) f (⟨Rect.unit (s := S544x2048) ![0, o] S544x512.size inb, w⟩ :: L)) (ix2 r J) = v.read (Elt Ideal) (v.writes (Elt Ideal) f L) (ix2 r J) :=
  View.read_writes_cons_unit_of_not_mem v f inb w L (ix2 r J) rfl (1 : Fin 2) (Or.inl hJ)

/-- A read of slab 3 after a store there. -/
theorem read_back (v : View sig .tc .vmem S4x544x512 .f32) (off : Fin 3 → ℕ) (inb : ∀ a, off a + S1x544x512.size a ≤ S4x544x512.size a) (ho : off = ![3, 0, 0]) (w : Vec Ideal S1x544x512 .f32) :
    v.readCov [(⟨Rect.unit (s := S4x544x512) off S1x544x512.size inb, w⟩ : View.Piece (Elt Ideal) S4x544x512 .f32)] (Rect.unit (s := S4x544x512) ![3, 0, 0] S1x544x512.size inb_S4x544x512_S1x544x512_3_0_0).toLoadRect = w := by
  funext x
  refine View.read_writes_cons_unit_of_mem v v.junk inb w [] _ x ho fun a => ?_
  show (![3, 0, 0] : Fin 3 → ℕ) a + 1 * (x a).val = _
  rw [Nat.one_mul]

/-- What the last point reads back from the slab it has just stored, -/
def slab3 (m : (ℓ : Loc nD τ sig) → Buf (Elt Ideal) ℓ) (c : Dev nD) (t : Fin cfg0.N) : Vec Ideal S1x544x512 .f32 :=
  scratch.view.readCov [⟨Rect.unit (s := S4x544x512) (k0_off1 (grid0.coords t)) S1x544x512.size (k0_off1_inb (grid0.coords t)), stored m c t⟩]
    (Rect.unit (s := S4x544x512) ![3, 0, 0] S1x544x512.size inb_S4x544x512_S1x544x512_3_0_0).toLoadRect
/-- which is what it stored. -/
theorem slab3_eq (m : (ℓ : Loc nD τ sig) → Buf (Elt Ideal) ℓ) (c : Dev nD) (t : Fin cfg0.N) (h : t.val % 4 = 3) : slab3 m c t = stored m c t := by
  exact read_back _ _ _ ((slab_off t).trans (by rw [h])) _

/-- The stores into the first output's buffer, last first. -/
theorem pieces5 (m : (ℓ : Loc nD τ sig) → Buf (Elt Ideal) ℓ) (c : Dev nD) (t : Fin cfg0.N) (h : t.val % 4 = 3) :
    (lastRun m c t h).1 = [⟨Rect.unit (s := S544x2048) ![0, 1536] S544x512.size inb_S544x2048_S544x512_0_1536, k0_pay3 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c t) ((stage3 t).view.readAt (Elt Ideal) (Rect.unit (s := S1x2048) ![0, 1536] S1x512.size inb_S1x2048_S1x512_0_1536).toLoadRect ((whole3 t).unread (iblk m c 3 t))) ((stage4 t).view.readAt (Elt Ideal) (Rect.unit (s := S1x2048) ![0, 1536] S1x512.size inb_S1x2048_S1x512_0_1536).toLoadRect ((whole4 t).unread (iblk m c 4 t)))⟩, ⟨Rect.unit (s := S544x2048) ![0, 1024] S544x512.size inb_S544x2048_S544x512_0_1024, k0_pay13 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c (sib t 2 (by decide))) ((stage3 t).view.readAt (Elt Ideal) (Rect.unit (s := S1x2048) ![0, 1024] S1x512.size inb_S1x2048_S1x512_0_1024).toLoadRect ((whole3 t).unread (iblk m c 3 t))) ((stage4 t).view.readAt (Elt Ideal) (Rect.unit (s := S1x2048) ![0, 1024] S1x512.size inb_S1x2048_S1x512_0_1024).toLoadRect ((whole4 t).unread (iblk m c 4 t)))⟩, ⟨Rect.unit (s := S544x2048) ![0, 512] S544x512.size inb_S544x2048_S544x512_0_512, k0_pay11 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c (sib t 1 (by decide))) ((stage3 t).view.readAt (Elt Ideal) (Rect.unit (s := S1x2048) ![0, 512] S1x512.size inb_S1x2048_S1x512_0_512).toLoadRect ((whole3 t).unread (iblk m c 3 t))) ((stage4 t).view.readAt (Elt Ideal) (Rect.unit (s := S1x2048) ![0, 512] S1x512.size inb_S1x2048_S1x512_0_512).toLoadRect ((whole4 t).unread (iblk m c 4 t)))⟩, ⟨Rect.unit (s := S544x2048) ![0, 0] S544x512.size inb_S544x2048_S544x512_0_0, k0_pay9 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t) (stored m c (sib t 0 (by decide))) ((stage3 t).view.readAt (Elt Ideal) (Rect.unit (s := S1x2048) ![0, 0] S1x512.size inb_S1x2048_S1x512_0_0).toLoadRect ((whole3 t).unread (iblk m c 3 t))) ((stage4 t).view.readAt (Elt Ideal) (Rect.unit (s := S1x2048) ![0, 0] S1x512.size inb_S1x2048_S1x512_0_0).toLoadRect ((whole4 t).unread (iblk m c 4 t)))⟩] := by
  rw [← slab3_eq m c t h]
  rfl

/-- The stores into the second output's buffer, last first. -/
theorem pieces6 (m : (ℓ : Loc nD τ sig) → Buf (Elt Ideal) ℓ) (c : Dev nD) (t : Fin cfg0.N) (h : t.val % 4 = 3) :
    (lastRun m c t h).2.1 = [⟨Rect.unit (s := S544x2048) ![0, 1536] S544x512.size inb_S544x2048_S544x512_0_1536, k0_pay4 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c t) ((stage3 t).view.readAt (Elt Ideal) (Rect.unit (s := S1x2048) ![0, 1536] S1x512.size inb_S1x2048_S1x512_0_1536).toLoadRect ((whole3 t).unread (iblk m c 3 t))) ((stage4 t).view.readAt (Elt Ideal) (Rect.unit (s := S1x2048) ![0, 1536] S1x512.size inb_S1x2048_S1x512_0_1536).toLoadRect ((whole4 t).unread (iblk m c 4 t)))⟩, ⟨Rect.unit (s := S544x2048) ![0, 1024] S544x512.size inb_S544x2048_S544x512_0_1024, k0_pay2 (k0_pay13 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c (sib t 2 (by decide))) ((stage3 t).view.readAt (Elt Ideal) (Rect.unit (s := S1x2048) ![0, 1024] S1x512.size inb_S1x2048_S1x512_0_1024).toLoadRect ((whole3 t).unread (iblk m c 3 t))) ((stage4 t).view.readAt (Elt Ideal) (Rect.unit (s := S1x2048) ![0, 1024] S1x512.size inb_S1x2048_S1x512_0_1024).toLoadRect ((whole4 t).unread (iblk m c 4 t))))⟩, ⟨Rect.unit (s := S544x2048) ![0, 512] S544x512.size inb_S544x2048_S544x512_0_512, k0_pay12 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c (sib t 1 (by decide))) ((stage3 t).view.readAt (Elt Ideal) (Rect.unit (s := S1x2048) ![0, 512] S1x512.size inb_S1x2048_S1x512_0_512).toLoadRect ((whole3 t).unread (iblk m c 3 t))) ((stage4 t).view.readAt (Elt Ideal) (Rect.unit (s := S1x2048) ![0, 512] S1x512.size inb_S1x2048_S1x512_0_512).toLoadRect ((whole4 t).unread (iblk m c 4 t)))⟩, ⟨Rect.unit (s := S544x2048) ![0, 0] S544x512.size inb_S544x2048_S544x512_0_0, k0_pay10 (k0_pay9 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t) (stored m c (sib t 0 (by decide))) ((stage3 t).view.readAt (Elt Ideal) (Rect.unit (s := S1x2048) ![0, 0] S1x512.size inb_S1x2048_S1x512_0_0).toLoadRect ((whole3 t).unread (iblk m c 3 t))) ((stage4 t).view.readAt (Elt Ideal) (Rect.unit (s := S1x2048) ![0, 0] S1x512.size inb_S1x2048_S1x512_0_0).toLoadRect ((whole4 t).unread (iblk m c 4 t))))⟩] := by
  rw [← slab3_eq m c t h]
  rfl

/-- Column block 0 of the first output. -/
theorem tile5_0 (m : (ℓ : Loc nD τ sig) → Buf (Elt Ideal) ℓ) (c : Dev nD) (t : Fin cfg0.N) (h : t.val % 4 = 3) (r : Fin 544) (j : Fin 512) :
    out5 m c t (ix2 r ⟨0 + j.val, by omega⟩) = (k0_pay9 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t) (stored m c (sib t 0 (by decide))) ((stage3 t).view.readAt (Elt Ideal) (Rect.unit (s := S1x2048) ![0, 0] S1x512.size inb_S1x2048_S1x512_0_0).toLoadRect ((whole3 t).unread (iblk m c 3 t))) ((stage4 t).view.readAt (Elt Ideal) (Rect.unit (s := S1x2048) ![0, 0] S1x512.size inb_S1x2048_S1x512_0_0).toLoadRect ((whole4 t).unread (iblk m c 4 t)))) (ix2 r j) := by
    rw [out5, dif_pos h, pieces5]
    rw [read_past _ _ _ _ _ _ _ _ (show 0 + j.val < 1536 by omega)]
    rw [read_past _ _ _ _ _ _ _ _ (show 0 + j.val < 1024 by omega)]
    rw [read_past _ _ _ _ _ _ _ _ (show 0 + j.val < 512 by omega)]
    exact read_col _ _ 0 _ _ _ r j _ rfl

/-- Column block 0 of the second output: the same values. -/
theorem tile6_0 (m : (ℓ : Loc nD τ sig) → Buf (Elt Ideal) ℓ) (c : Dev nD) (t : Fin cfg0.N) (h : t.val % 4 = 3) (r : Fin 544) (j : Fin 512) :
    out6 m c t (ix2 r ⟨0 + j.val, by omega⟩) = (k0_pay10 (k0_pay9 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t) (stored m c (sib t 0 (by decide))) ((stage3 t).view.readAt (Elt Ideal) (Rect.unit (s := S1x2048) ![0, 0] S1x512.size inb_S1x2048_S1x512_0_0).toLoadRect ((whole3 t).unread (iblk m c 3 t))) ((stage4 t).view.readAt (Elt Ideal) (Rect.unit (s := S1x2048) ![0, 0] S1x512.size inb_S1x2048_S1x512_0_0).toLoadRect ((whole4 t).unread (iblk m c 4 t))))) (ix2 r j) := by
    rw [out6, dif_pos h, pieces6]
    rw [read_past _ _ _ _ _ _ _ _ (show 0 + j.val < 1536 by omega)]
    rw [read_past _ _ _ _ _ _ _ _ (show 0 + j.val < 1024 by omega)]
    rw [read_past _ _ _ _ _ _ _ _ (show 0 + j.val < 512 by omega)]
    exact read_col _ _ 0 _ _ _ r j _ rfl

/-- Column block 1 of the first output. -/
theorem tile5_1 (m : (ℓ : Loc nD τ sig) → Buf (Elt Ideal) ℓ) (c : Dev nD) (t : Fin cfg0.N) (h : t.val % 4 = 3) (r : Fin 544) (j : Fin 512) :
    out5 m c t (ix2 r ⟨512 + j.val, by omega⟩) = (k0_pay11 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c (sib t 1 (by decide))) ((stage3 t).view.readAt (Elt Ideal) (Rect.unit (s := S1x2048) ![0, 512] S1x512.size inb_S1x2048_S1x512_0_512).toLoadRect ((whole3 t).unread (iblk m c 3 t))) ((stage4 t).view.readAt (Elt Ideal) (Rect.unit (s := S1x2048) ![0, 512] S1x512.size inb_S1x2048_S1x512_0_512).toLoadRect ((whole4 t).unread (iblk m c 4 t)))) (ix2 r j) := by
    rw [out5, dif_pos h, pieces5]
    rw [read_past _ _ _ _ _ _ _ _ (show 512 + j.val < 1536 by omega)]
    rw [read_past _ _ _ _ _ _ _ _ (show 512 + j.val < 1024 by omega)]
    exact read_col _ _ 512 _ _ _ r j _ rfl

/-- Column block 1 of the second output: the same values. -/
theorem tile6_1 (m : (ℓ : Loc nD τ sig) → Buf (Elt Ideal) ℓ) (c : Dev nD) (t : Fin cfg0.N) (h : t.val % 4 = 3) (r : Fin 544) (j : Fin 512) :
    out6 m c t (ix2 r ⟨512 + j.val, by omega⟩) = (k0_pay12 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c (sib t 1 (by decide))) ((stage3 t).view.readAt (Elt Ideal) (Rect.unit (s := S1x2048) ![0, 512] S1x512.size inb_S1x2048_S1x512_0_512).toLoadRect ((whole3 t).unread (iblk m c 3 t))) ((stage4 t).view.readAt (Elt Ideal) (Rect.unit (s := S1x2048) ![0, 512] S1x512.size inb_S1x2048_S1x512_0_512).toLoadRect ((whole4 t).unread (iblk m c 4 t)))) (ix2 r j) := by
    rw [out6, dif_pos h, pieces6]
    rw [read_past _ _ _ _ _ _ _ _ (show 512 + j.val < 1536 by omega)]
    rw [read_past _ _ _ _ _ _ _ _ (show 512 + j.val < 1024 by omega)]
    exact read_col _ _ 512 _ _ _ r j _ rfl

/-- Column block 2 of the first output. -/
theorem tile5_2 (m : (ℓ : Loc nD τ sig) → Buf (Elt Ideal) ℓ) (c : Dev nD) (t : Fin cfg0.N) (h : t.val % 4 = 3) (r : Fin 544) (j : Fin 512) :
    out5 m c t (ix2 r ⟨1024 + j.val, by omega⟩) = (k0_pay13 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c (sib t 2 (by decide))) ((stage3 t).view.readAt (Elt Ideal) (Rect.unit (s := S1x2048) ![0, 1024] S1x512.size inb_S1x2048_S1x512_0_1024).toLoadRect ((whole3 t).unread (iblk m c 3 t))) ((stage4 t).view.readAt (Elt Ideal) (Rect.unit (s := S1x2048) ![0, 1024] S1x512.size inb_S1x2048_S1x512_0_1024).toLoadRect ((whole4 t).unread (iblk m c 4 t)))) (ix2 r j) := by
    rw [out5, dif_pos h, pieces5]
    rw [read_past _ _ _ _ _ _ _ _ (show 1024 + j.val < 1536 by omega)]
    exact read_col _ _ 1024 _ _ _ r j _ rfl

/-- Column block 2 of the second output: the same values. -/
theorem tile6_2 (m : (ℓ : Loc nD τ sig) → Buf (Elt Ideal) ℓ) (c : Dev nD) (t : Fin cfg0.N) (h : t.val % 4 = 3) (r : Fin 544) (j : Fin 512) :
    out6 m c t (ix2 r ⟨1024 + j.val, by omega⟩) = (k0_pay2 (k0_pay13 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c (sib t 2 (by decide))) ((stage3 t).view.readAt (Elt Ideal) (Rect.unit (s := S1x2048) ![0, 1024] S1x512.size inb_S1x2048_S1x512_0_1024).toLoadRect ((whole3 t).unread (iblk m c 3 t))) ((stage4 t).view.readAt (Elt Ideal) (Rect.unit (s := S1x2048) ![0, 1024] S1x512.size inb_S1x2048_S1x512_0_1024).toLoadRect ((whole4 t).unread (iblk m c 4 t))))) (ix2 r j) := by
    rw [out6, dif_pos h, pieces6]
    rw [read_past _ _ _ _ _ _ _ _ (show 1024 + j.val < 1536 by omega)]
    exact read_col _ _ 1024 _ _ _ r j _ rfl

/-- Column block 3 of the first output. -/
theorem tile5_3 (m : (ℓ : Loc nD τ sig) → Buf (Elt Ideal) ℓ) (c : Dev nD) (t : Fin cfg0.N) (h : t.val % 4 = 3) (r : Fin 544) (j : Fin 512) :
    out5 m c t (ix2 r ⟨1536 + j.val, by omega⟩) = (k0_pay3 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c t) ((stage3 t).view.readAt (Elt Ideal) (Rect.unit (s := S1x2048) ![0, 1536] S1x512.size inb_S1x2048_S1x512_0_1536).toLoadRect ((whole3 t).unread (iblk m c 3 t))) ((stage4 t).view.readAt (Elt Ideal) (Rect.unit (s := S1x2048) ![0, 1536] S1x512.size inb_S1x2048_S1x512_0_1536).toLoadRect ((whole4 t).unread (iblk m c 4 t)))) (ix2 r j) := by
    rw [out5, dif_pos h, pieces5]
    exact read_col _ _ 1536 _ _ _ r j _ rfl

/-- Column block 3 of the second output: the same values. -/
theorem tile6_3 (m : (ℓ : Loc nD τ sig) → Buf (Elt Ideal) ℓ) (c : Dev nD) (t : Fin cfg0.N) (h : t.val % 4 = 3) (r : Fin 544) (j : Fin 512) :
    out6 m c t (ix2 r ⟨1536 + j.val, by omega⟩) = (k0_pay4 (k0_pay5 (stored m c (sib t 0 (by decide))) (stored m c (sib t 1 (by decide))) (stored m c (sib t 2 (by decide))) (stored m c t)) (k0_pay8 (k0_pay5 (stored m c (sib t 0 (by decide))) (stored m c (sib t 1 (by decide))) (stored m c (sib t 2 (by decide))) (stored m c t)) (k0_pay6 (stored m c (sib t 0 (by decide))) (stored m c (sib t 1 (by decide))) (stored m c (sib t 2 (by decide))) (stored m c t) (stored m c (sib t 0 (by decide)))) (k0_pay7 (stored m c (sib t 0 (by decide))) (stored m c (sib t 1 (by decide))) (stored m c (sib t 2 (by decide))) (stored m c t) (stored m c (sib t 1 (by decide)))) (stored m c (sib t 2 (by decide))) (stored m c t)) (stored m c t) ((stage3 t).view.readAt (Elt Ideal) (Rect.unit (s := S1x2048) ![0, 1536] S1x512.size inb_S1x2048_S1x512_0_1536).toLoadRect ((whole3 t).unread (iblk m c 3 t))) ((stage4 t).view.readAt (Elt Ideal) (Rect.unit (s := S1x2048) ![0, 1536] S1x512.size inb_S1x2048_S1x512_0_1536).toLoadRect ((whole4 t).unread (iblk m c 4 t)))) (ix2 r j) := by
    rw [out6, dif_pos h, pieces6]
    exact read_col _ _ 1536 _ _ _ r j _ rfl

/-! ## The reference -/

/-- The first result of the reference, at row `r` and column `j`: the normalised row of its sum. -/
theorem ref_eq (x0 x1 x2 x3 x4) (r : Fin 8704) (j : Fin 2048) :
    val_main_v34 (F := Ideal) x0 x1 x2 x3 x4 (ix2 r j)
      = lnorm (fun j => val_main_v10 (F := Ideal) x0 x1 x2 (ix2 r j)) (x3 (ix1 j)) (x4 (ix1 j)) j := by
  unfold lnorm rowMean val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_cst_1 val_main_cst_2 val_main_cst_3 val_main_cst_4 val_main_cst_5
  generalize val_main_v10 (F := Ideal) x0 x1 x2 = Z
  pointwise

/-- Its sum, at row `r` and column `j`. -/
theorem sum_eq (x0 x1 x2) (r : Fin 8704) (j : Fin 2048) :
    val_main_v10 (F := Ideal) x0 x1 x2 (ix2 r j)
      = alpha * x2 (ix2 r j) + Ideal.ofBits .f32 1056964608#32 * ∑ k : Fin 5504, x0 (ix2 r ⟨k.val, by omega⟩) * x1 (ix3 0 k j) := by
  unfold alpha val_main_v10 val_main_v9 val_main_v8 val_main_v7 val_main_v6 val_main_v5 val_main_v4 val_main_v3 val_main_v2 val_main_v1 val_main_v0 val_main_cst val_main_cst_0
  pointwise

/-- What a point stores, over what it reads. -/
theorem pay_eq (v0 : Vec Ideal S544x512 .f32) (v3 : Vec Ideal S544x5504 .bf16) (v4 : Vec Ideal S1x5504x512 .bf16) (r : Fin 544) (j : Fin 512) :
    k0_pay1 v0 v3 v4 (ix3 0 r j) = alpha * v0 (ix2 r j) + Ideal.ofBits .f32 1056964608#32 * ∑ k : Fin 5504, v3 (ix2 r k) * v4 (ix3 0 k j) := by
  unfold k0_pay1 alpha
  pointwise

/-- An index of a rectangle at the origin is the same index of the whole. -/
theorem at_origin2 {a b A B : ℕ} (inb : ∀ x, (![0, 0] : Fin 2 → ℕ) x + (![a, b] : Fin 2 → ℕ) x ≤ (![A, B] : Fin 2 → ℕ) x) (r : Fin a) (j : Fin b) (hr : r.val < A) (hj : j.val < B) :
    (Rect.unit (s := ⟨2, ![A, B]⟩) ![0, 0] ![a, b] inb).toLoadRect.idx (ix2 r j) = ix2 ⟨r.val, hr⟩ ⟨j.val, hj⟩ := by
  funext x
  refine Fin.ext ?_
  match x with
  | ⟨0, _⟩ => show 0 + 1 * r.val = r.val; omega
  | ⟨1, _⟩ => show 0 + 1 * j.val = j.val; omega

/-- The same for three axes. -/
theorem at_origin3 {a b d A B D : ℕ} (inb : ∀ x, (![0, 0, 0] : Fin 3 → ℕ) x + (![a, b, d] : Fin 3 → ℕ) x ≤ (![A, B, D] : Fin 3 → ℕ) x) (q : Fin a) (r : Fin b) (j : Fin d) (hq : q.val < A) (hr : r.val < B) (hj : j.val < D) :
    (Rect.unit (s := ⟨3, ![A, B, D]⟩) ![0, 0, 0] ![a, b, d] inb).toLoadRect.idx (ix3 q r j) = ix3 ⟨q.val, hq⟩ ⟨r.val, hr⟩ ⟨j.val, hj⟩ := by
  funext x
  refine Fin.ext ?_
  match x with
  | ⟨0, _⟩ => show 0 + 1 * q.val = q.val; omega
  | ⟨1, _⟩ => show 0 + 1 * r.val = r.val; omega
  | ⟨2, _⟩ => show 0 + 1 * j.val = j.val; omega

/-- Where each window's block lies at a grid point. -/
theorem idx : ∀ t : Fin grid0.N,
    win0_0.index t = ![t.val / 4, 0] ∧ win0_1.index t = ![0, 0, t.val % 4] ∧ win0_2.index t = ![t.val / 4, t.val % 4]
      ∧ win0_3.index t = ![0, 0] ∧ win0_4.index t = ![0, 0] ∧ win0_5.index t = ![t.val / 4, 0] ∧ win0_6.index t = ![t.val / 4, 0] := by
  decide +kernel

/-- What a point stores is the reference's sum at the place of its block. -/
theorem stored_eq (m : (ℓ : Loc nD τ sig) → Buf (Elt Ideal) ℓ) (c : Dev nD) (t : Fin cfg0.N) (r : Fin 544) (j : Fin 512) (R : Fin 8704) (J : Fin 2048)
    (hR : R.val = t.val / 4 * 544 + r.val) (hJ : J.val = t.val % 4 * 512 + j.val) :
    stored m c t (ix3 0 r j) = val_main_v10 (F := Ideal) (m ((c : Thread nD τ).loc main_arg0)) (m ((c : Thread nD τ).loc main_arg1)) (m ((c : Thread nD τ).loc main_arg2)) (ix2 R J) := by
  obtain ⟨e0, e1, e2, -⟩ := idx t
  rw [stored, pay_eq, sum_eq]
  obtain ⟨R, lR⟩ := R
  obtain ⟨J, lJ⟩ := J
  dsimp only at hR hJ
  subst hR hJ
  simp only [View.readAt_apply, Memref.IsWhole.read_unread]
  congr 1
  · congr 1
    rw [at_origin2 inb_S544x512_S544x512_0_0 r j r.isLt j.isLt]
    blk_point [iblk, V, e2]
  · congr 1
    refine Finset.sum_congr rfl fun k _ => ?_
    congr 1
    · rw [at_origin2 inb_S544x5632_S544x5504_0_0 r k r.isLt (by omega)]
      blk_point [iblk, V, e0]
    · rw [at_origin3 inb_S1x5504x512_S1x5504x512_0_0_0 0 k j (by decide) k.isLt j.isLt]
      blk_point [iblk, V, e1]

/-- The row of four slabs that a last point reads is the reference's sum along the row. -/
theorem row_eq (m : (ℓ : Loc nD τ sig) → Buf (Elt Ideal) ℓ) (c : Dev nD) (t : Fin cfg0.N) (h : t.val % 4 = 3) (r : Fin 544) (R : Fin 8704)
    (hR : R.val = t.val / 4 * 544 + r.val) :
    row (stored m c (sib t 0 (by decide))) (stored m c (sib t 1 (by decide))) (stored m c (sib t 2 (by decide))) (stored m c t) r = fun k => val_main_v10 (F := Ideal) (m ((c : Thread nD τ).loc main_arg0)) (m ((c : Thread nD τ).loc main_arg1)) (m ((c : Thread nD τ).loc main_arg2)) (ix2 R k) := by
  have ht : t.val < 64 := lt_of_lt_of_eq t.isLt N_0
  funext k
  unfold row
  split
  · exact stored_eq m c _ r _ R k (by unfold sib; dsimp only; omega) (by unfold sib; dsimp only; omega)
  split
  · exact stored_eq m c _ r _ R k (by unfold sib; dsimp only; omega) (by unfold sib; dsimp only; omega)
  split
  · exact stored_eq m c _ r _ R k (by unfold sib; dsimp only; omega) (by unfold sib; dsimp only; omega)
  · exact stored_eq m c _ r _ R k (by omega) (by dsimp only; omega)

/-- The slice of the gain row at column block `o` (the host's reshape of the gain vector). -/
theorem gain (m : (ℓ : Loc nD τ sig) → Buf (Elt Ideal) ℓ) (c : Dev nD) (t : Fin cfg0.N) (o : ℕ) (inb : ∀ a, (![0, o] : Fin 2 → ℕ) a + S1x512.size a ≤ S1x2048.size a) (j : Fin 512) (J : Fin 2048) (hJ : J.val = o + j.val) :
    (stage3 t).view.readAt (Elt Ideal) (Rect.unit (s := S1x2048) ![0, o] S1x512.size inb).toLoadRect ((whole3 t).unread (iblk m c 3 t)) (ix2 0 j)
      = m ((c : Thread nD τ).loc main_arg3) (ix1 J) := by
  obtain ⟨-, -, -, e3, -⟩ := idx t
  rw [View.readAt_apply, Memref.IsWhole.read_unread]
  rw [show (Rect.unit (s := S1x2048) ![0, o] S1x512.size inb).toLoadRect.idx (ix2 0 j) = ix2 0 J from funext fun x => Fin.ext (match x with
    | ⟨0, _⟩ => rfl
    | ⟨1, _⟩ => by show o + 1 * j.val = J.val; omega)]
  blk_point [iblk, V, e3]

/-- The slice of the bias row at column block `o`. -/
theorem bias (m : (ℓ : Loc nD τ sig) → Buf (Elt Ideal) ℓ) (c : Dev nD) (t : Fin cfg0.N) (o : ℕ) (inb : ∀ a, (![0, o] : Fin 2 → ℕ) a + S1x512.size a ≤ S1x2048.size a) (j : Fin 512) (J : Fin 2048) (hJ : J.val = o + j.val) :
    (stage4 t).view.readAt (Elt Ideal) (Rect.unit (s := S1x2048) ![0, o] S1x512.size inb).toLoadRect ((whole4 t).unread (iblk m c 4 t)) (ix2 0 j)
      = m ((c : Thread nD τ).loc main_arg4) (ix1 J) := by
  obtain ⟨-, -, -, -, e4, -⟩ := idx t
  rw [View.readAt_apply, Memref.IsWhole.read_unread]
  rw [show (Rect.unit (s := S1x2048) ![0, o] S1x512.size inb).toLoadRect.idx (ix2 0 j) = ix2 0 J from funext fun x => Fin.ext (match x with
    | ⟨0, _⟩ => rfl
    | ⟨1, _⟩ => by show o + 1 * j.val = J.val; omega)]
  blk_point [iblk, V, e4]

/-- What a last point leaves in the first output's buffer is the reference's first result at the place of its block. -/
theorem point5 (m : (ℓ : Loc nD τ sig) → Buf (Elt Ideal) ℓ) (c : Dev nD) (t : Fin cfg0.N) (h : t.val % 4 = 3) (r : Fin 544) (J : Fin 2048) (R : Fin 8704)
    (hR : R.val = t.val / 4 * 544 + r.val) : out5 m c t (ix2 r J) = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R J) := by
  rw [ref_eq, ← row_eq m c t h r R hR]
  have hJ : J.val < 2048 := J.isLt
  have hq : J.val / 512 = 0 ∨ J.val / 512 = 1 ∨ J.val / 512 = 2 ∨ J.val / 512 = 3 := by omega
  obtain hq | hq | hq | hq := hq
  · obtain ⟨j, ej⟩ : ∃ j : Fin 512, J.val = 0 + j.val := ⟨⟨J.val - 0, by omega⟩, by dsimp only; omega⟩
    obtain ⟨J, lJ⟩ := J
    dsimp only at ej
    subst ej
    refine (tile5_0 m c t h r j).trans ((col0 _ _ _ _ _ _ r j).trans ?_)
    rw [gain m c t 0 _ j ⟨0 + j.val, by omega⟩ rfl, bias m c t 0 _ j ⟨0 + j.val, by omega⟩ rfl]
  · obtain ⟨j, ej⟩ : ∃ j : Fin 512, J.val = 512 + j.val := ⟨⟨J.val - 512, by omega⟩, by dsimp only; omega⟩
    obtain ⟨J, lJ⟩ := J
    dsimp only at ej
    subst ej
    refine (tile5_1 m c t h r j).trans ((col1 _ _ _ _ _ _ r j).trans ?_)
    rw [gain m c t 512 _ j ⟨512 + j.val, by omega⟩ rfl, bias m c t 512 _ j ⟨512 + j.val, by omega⟩ rfl]
  · obtain ⟨j, ej⟩ : ∃ j : Fin 512, J.val = 1024 + j.val := ⟨⟨J.val - 1024, by omega⟩, by dsimp only; omega⟩
    obtain ⟨J, lJ⟩ := J
    dsimp only at ej
    subst ej
    refine (tile5_2 m c t h r j).trans ((col2 _ _ _ _ _ _ r j).trans ?_)
    rw [gain m c t 1024 _ j ⟨1024 + j.val, by omega⟩ rfl, bias m c t 1024 _ j ⟨1024 + j.val, by omega⟩ rfl]
  · obtain ⟨j, ej⟩ : ∃ j : Fin 512, J.val = 1536 + j.val := ⟨⟨J.val - 1536, by omega⟩, by dsimp only; omega⟩
    obtain ⟨J, lJ⟩ := J
    dsimp only at ej
    subst ej
    refine (tile5_3 m c t h r j).trans ((col3 _ _ _ _ _ _ r j).trans ?_)
    rw [gain m c t 1536 _ j ⟨1536 + j.val, by omega⟩ rfl, bias m c t 1536 _ j ⟨1536 + j.val, by omega⟩ rfl]

/-- What it leaves in the second output's buffer is the reference's second result there: the same values. -/
theorem point6 (m : (ℓ : Loc nD τ sig) → Buf (Elt Ideal) ℓ) (c : Dev nD) (t : Fin cfg0.N) (h : t.val % 4 = 3) (r : Fin 544) (J : Fin 2048) (R : Fin 8704)
    (hR : R.val = t.val / 4 * 544 + r.val) : out6 m c t (ix2 r J) = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R J) := by
  refine Eq.trans ?_ (show val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R J) = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R J) from rfl)
  rw [ref_eq, ← row_eq m c t h r R hR]
  have hJ : J.val < 2048 := J.isLt
  have hq : J.val / 512 = 0 ∨ J.val / 512 = 1 ∨ J.val / 512 = 2 ∨ J.val / 512 = 3 := by omega
  obtain hq | hq | hq | hq := hq
  · obtain ⟨j, ej⟩ : ∃ j : Fin 512, J.val = 0 + j.val := ⟨⟨J.val - 0, by omega⟩, by dsimp only; omega⟩
    obtain ⟨J, lJ⟩ := J
    dsimp only at ej
    subst ej
    refine (tile6_0 m c t h r j).trans ((col0 _ _ _ _ _ _ r j).trans ?_)
    rw [gain m c t 0 _ j ⟨0 + j.val, by omega⟩ rfl, bias m c t 0 _ j ⟨0 + j.val, by omega⟩ rfl]
  · obtain ⟨j, ej⟩ : ∃ j : Fin 512, J.val = 512 + j.val := ⟨⟨J.val - 512, by omega⟩, by dsimp only; omega⟩
    obtain ⟨J, lJ⟩ := J
    dsimp only at ej
    subst ej
    refine (tile6_1 m c t h r j).trans ((col1 _ _ _ _ _ _ r j).trans ?_)
    rw [gain m c t 512 _ j ⟨512 + j.val, by omega⟩ rfl, bias m c t 512 _ j ⟨512 + j.val, by omega⟩ rfl]
  · obtain ⟨j, ej⟩ : ∃ j : Fin 512, J.val = 1024 + j.val := ⟨⟨J.val - 1024, by omega⟩, by dsimp only; omega⟩
    obtain ⟨J, lJ⟩ := J
    dsimp only at ej
    subst ej
    refine (tile6_2 m c t h r j).trans ((col2 _ _ _ _ _ _ r j).trans ?_)
    rw [gain m c t 1024 _ j ⟨1024 + j.val, by omega⟩ rfl, bias m c t 1024 _ j ⟨1024 + j.val, by omega⟩ rfl]
  · obtain ⟨j, ej⟩ : ∃ j : Fin 512, J.val = 1536 + j.val := ⟨⟨J.val - 1536, by omega⟩, by dsimp only; omega⟩
    obtain ⟨J, lJ⟩ := J
    dsimp only at ej
    subst ej
    refine (tile6_3 m c t h r j).trans ((col3 _ _ _ _ _ _ r j).trans ?_)
    rw [gain m c t 1536 _ j ⟨1536 + j.val, by omega⟩ rfl, bias m c t 1536 _ j ⟨1536 + j.val, by omega⟩ rfl]

/-- The first result array after the run is the reference's first result of the launched arguments. -/
theorem final5 (m : (ℓ : Loc nD τ sig) → Buf (Elt Ideal) ℓ) (c : Dev nD) : (dats m 0 c).arrAt 5 cfg0.N = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h : t.val % 4 = 3 := (flush0_5 t).mp hf
  have ht : t.val < 64 := lt_of_lt_of_eq t.isLt N_0
  obtain ⟨-, -, -, -, -, e5, -⟩ := idx t
  blk_simp
  rw [show (dats m 0 c).after 5 t = out5 m c t from rfl]
  obtain ⟨r, j, rfl⟩ : ∃ (r : Fin 544) (j : Fin 2048), y = ix2 r j := ⟨_, _, eq_ix2 y⟩
  have hi : (((View.whole main_v2_0).slice (win0_5.rect t)).emb (ix2 r j)) = ix2 ⟨t.val / 4 * 544 + r.val, by omega⟩ j := by
    blk_ext [e5]
  rw [hi]
  exact point5 m c t h r j _ rfl

/-- The second result array after the run is the reference's second result. -/
theorem final6 (m : (ℓ : Loc nD τ sig) → Buf (Elt Ideal) ℓ) (c : Dev nD) : (dats m 0 c).arrAt 6 cfg0.N = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h : t.val % 4 = 3 := (flush0_6 t).mp hf
  have ht : t.val < 64 := lt_of_lt_of_eq t.isLt N_0
  obtain ⟨-, -, -, -, -, -, e6⟩ := idx t
  blk_simp
  rw [show (dats m 0 c).after 6 t = out6 m c t from rfl]
  obtain ⟨r, j, rfl⟩ : ∃ (r : Fin 544) (j : Fin 2048), y = ix2 r j := ⟨_, _, eq_ix2 y⟩
  have hi : (((View.whole main_v2_1).slice (win0_6.rect t)).emb (ix2 r j)) = ix2 ⟨t.val / 4 * 544 + r.val, by omega⟩ j := by
    blk_ext [e6]
  rw [hi]
  exact point6 m c t h r j _ rfl

/-- The program and the reference, run in exact arithmetic on the same arguments, end with the same results. -/
theorem equal : Cert.algebraic_Kernel3Ideal_Reference3Ideal := by
  intro m ρ m' ρ' _ hagree
  refine ⟨fun c => val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run Cert.Kernel3Ideal.defs _ _).mono (fun r h c => ?_)
      (θ_run_and (frame (F := Ideal) m ρ) (runs (F := Ideal) m ρ))
    refine ⟨((h.2.1 c).1 5).trans (final5 m c), ((h.2.1 c).1 6).trans (final6 m c), h.1.1 c⟩
  · refine (θ_run Cert.Reference3Ideal.defs _ _).mono (fun r h c => ?_) (Cert.Reference3Ideal.Value.run (F := Ideal) m' ρ')
    have h' := h c
    obtain ⟨a0, a1, a2, a3, a4⟩ := hagree c
    refine ⟨h'.1.trans ?_, h'.2.1.trans ?_, h'.2.2⟩
    · rw [val_main_v34_eq, a0, a1, a2, a3, a4]
    · rw [val_main_v35_eq, a0, a1, a2, a3, a4]

end Cert.FfnDown

end
-- ==== Proof.QkvRun.lean ====
/- The run of the attention's projection (`Cert.Kernel4Ideal`). Its grid is 17 row blocks by 3 column blocks: the queries,
   the keys and the values. A point multiplies its rows by its columns and stores the product, rounded; the keys and the
   values are stored unrounded too, head by head, every eighth row of a buffer being one head's. What a point stores is
   written back at a later point, so the proof data say which point each buffer's contents come from. -/
module

public import proofs.«01_k».proof.Defs
public import proofs.«01_k».proof.Proof.Gen.Kernel4Ideal.Skeleton
public import proofs.«01_k».proof.Proof.Gen.Kernel4Ideal.Frame
public import Idealize.ShloMosaic.Lib.Pipeline.FrameBody
public import Idealize.ShloMosaic.Lib.Pipeline.TableIdle
public import Idealize.ShloMosaic.Lib.Pipeline.ValueKit
public import Idealize.ShloMosaic.Lib.Writes
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Qkv

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point stores -/

/-- Its product, rounded, over a whole buffer. -/
abbrev block (a : Vec F S512x2048 .bf16) (b : Vec F S1x2048x1024 .bf16) : List (View.Piece (Elt F) S512x1024 .bf16) :=
  [⟨Rect.unit (s := S512x1024) ![0, 0] S512x1024.size inb_S512x1024_S512x1024_0_0, k0_pay35 a b⟩]

/-- The eight heads of a product, each over every eighth row. -/
abbrev strips (u : FVec F S512x1024 .f32) : List (View.Piece (Elt F) S1x4096x128 .f32) :=
  [⟨⟨(⟨![0, 7, 0], S1x512x128.size, ![1, 8, 1], inb_S1x4096x128_S1x512x128_0_7_0_s_1_8_1⟩ : LoadRect S1x4096x128), spos_1_8_1⟩, k0_pay38 (k0_pay9 u)⟩,
   ⟨⟨(⟨![0, 6, 0], S1x512x128.size, ![1, 8, 1], inb_S1x4096x128_S1x512x128_0_6_0_s_1_8_1⟩ : LoadRect S1x4096x128), spos_1_8_1⟩, k0_pay8 u⟩,
   ⟨⟨(⟨![0, 5, 0], S1x512x128.size, ![1, 8, 1], inb_S1x4096x128_S1x512x128_0_5_0_s_1_8_1⟩ : LoadRect S1x4096x128), spos_1_8_1⟩, k0_pay7 u⟩,
   ⟨⟨(⟨![0, 4, 0], S1x512x128.size, ![1, 8, 1], inb_S1x4096x128_S1x512x128_0_4_0_s_1_8_1⟩ : LoadRect S1x4096x128), spos_1_8_1⟩, k0_pay6 u⟩,
   ⟨⟨(⟨![0, 3, 0], S1x512x128.size, ![1, 8, 1], inb_S1x4096x128_S1x512x128_0_3_0_s_1_8_1⟩ : LoadRect S1x4096x128), spos_1_8_1⟩, k0_pay5 u⟩,
   ⟨⟨(⟨![0, 2, 0], S1x512x128.size, ![1, 8, 1], inb_S1x4096x128_S1x512x128_0_2_0_s_1_8_1⟩ : LoadRect S1x4096x128), spos_1_8_1⟩, k0_pay4 u⟩,
   ⟨⟨(⟨![0, 1, 0], S1x512x128.size, ![1, 8, 1], inb_S1x4096x128_S1x512x128_0_1_0_s_1_8_1⟩ : LoadRect S1x4096x128), spos_1_8_1⟩, k0_pay3 u⟩,
   ⟨⟨(⟨![0, 0, 0], S1x512x128.size, ![1, 8, 1], inb_S1x4096x128_S1x512x128_0_0_0_s_1_8_1⟩ : LoadRect S1x4096x128), spos_1_8_1⟩, k0_pay2 u⟩]

/-- A product's rounded block fills its buffer. -/
theorem block_covers (a : Vec F S512x2048 .bf16) (b : Vec F S1x2048x1024 .bf16) (y : S512x1024.Idx) : ∃ pc ∈ block a b, y ∈ pc.1.set :=
  View.cover_of_tiledL (block a b) S512x1024.size (by sl_kernel_rfl) y

/-- The eight strips fill their buffer. -/
theorem strips_cover (u : FVec F S512x1024 .f32) (y : S1x4096x128.Idx) : ∃ pc ∈ strips u, y ∈ pc.1.set := by
  have h0 : (y 0).val < 1 := (y 0).isLt
  have h1 : (y 1).val < 4096 := (y 1).isLt
  have h2 : (y 2).val < 128 := (y 2).isLt
  have key : ∀ (k : ℕ) (inb : _) (p : _) (w : Vec F S1x512x128 .f32), (y 1).val % 8 = k →
      y ∈ (⟨⟨(⟨![0, k, 0], S1x512x128.size, ![1, 8, 1], inb⟩ : LoadRect S1x4096x128), p⟩, w⟩ : View.Piece (Elt F) S1x4096x128 .f32).1.set := by
    intro k inb p w hk
    refine (LoadRect.mem_set _).mpr fun a => ?_
    match a with
    | ⟨0, _⟩ => exact ⟨0, by show 0 < 1; omega, by show (y 0).val = 0 + 1 * 0; omega⟩
    | ⟨1, _⟩ => exact ⟨(y 1).val / 8, by show (y 1).val / 8 < 512; omega, by show (y 1).val = k + 8 * ((y 1).val / 8); omega⟩
    | ⟨2, _⟩ => exact ⟨(y 2).val, by show (y 2).val < 128; omega, by show (y 2).val = 0 + 1 * (y 2).val; omega⟩
  have hk : (y 1).val % 8 < 8 := Nat.mod_lt _ (by decide)
  obtain h | h | h | h | h | h | h | h : (y 1).val % 8 = 7 ∨ (y 1).val % 8 = 6 ∨ (y 1).val % 8 = 5 ∨ (y 1).val % 8 = 4 ∨ (y 1).val % 8 = 3 ∨ (y 1).val % 8 = 2 ∨ (y 1).val % 8 = 1 ∨ (y 1).val % 8 = 0 := by omega
  · exact ⟨_, List.mem_cons_self, key 7 _ _ _ h⟩
  · exact ⟨_, List.mem_cons_of_mem _ List.mem_cons_self, key 6 _ _ _ h⟩
  · exact ⟨_, List.mem_cons_of_mem _ (List.mem_cons_of_mem _ List.mem_cons_self), key 5 _ _ _ h⟩
  · exact ⟨_, List.mem_cons_of_mem _ (List.mem_cons_of_mem _ (List.mem_cons_of_mem _ List.mem_cons_self)), key 4 _ _ _ h⟩
  · exact ⟨_, List.mem_cons_of_mem _ (List.mem_cons_of_mem _ (List.mem_cons_of_mem _ (List.mem_cons_of_mem _ List.mem_cons_self))), key 3 _ _ _ h⟩
  · exact ⟨_, List.mem_cons_of_mem _ (List.mem_cons_of_mem _ (List.mem_cons_of_mem _ (List.mem_cons_of_mem _ (List.mem_cons_of_mem _ List.mem_cons_self)))), key 2 _ _ _ h⟩
  · exact ⟨_, List.mem_cons_of_mem _ (List.mem_cons_of_mem _ (List.mem_cons_of_mem _ (List.mem_cons_of_mem _ (List.mem_cons_of_mem _ (List.mem_cons_of_mem _ List.mem_cons_self))))), key 1 _ _ _ h⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), key 0 _ _ _ h⟩

/-! ## The body's runs -/

set_option maxHeartbeats 4000000 in
/-- At a point of column block 0 the body stores this block's product, rounded, and leaves the other buffers alone. -/
theorem runA (c : Dev nD) (i : grid0.Coords) (arg2 : Memref sig .tc .vmem S512x2048 .bf16) (harg2 : arg2.IsWhole) (arg3 : Memref sig .tc .vmem S1x2048x1024 .bf16) (harg3 : arg3.IsWhole) (arg4 : Memref sig .tc .hbm S2x65536x128 .f32) (harg4 : arg4.IsWhole) (arg5 : Memref sig .tc .hbm S2x65536x128 .f32) (harg5 : arg5.IsWhole) (arg6 : Memref sig .tc .hbm S2x4096x128 .f32) (harg6 : arg6.IsWhole) (arg7 : Memref sig .tc .hbm S2x4096x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x4096x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x4096x128 .f32) (harg14 : arg14.IsWhole)
    (h1 : k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1)
    (x0 : Vec F S512x2048 .bf16) (x1 : Vec F S1x2048x1024 .bf16) (y3 : Vec F S512x1024 .bf16) (y4 : Vec F S512x1024 .bf16) (y5 : Vec F S1x4096x128 .f32) (y6 : Vec F S1x4096x128 .f32) (y7 : Vec F S1x4096x128 .f32) (y8 : Vec F S1x4096x128 .f32) (E : Set ℕ) (K : PUnit → sProp 𝕄) :
        iprop(owns (c : Thread nD τ) arg2 fullShare x0 ∗ owns (c : Thread nD τ) arg3 fullShare x1 ∗ (∃ d, owns (c : Thread nD τ) arg8 fullShare d) ∗ owns (c : Thread nD τ) arg9 fullShare y3 ∗ owns (c : Thread nD τ) arg10 fullShare y4 ∗ owns (c : Thread nD τ) arg11 fullShare y5 ∗ owns (c : Thread nD τ) arg12 fullShare y6 ∗ owns (c : Thread nD τ) arg13 fullShare y7 ∗ owns (c : Thread nD τ) arg14 fullShare y8
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f (block (arg2.view.readAt (Elt F) (Rect.unit (s := S512x2048) ![0, 0] S512x2048.size inb_S512x2048_S512x2048_0_0).toLoadRect (harg2.unread x0)) (arg3.view.readAt (Elt F) (Rect.unit (s := S1x2048x1024) ![0, 0, 0] S1x2048x1024.size inb_S1x2048x1024_S1x2048x1024_0_0_0).toLoadRect (harg3.unread x1)))) ∗ owns (c : Thread nD τ) arg9 fullShare y3 ∗ owns (c : Thread nD τ) arg10 fullShare y4 ∗ owns (c : Thread nD τ) arg11 fullShare y5 ∗ owns (c : Thread nD τ) arg12 fullShare y6 ∗ owns (c : Thread nD τ) arg13 fullShare y7 ∗ owns (c : Thread nD τ) arg14 fullShare y8) -∗ K ⟨⟩))
          ⊢ wp frame (wpE (defs₀ (F := F)) Variants.none c none) E (cc0_proj_s i arg2 harg2 arg3 harg3 arg4 harg4 arg5 harg5 arg6 harg6 arg7 harg7 arg8 harg8 arg9 harg9 arg10 harg10 arg11 harg11 arg12 harg12 arg13 harg13 arg14 harg14) K := by
  simp only [cc0_proj_s_eq_skeleton]; unfold cc0_proj_s_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg9.eq_unread hf3; obtain rfl := harg10.eq_unread hf4; obtain rfl := harg11.eq_unread hf5; obtain rfl := harg12.eq_unread hf6; obtain rfl := harg13.eq_unread hf7; obtain rfl := harg14.eq_unread hf8
  sl_exec (disch := first | sl_exact h1 | sl_exact h2 | sl_exact h3 | sl_exact h4 | sl_exact h5 | sl_exact h6 | sl_exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]; · iexists _; iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [H6]
  · iexists _; isplitr; · ipureintro; exact harg12.read_unread _
    iexact H6
  isplitl [H7]
  · iexists _; isplitr; · ipureintro; exact harg13.read_unread _
    iexact H7
  iexists _; isplitr; · ipureintro; exact harg14.read_unread _
  iexact H8

set_option maxHeartbeats 4000000 in
/-- At a point of column block 1 over the prompt's rows the body stores the product, rounded, and its eight heads' strips and leaves the other buffers alone. -/
theorem runB (c : Dev nD) (i : grid0.Coords) (arg2 : Memref sig .tc .vmem S512x2048 .bf16) (harg2 : arg2.IsWhole) (arg3 : Memref sig .tc .vmem S1x2048x1024 .bf16) (harg3 : arg3.IsWhole) (arg4 : Memref sig .tc .hbm S2x65536x128 .f32) (harg4 : arg4.IsWhole) (arg5 : Memref sig .tc .hbm S2x65536x128 .f32) (harg5 : arg5.IsWhole) (arg6 : Memref sig .tc .hbm S2x4096x128 .f32) (harg6 : arg6.IsWhole) (arg7 : Memref sig .tc .hbm S2x4096x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x4096x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x4096x128 .f32) (harg14 : arg14.IsWhole)
    (h1 : ¬ k0_cond1 i = 1#1) (h2 : k0_cond2 i = 1#1) (h3 : ¬ k0_cond3 i = 1#1) (h4 : k0_cond4 i = 1#1) (h5 : ¬ k0_cond5 i = 1#1) (h6 : ¬ k0_cond6 i = 1#1) (h7 : ¬ k0_cond7 i = 1#1)
    (x0 : Vec F S512x2048 .bf16) (x1 : Vec F S1x2048x1024 .bf16) (y2 : Vec F S512x1024 .bf16) (y4 : Vec F S512x1024 .bf16) (y6 : Vec F S1x4096x128 .f32) (y7 : Vec F S1x4096x128 .f32) (y8 : Vec F S1x4096x128 .f32) (E : Set ℕ) (K : PUnit → sProp 𝕄) :
        iprop(owns (c : Thread nD τ) arg2 fullShare x0 ∗ owns (c : Thread nD τ) arg3 fullShare x1 ∗ owns (c : Thread nD τ) arg8 fullShare y2 ∗ (∃ d, owns (c : Thread nD τ) arg9 fullShare d) ∗ owns (c : Thread nD τ) arg10 fullShare y4 ∗ (∃ d, owns (c : Thread nD τ) arg11 fullShare d) ∗ owns (c : Thread nD τ) arg12 fullShare y6 ∗ owns (c : Thread nD τ) arg13 fullShare y7 ∗ owns (c : Thread nD τ) arg14 fullShare y8
            ∗ (iprop(owns (c : Thread nD τ) arg2 fullShare x0 ∗ owns (c : Thread nD τ) arg3 fullShare x1 ∗ owns (c : Thread nD τ) arg8 fullShare y2 ∗ (∃ f, arg9.view.loc (c : Thread nD τ) ↦[arg9.view.set]{fullShare} arg9.view.writes (Elt F) f (block (arg2.view.readAt (Elt F) (Rect.unit (s := S512x2048) ![0, 0] S512x2048.size inb_S512x2048_S512x2048_0_0).toLoadRect (harg2.unread x0)) (arg3.view.readAt (Elt F) (Rect.unit (s := S1x2048x1024) ![0, 0, 0] S1x2048x1024.size inb_S1x2048x1024_S1x2048x1024_0_0_0).toLoadRect (harg3.unread x1)))) ∗ owns (c : Thread nD τ) arg10 fullShare y4 ∗ (∃ f, arg11.view.loc (c : Thread nD τ) ↦[arg11.view.set]{fullShare} arg11.view.writes (Elt F) f (strips (k0_pay34 (arg2.view.readAt (Elt F) (Rect.unit (s := S512x2048) ![0, 0] S512x2048.size inb_S512x2048_S512x2048_0_0).toLoadRect (harg2.unread x0)) (arg3.view.readAt (Elt F) (Rect.unit (s := S1x2048x1024) ![0, 0, 0] S1x2048x1024.size inb_S1x2048x1024_S1x2048x1024_0_0_0).toLoadRect (harg3.unread x1))))) ∗ owns (c : Thread nD τ) arg12 fullShare y6 ∗ owns (c : Thread nD τ) arg13 fullShare y7 ∗ owns (c : Thread nD τ) arg14 fullShare y8) -∗ K ⟨⟩))
          ⊢ wp frame (wpE (defs₀ (F := F)) Variants.none c none) E (cc0_proj_s i arg2 harg2 arg3 harg3 arg4 harg4 arg5 harg5 arg6 harg6 arg7 harg7 arg8 harg8 arg9 harg9 arg10 harg10 arg11 harg11 arg12 harg12 arg13 harg13 arg14 harg14) K := by
  simp only [cc0_proj_s_eq_skeleton]; unfold cc0_proj_s_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf0; obtain rfl := harg3.eq_unread hf1; obtain rfl := harg8.eq_unread hf2; obtain rfl := harg10.eq_unread hf4; obtain rfl := harg12.eq_unread hf6; obtain rfl := harg13.eq_unread hf7; obtain rfl := harg14.eq_unread hf8
  sl_exec (disch := first | sl_exact h1 | sl_exact h2 | sl_exact h3 | sl_exact h4 | sl_exact h5 | sl_exact h6 | sl_exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg8.read_unread _
    iexact H2
  isplitl [H3]; · iexists _; iexact H3
  isplitl [H4]
  · iexists _; isplitr; · ipureintro; exact harg10.read_unread _
    iexact H4
  isplitl [H5]; · iexists _; iexact H5
  isplitl [H6]
  · iexists _; isplitr; · ipureintro; exact harg12.read_unread _
    iexact H6
  isplitl [H7]
  · iexists _; isplitr; · ipureintro; exact harg13.read_unread _
    iexact H7
  iexists _; isplitr; · ipureintro; exact harg14.read_unread _
  iexact H8

set_option maxHeartbeats 4000000 in
/-- At the point of column block 1 over the sampled rows the body stores the product, rounded, and its eight heads' strips and leaves the other buffers alone. -/
theorem runC (c : Dev nD) (i : grid0.Coords) (arg2 : Memref sig .tc .vmem S512x2048 .bf16) (harg2 : arg2.IsWhole) (arg3 : Memref sig .tc .vmem S1x2048x1024 .bf16) (harg3 : arg3.IsWhole) (arg4 : Memref sig .tc .hbm S2x65536x128 .f32) (harg4 : arg4.IsWhole) (arg5 : Memref sig .tc .hbm S2x65536x128 .f32) (harg5 : arg5.IsWhole) (arg6 : Memref sig .tc .hbm S2x4096x128 .f32) (harg6 : arg6.IsWhole) (arg7 : Memref sig .tc .hbm S2x4096x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x4096x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x4096x128 .f32) (harg14 : arg14.IsWhole)
    (h1 : ¬ k0_cond1 i = 1#1) (h2 : k0_cond2 i = 1#1) (h3 : ¬ k0_cond3 i = 1#1) (h4 : ¬ k0_cond4 i = 1#1) (h5 : k0_cond5 i = 1#1) (h6 : ¬ k0_cond6 i = 1#1) (h7 : ¬ k0_cond7 i = 1#1)
    (x0 : Vec F S512x2048 .bf16) (x1 : Vec F S1x2048x1024 .bf16) (y2 : Vec F S512x1024 .bf16) (y4 : Vec F S512x1024 .bf16) (y5 : Vec F S1x4096x128 .f32) (y6 : Vec F S1x4096x128 .f32) (y8 : Vec F S1x4096x128 .f32) (E : Set ℕ) (K : PUnit → sProp 𝕄) :
        iprop(owns (c : Thread nD τ) arg2 fullShare x0 ∗ owns (c : Thread nD τ) arg3 fullShare x1 ∗ owns (c : Thread nD τ) arg8 fullShare y2 ∗ (∃ d, owns (c : Thread nD τ) arg9 fullShare d) ∗ owns (c : Thread nD τ) arg10 fullShare y4 ∗ owns (c : Thread nD τ) arg11 fullShare y5 ∗ owns (c : Thread nD τ) arg12 fullShare y6 ∗ (∃ d, owns (c : Thread nD τ) arg13 fullShare d) ∗ owns (c : Thread nD τ) arg14 fullShare y8
            ∗ (iprop(owns (c : Thread nD τ) arg2 fullShare x0 ∗ owns (c : Thread nD τ) arg3 fullShare x1 ∗ owns (c : Thread nD τ) arg8 fullShare y2 ∗ (∃ f, arg9.view.loc (c : Thread nD τ) ↦[arg9.view.set]{fullShare} arg9.view.writes (Elt F) f (block (arg2.view.readAt (Elt F) (Rect.unit (s := S512x2048) ![0, 0] S512x2048.size inb_S512x2048_S512x2048_0_0).toLoadRect (harg2.unread x0)) (arg3.view.readAt (Elt F) (Rect.unit (s := S1x2048x1024) ![0, 0, 0] S1x2048x1024.size inb_S1x2048x1024_S1x2048x1024_0_0_0).toLoadRect (harg3.unread x1)))) ∗ owns (c : Thread nD τ) arg10 fullShare y4 ∗ owns (c : Thread nD τ) arg11 fullShare y5 ∗ owns (c : Thread nD τ) arg12 fullShare y6 ∗ (∃ f, arg13.view.loc (c : Thread nD τ) ↦[arg13.view.set]{fullShare} arg13.view.writes (Elt F) f (strips (k0_pay34 (arg2.view.readAt (Elt F) (Rect.unit (s := S512x2048) ![0, 0] S512x2048.size inb_S512x2048_S512x2048_0_0).toLoadRect (harg2.unread x0)) (arg3.view.readAt (Elt F) (Rect.unit (s := S1x2048x1024) ![0, 0, 0] S1x2048x1024.size inb_S1x2048x1024_S1x2048x1024_0_0_0).toLoadRect (harg3.unread x1))))) ∗ owns (c : Thread nD τ) arg14 fullShare y8) -∗ K ⟨⟩))
          ⊢ wp frame (wpE (defs₀ (F := F)) Variants.none c none) E (cc0_proj_s i arg2 harg2 arg3 harg3 arg4 harg4 arg5 harg5 arg6 harg6 arg7 harg7 arg8 harg8 arg9 harg9 arg10 harg10 arg11 harg11 arg12 harg12 arg13 harg13 arg14 harg14) K := by
  simp only [cc0_proj_s_eq_skeleton]; unfold cc0_proj_s_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf0; obtain rfl := harg3.eq_unread hf1; obtain rfl := harg8.eq_unread hf2; obtain rfl := harg10.eq_unread hf4; obtain rfl := harg11.eq_unread hf5; obtain rfl := harg12.eq_unread hf6; obtain rfl := harg14.eq_unread hf8
  sl_exec (disch := first | sl_exact h1 | sl_exact h2 | sl_exact h3 | sl_exact h4 | sl_exact h5 | sl_exact h6 | sl_exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg8.read_unread _
    iexact H2
  isplitl [H3]; · iexists _; iexact H3
  isplitl [H4]
  · iexists _; isplitr; · ipureintro; exact harg10.read_unread _
    iexact H4
  isplitl [H5]
  · iexists _; isplitr; · ipureintro; exact harg11.read_unread _
    iexact H5
  isplitl [H6]
  · iexists _; isplitr; · ipureintro; exact harg12.read_unread _
    iexact H6
  isplitl [H7]; · iexists _; iexact H7
  iexists _; isplitr; · ipureintro; exact harg14.read_unread _
  iexact H8

set_option maxHeartbeats 4000000 in
/-- At a point of column block 2 over the prompt's rows the body stores the product, rounded, and its eight heads' strips and leaves the other buffers alone. -/
theorem runD (c : Dev nD) (i : grid0.Coords) (arg2 : Memref sig .tc .vmem S512x2048 .bf16) (harg2 : arg2.IsWhole) (arg3 : Memref sig .tc .vmem S1x2048x1024 .bf16) (harg3 : arg3.IsWhole) (arg4 : Memref sig .tc .hbm S2x65536x128 .f32) (harg4 : arg4.IsWhole) (arg5 : Memref sig .tc .hbm S2x65536x128 .f32) (harg5 : arg5.IsWhole) (arg6 : Memref sig .tc .hbm S2x4096x128 .f32) (harg6 : arg6.IsWhole) (arg7 : Memref sig .tc .hbm S2x4096x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x4096x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x4096x128 .f32) (harg14 : arg14.IsWhole)
    (h1 : ¬ k0_cond1 i = 1#1) (h2 : ¬ k0_cond2 i = 1#1) (h3 : k0_cond3 i = 1#1) (h4 : ¬ k0_cond4 i = 1#1) (h5 : ¬ k0_cond5 i = 1#1) (h6 : k0_cond6 i = 1#1) (h7 : ¬ k0_cond7 i = 1#1)
    (x0 : Vec F S512x2048 .bf16) (x1 : Vec F S1x2048x1024 .bf16) (y2 : Vec F S512x1024 .bf16) (y3 : Vec F S512x1024 .bf16) (y5 : Vec F S1x4096x128 .f32) (y7 : Vec F S1x4096x128 .f32) (y8 : Vec F S1x4096x128 .f32) (E : Set ℕ) (K : PUnit → sProp 𝕄) :
        iprop(owns (c : Thread nD τ) arg2 fullShare x0 ∗ owns (c : Thread nD τ) arg3 fullShare x1 ∗ owns (c : Thread nD τ) arg8 fullShare y2 ∗ owns (c : Thread nD τ) arg9 fullShare y3 ∗ (∃ d, owns (c : Thread nD τ) arg10 fullShare d) ∗ owns (c : Thread nD τ) arg11 fullShare y5 ∗ (∃ d, owns (c : Thread nD τ) arg12 fullShare d) ∗ owns (c : Thread nD τ) arg13 fullShare y7 ∗ owns (c : Thread nD τ) arg14 fullShare y8
            ∗ (iprop(owns (c : Thread nD τ) arg2 fullShare x0 ∗ owns (c : Thread nD τ) arg3 fullShare x1 ∗ owns (c : Thread nD τ) arg8 fullShare y2 ∗ owns (c : Thread nD τ) arg9 fullShare y3 ∗ (∃ f, arg10.view.loc (c : Thread nD τ) ↦[arg10.view.set]{fullShare} arg10.view.writes (Elt F) f (block (arg2.view.readAt (Elt F) (Rect.unit (s := S512x2048) ![0, 0] S512x2048.size inb_S512x2048_S512x2048_0_0).toLoadRect (harg2.unread x0)) (arg3.view.readAt (Elt F) (Rect.unit (s := S1x2048x1024) ![0, 0, 0] S1x2048x1024.size inb_S1x2048x1024_S1x2048x1024_0_0_0).toLoadRect (harg3.unread x1)))) ∗ owns (c : Thread nD τ) arg11 fullShare y5 ∗ (∃ f, arg12.view.loc (c : Thread nD τ) ↦[arg12.view.set]{fullShare} arg12.view.writes (Elt F) f (strips (k0_pay34 (arg2.view.readAt (Elt F) (Rect.unit (s := S512x2048) ![0, 0] S512x2048.size inb_S512x2048_S512x2048_0_0).toLoadRect (harg2.unread x0)) (arg3.view.readAt (Elt F) (Rect.unit (s := S1x2048x1024) ![0, 0, 0] S1x2048x1024.size inb_S1x2048x1024_S1x2048x1024_0_0_0).toLoadRect (harg3.unread x1))))) ∗ owns (c : Thread nD τ) arg13 fullShare y7 ∗ owns (c : Thread nD τ) arg14 fullShare y8) -∗ K ⟨⟩))
          ⊢ wp frame (wpE (defs₀ (F := F)) Variants.none c none) E (cc0_proj_s i arg2 harg2 arg3 harg3 arg4 harg4 arg5 harg5 arg6 harg6 arg7 harg7 arg8 harg8 arg9 harg9 arg10 harg10 arg11 harg11 arg12 harg12 arg13 harg13 arg14 harg14) K := by
  simp only [cc0_proj_s_eq_skeleton]; unfold cc0_proj_s_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%f7, %hf7, H7⟩, ⟨%f8, %hf8, H8⟩, Hk⟩
  obtain rfl := harg2.eq_unread hf0; obtain rfl := harg3.eq_unread hf1; obtain rfl := harg8.eq_unread hf2; obtain rfl := harg9.eq_unread hf3; obtain rfl := harg11.eq_unread hf5; obtain rfl := harg13.eq_unread hf7; obtain rfl := harg14.eq_unread hf8
  sl_exec (disch := first | sl_exact h1 | sl_exact h2 | sl_exact h3 | sl_exact h4 | sl_exact h5 | sl_exact h6 | sl_exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg8.read_unread _
    iexact H2
  isplitl [H3]
  · iexists _; isplitr; · ipureintro; exact harg9.read_unread _
    iexact H3
  isplitl [H4]; · iexists _; iexact H4
  isplitl [H5]
  · iexists _; isplitr; · ipureintro; exact harg11.read_unread _
    iexact H5
  isplitl [H6]; · iexists _; iexact H6
  isplitl [H7]
  · iexists _; isplitr; · ipureintro; exact harg13.read_unread _
    iexact H7
  iexists _; isplitr; · ipureintro; exact harg14.read_unread _
  iexact H8

set_option maxHeartbeats 4000000 in
/-- At the point of column block 2 over the sampled rows the body stores the product, rounded, and its eight heads' strips and leaves the other buffers alone. -/
theorem runE (c : Dev nD) (i : grid0.Coords) (arg2 : Memref sig .tc .vmem S512x2048 .bf16) (harg2 : arg2.IsWhole) (arg3 : Memref sig .tc .vmem S1x2048x1024 .bf16) (harg3 : arg3.IsWhole) (arg4 : Memref sig .tc .hbm S2x65536x128 .f32) (harg4 : arg4.IsWhole) (arg5 : Memref sig .tc .hbm S2x65536x128 .f32) (harg5 : arg5.IsWhole) (arg6 : Memref sig .tc .hbm S2x4096x128 .f32) (harg6 : arg6.IsWhole) (arg7 : Memref sig .tc .hbm S2x4096x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x4096x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x4096x128 .f32) (harg14 : arg14.IsWhole)
    (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1) (h7 : k0_cond7 i = 1#1)
    (x0 : Vec F S512x2048 .bf16) (x1 : Vec F S1x2048x1024 .bf16) (y2 : Vec F S512x1024 .bf16) (y3 : Vec F S512x1024 .bf16) (y5 : Vec F S1x4096x128 .f32) (y6 : Vec F S1x4096x128 .f32) (y7 : Vec F S1x4096x128 .f32) (E : Set ℕ) (K : PUnit → sProp 𝕄) :
        iprop(owns (c : Thread nD τ) arg2 fullShare x0 ∗ owns (c : Thread nD τ) arg3 fullShare x1 ∗ owns (c : Thread nD τ) arg8 fullShare y2 ∗ owns (c : Thread nD τ) arg9 fullShare y3 ∗ (∃ d, owns (c : Thread nD τ) arg10 fullShare d) ∗ owns (c : Thread nD τ) arg11 fullShare y5 ∗ owns (c : Thread nD τ) arg12 fullShare y6 ∗ owns (c : Thread nD τ) arg13 fullShare y7 ∗ (∃ d, owns (c : Thread nD τ) arg14 fullShare d)
            ∗ (iprop(owns (c : Thread nD τ) arg2 fullShare x0 ∗ owns (c : Thread nD τ) arg3 fullShare x1 ∗ owns (c : Thread nD τ) arg8 fullShare y2 ∗ owns (c : Thread nD τ) arg9 fullShare y3 ∗ (∃ f, arg10.view.loc (c : Thread nD τ) ↦[arg10.view.set]{fullShare} arg10.view.writes (Elt F) f (block (arg2.view.readAt (Elt F) (Rect.unit (s := S512x2048) ![0, 0] S512x2048.size inb_S512x2048_S512x2048_0_0).toLoadRect (harg2.unread x0)) (arg3.view.readAt (Elt F) (Rect.unit (s := S1x2048x1024) ![0, 0, 0] S1x2048x1024.size inb_S1x2048x1024_S1x2048x1024_0_0_0).toLoadRect (harg3.unread x1)))) ∗ owns (c : Thread nD τ) arg11 fullShare y5 ∗ owns (c : Thread nD τ) arg12 fullShare y6 ∗ owns (c : Thread nD τ) arg13 fullShare y7 ∗ (∃ f, arg14.view.loc (c : Thread nD τ) ↦[arg14.view.set]{fullShare} arg14.view.writes (Elt F) f (strips (k0_pay34 (arg2.view.readAt (Elt F) (Rect.unit (s := S512x2048) ![0, 0] S512x2048.size inb_S512x2048_S512x2048_0_0).toLoadRect (harg2.unread x0)) (arg3.view.readAt (Elt F) (Rect.unit (s := S1x2048x1024) ![0, 0, 0] S1x2048x1024.size inb_S1x2048x1024_S1x2048x1024_0_0_0).toLoadRect (harg3.unread x1)))))) -∗ K ⟨⟩))
          ⊢ wp frame (wpE (defs₀ (F := F)) Variants.none c none) E (cc0_proj_s i arg2 harg2 arg3 harg3 arg4 harg4 arg5 harg5 arg6 harg6 arg7 harg7 arg8 harg8 arg9 harg9 arg10 harg10 arg11 harg11 arg12 harg12 arg13 harg13 arg14 harg14) K := by
  simp only [cc0_proj_s_eq_skeleton]; unfold cc0_proj_s_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%d8, %f8, -, H8⟩, Hk⟩
  obtain rfl := harg2.eq_unread hf0; obtain rfl := harg3.eq_unread hf1; obtain rfl := harg8.eq_unread hf2; obtain rfl := harg9.eq_unread hf3; obtain rfl := harg11.eq_unread hf5; obtain rfl := harg12.eq_unread hf6; obtain rfl := harg13.eq_unread hf7
  sl_exec (disch := first | sl_exact h1 | sl_exact h2 | sl_exact h3 | sl_exact h4 | sl_exact h5 | sl_exact h6 | sl_exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg8.read_unread _
    iexact H2
  isplitl [H3]
  · iexists _; isplitr; · ipureintro; exact harg9.read_unread _
    iexact H3
  isplitl [H4]; · iexists _; iexact H4
  isplitl [H5]
  · iexists _; isplitr; · ipureintro; exact harg11.read_unread _
    iexact H5
  isplitl [H6]
  · iexists _; isplitr; · ipureintro; exact harg12.read_unread _
    iexact H6
  isplitl [H7]
  · iexists _; isplitr; · ipureintro; exact harg13.read_unread _
    iexact H7
  iexists _; iexact H8

/-! ## The points -/

/-- The staging buffer of window 0 at point `t`, -/
abbrev stage0 (t : Fin cfg0.N) : Memref sig .tc .vmem S512x2048 .bf16 := win0_0.stage (cfg0.slots t 0)
/-- which is a whole buffer. -/
abbrev whole0 (t : Fin cfg0.N) : (stage0 t).IsWhole := hstage0_0 ((cfg0.slots t 0).cast nbuf0_0)
/-- The staging buffer of window 1 at point `t`, -/
abbrev stage1 (t : Fin cfg0.N) : Memref sig .tc .vmem S1x2048x1024 .bf16 := win0_1.stage (cfg0.slots t 1)
/-- which is a whole buffer. -/
abbrev whole1 (t : Fin cfg0.N) : (stage1 t).IsWhole := hstage0_1 ((cfg0.slots t 1).cast nbuf0_1)
/-- The staging buffer of window 2 at point `t`, -/
abbrev stage2 (t : Fin cfg0.N) : Memref sig .tc .vmem S512x1024 .bf16 := win0_2.stage (cfg0.slots t 2)
/-- which is a whole buffer. -/
abbrev whole2 (t : Fin cfg0.N) : (stage2 t).IsWhole := hstage0_2 ((cfg0.slots t 2).cast nbuf0_2)
/-- The staging buffer of window 3 at point `t`, -/
abbrev stage3 (t : Fin cfg0.N) : Memref sig .tc .vmem S512x1024 .bf16 := win0_3.stage (cfg0.slots t 3)
/-- which is a whole buffer. -/
abbrev whole3 (t : Fin cfg0.N) : (stage3 t).IsWhole := hstage0_3 ((cfg0.slots t 3).cast nbuf0_3)
/-- The staging buffer of window 4 at point `t`, -/
abbrev stage4 (t : Fin cfg0.N) : Memref sig .tc .vmem S512x1024 .bf16 := win0_4.stage (cfg0.slots t 4)
/-- which is a whole buffer. -/
abbrev whole4 (t : Fin cfg0.N) : (stage4 t).IsWhole := hstage0_4 ((cfg0.slots t 4).cast nbuf0_4)
/-- The staging buffer of window 5 at point `t`, -/
abbrev stage5 (t : Fin cfg0.N) : Memref sig .tc .vmem S1x4096x128 .f32 := win0_5.stage (cfg0.slots t 5)
/-- which is a whole buffer. -/
abbrev whole5 (t : Fin cfg0.N) : (stage5 t).IsWhole := hstage0_5 ((cfg0.slots t 5).cast nbuf0_5)
/-- The staging buffer of window 6 at point `t`, -/
abbrev stage6 (t : Fin cfg0.N) : Memref sig .tc .vmem S1x4096x128 .f32 := win0_6.stage (cfg0.slots t 6)
/-- which is a whole buffer. -/
abbrev whole6 (t : Fin cfg0.N) : (stage6 t).IsWhole := hstage0_6 ((cfg0.slots t 6).cast nbuf0_6)
/-- The staging buffer of window 7 at point `t`, -/
abbrev stage7 (t : Fin cfg0.N) : Memref sig .tc .vmem S1x4096x128 .f32 := win0_7.stage (cfg0.slots t 7)
/-- which is a whole buffer. -/
abbrev whole7 (t : Fin cfg0.N) : (stage7 t).IsWhole := hstage0_7 ((cfg0.slots t 7).cast nbuf0_7)
/-- The staging buffer of window 8 at point `t`, -/
abbrev stage8 (t : Fin cfg0.N) : Memref sig .tc .vmem S1x4096x128 .f32 := win0_8.stage (cfg0.slots t 8)
/-- which is a whole buffer. -/
abbrev whole8 (t : Fin cfg0.N) : (stage8 t).IsWhole := hstage0_8 ((cfg0.slots t 8).cast nbuf0_8)

/-- Point number `n`. -/
def pt (n : ℕ) : Fin cfg0.N := ⟨n % 51, lt_of_lt_of_eq (Nat.mod_lt _ (by decide)) N_0.symm⟩

/-- The point whose stores window 2's buffer is written back with at or after point `t`. -/
abbrev src2 (t : Fin cfg0.N) : Fin cfg0.N := pt (3 * (t.val / 3))
/-- The point whose stores window 3's buffer is written back with at or after point `t`. -/
abbrev src3 (t : Fin cfg0.N) : Fin cfg0.N := pt (3 * (t.val / 3) + 1)
/-- The point whose stores window 4's buffer is written back with at or after point `t`. -/
abbrev src4 (t : Fin cfg0.N) : Fin cfg0.N := pt (3 * (t.val / 3) + 2)
/-- The point whose stores window 5's buffer is written back with at or after point `t`. -/
abbrev src5 (t : Fin cfg0.N) : Fin cfg0.N := pt (3 * min (t.val / 3) 15 + 1)
/-- The point whose stores window 6's buffer is written back with at or after point `t`. -/
abbrev src6 (t : Fin cfg0.N) : Fin cfg0.N := pt (3 * min (t.val / 3) 15 + 2)
/-- The point whose stores window 7's buffer is written back with at or after point `t`. -/
abbrev src7 (t : Fin cfg0.N) : Fin cfg0.N := pt (49)
/-- The point whose stores window 8's buffer is written back with at or after point `t`. -/
abbrev src8 (t : Fin cfg0.N) : Fin cfg0.N := pt (50)

/-- Window 0 is used at every point. -/
theorem live0 : ∀ t : Fin cfg0.N, cfg0.idle 0 (grid0.coords t) = false := fun _ => rfl
/-- Window 1 is used at every point. -/
theorem live1 : ∀ t : Fin cfg0.N, cfg0.idle 1 (grid0.coords t) = false := fun _ => rfl
/-- Where the body stores into window 2's buffer, that point is `src2`; -/
theorem own2 : ∀ t : Fin cfg0.N, cfg0.idle 2 (grid0.coords t) = false → src2 t = t := by decide +kernel
/-- where it leaves a stored buffer alone, `src2` does not move; -/
theorem carry2 : ∀ t : Fin cfg0.N, t.val ≠ 0 → cfg0.idle 2 (grid0.coords t) = true → cfg0.fresh 2 t.val = false → src2 t = src2 (pt (t.val - 1)) := by decide +kernel
/-- and a buffer it leaves alone that is written back was stored before. -/
theorem kept2 : ∀ t : Fin cfg0.N, cfg0.idle 2 (grid0.coords t) = true → (cfg0.win 2).flush t = true → t.val ≠ 0 ∧ cfg0.fresh 2 t.val = false := by decide +kernel
/-- Where the body stores into window 3's buffer, that point is `src3`; -/
theorem own3 : ∀ t : Fin cfg0.N, cfg0.idle 3 (grid0.coords t) = false → src3 t = t := by decide +kernel
/-- where it leaves a stored buffer alone, `src3` does not move; -/
theorem carry3 : ∀ t : Fin cfg0.N, t.val ≠ 0 → cfg0.idle 3 (grid0.coords t) = true → cfg0.fresh 3 t.val = false → src3 t = src3 (pt (t.val - 1)) := by decide +kernel
/-- and a buffer it leaves alone that is written back was stored before. -/
theorem kept3 : ∀ t : Fin cfg0.N, cfg0.idle 3 (grid0.coords t) = true → (cfg0.win 3).flush t = true → t.val ≠ 0 ∧ cfg0.fresh 3 t.val = false := by decide +kernel
/-- Where the body stores into window 4's buffer, that point is `src4`; -/
theorem own4 : ∀ t : Fin cfg0.N, cfg0.idle 4 (grid0.coords t) = false → src4 t = t := by decide +kernel
/-- where it leaves a stored buffer alone, `src4` does not move; -/
theorem carry4 : ∀ t : Fin cfg0.N, t.val ≠ 0 → cfg0.idle 4 (grid0.coords t) = true → cfg0.fresh 4 t.val = false → src4 t = src4 (pt (t.val - 1)) := by decide +kernel
/-- and a buffer it leaves alone that is written back was stored before. -/
theorem kept4 : ∀ t : Fin cfg0.N, cfg0.idle 4 (grid0.coords t) = true → (cfg0.win 4).flush t = true → t.val ≠ 0 ∧ cfg0.fresh 4 t.val = false := by decide +kernel
/-- Where the body stores into window 5's buffer, that point is `src5`; -/
theorem own5 : ∀ t : Fin cfg0.N, cfg0.idle 5 (grid0.coords t) = false → src5 t = t := by decide +kernel
/-- where it leaves a stored buffer alone, `src5` does not move; -/
theorem carry5 : ∀ t : Fin cfg0.N, t.val ≠ 0 → cfg0.idle 5 (grid0.coords t) = true → cfg0.fresh 5 t.val = false → src5 t = src5 (pt (t.val - 1)) := by decide +kernel
/-- and a buffer it leaves alone that is written back was stored before. -/
theorem kept5 : ∀ t : Fin cfg0.N, cfg0.idle 5 (grid0.coords t) = true → (cfg0.win 5).flush t = true → t.val ≠ 0 ∧ cfg0.fresh 5 t.val = false := by decide +kernel
/-- Where the body stores into window 6's buffer, that point is `src6`; -/
theorem own6 : ∀ t : Fin cfg0.N, cfg0.idle 6 (grid0.coords t) = false → src6 t = t := by decide +kernel
/-- where it leaves a stored buffer alone, `src6` does not move; -/
theorem carry6 : ∀ t : Fin cfg0.N, t.val ≠ 0 → cfg0.idle 6 (grid0.coords t) = true → cfg0.fresh 6 t.val = false → src6 t = src6 (pt (t.val - 1)) := by decide +kernel
/-- and a buffer it leaves alone that is written back was stored before. -/
theorem kept6 : ∀ t : Fin cfg0.N, cfg0.idle 6 (grid0.coords t) = true → (cfg0.win 6).flush t = true → t.val ≠ 0 ∧ cfg0.fresh 6 t.val = false := by decide +kernel
/-- Where the body stores into window 7's buffer, that point is `src7`; -/
theorem own7 : ∀ t : Fin cfg0.N, cfg0.idle 7 (grid0.coords t) = false → src7 t = t := by decide +kernel
/-- where it leaves a stored buffer alone, `src7` does not move; -/
theorem carry7 : ∀ t : Fin cfg0.N, t.val ≠ 0 → cfg0.idle 7 (grid0.coords t) = true → cfg0.fresh 7 t.val = false → src7 t = src7 (pt (t.val - 1)) := by decide +kernel
/-- and a buffer it leaves alone that is written back was stored before. -/
theorem kept7 : ∀ t : Fin cfg0.N, cfg0.idle 7 (grid0.coords t) = true → (cfg0.win 7).flush t = true → t.val ≠ 0 ∧ cfg0.fresh 7 t.val = false := by decide +kernel
/-- Where the body stores into window 8's buffer, that point is `src8`; -/
theorem own8 : ∀ t : Fin cfg0.N, cfg0.idle 8 (grid0.coords t) = false → src8 t = t := by decide +kernel
/-- where it leaves a stored buffer alone, `src8` does not move; -/
theorem carry8 : ∀ t : Fin cfg0.N, t.val ≠ 0 → cfg0.idle 8 (grid0.coords t) = true → cfg0.fresh 8 t.val = false → src8 t = src8 (pt (t.val - 1)) := by decide +kernel
/-- and a buffer it leaves alone that is written back was stored before. -/
theorem kept8 : ∀ t : Fin cfg0.N, cfg0.idle 8 (grid0.coords t) = true → (cfg0.win 8).flush t = true → t.val ≠ 0 ∧ cfg0.fresh 8 t.val = false := by decide +kernel

/-! ## What the points leave -/

/-- The rows point `t` reads, -/
abbrev rowsAt (c : Dev nD) (t : Fin cfg0.N) : Vec F S512x2048 .bf16 :=
  (stage0 t).view.readAt (Elt F) (Rect.unit (s := S512x2048) ![0, 0] S512x2048.size inb_S512x2048_S512x2048_0_0).toLoadRect ((whole0 t).unread (iblk m c 0 t))
/-- and the columns. -/
abbrev colsAt (c : Dev nD) (t : Fin cfg0.N) : Vec F S1x2048x1024 .bf16 :=
  (stage1 t).view.readAt (Elt F) (Rect.unit (s := S1x2048x1024) ![0, 0, 0] S1x2048x1024.size inb_S1x2048x1024_S1x2048x1024_0_0_0).toLoadRect ((whole1 t).unread (iblk m c 1 t))

/-- A view of the shape of a rounded block's buffer, to read pieces through. -/
abbrev viewB : View sig .tc .vmem S512x1024 .bf16 := (Memref.whole cc0_stg2_0 : Memref sig .tc .vmem S512x1024 .bf16).view
/-- The same for the strips. -/
abbrev viewS : View sig .tc .vmem S1x4096x128 .f32 := (Memref.whole cc0_stg5_0 : Memref sig .tc .vmem S1x4096x128 .f32).view

/-- The rounded block that point `t` stores. -/
@[irreducible] def blockAt (c : Dev nD) (t : Fin cfg0.N) : Vec F S512x1024 .bf16 :=
  viewB.read (Elt F) (viewB.writes (Elt F) viewB.junk (block (rowsAt m c t) (colsAt m c t)))
/-- The strips that point `t` stores. -/
@[irreducible] def stripsAt (c : Dev nD) (t : Fin cfg0.N) : Vec F S1x4096x128 .f32 :=
  viewS.read (Elt F) (viewS.writes (Elt F) viewS.junk (strips (k0_pay34 (rowsAt m c t) (colsAt m c t))))

/-- The proof data of the pipeline: each input's buffer holds its block after the body, an output's what its point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockAt m c (src2 t)
    | ⟨3, _⟩ => blockAt m c (src3 t)
    | ⟨4, _⟩ => blockAt m c (src4 t)
    | ⟨5, _⟩ => stripsAt m c (src5 t)
    | ⟨6, _⟩ => stripsAt m c (src6 t)
    | ⟨7, _⟩ => stripsAt m c (src7 t)
    | ⟨8, _⟩ => stripsAt m c (src8 t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]
/-- An input's buffer holds its block when the body starts. -/
theorem before0 (c : Dev nD) (t : Fin cfg0.N) (d) : (dats m 0 c).before 0 t d = iblk m c 0 t :=
  before0_0_of m (dats m 0 c) (A_eq m c 0) (fun _ => rfl) t d
/-- The same for the other input. -/
theorem before1 (c : Dev nD) (t : Fin cfg0.N) (d) : (dats m 0 c).before 1 t d = iblk m c 1 t :=
  before0_1_of m (dats m 0 c) (A_eq m c 1) (fun _ => rfl) t d

/-- The point before. -/
theorem pt_pred (t : Fin cfg0.N) : pt (t.val - 1) = ⟨t.val - 1, Nat.lt_of_le_of_lt (Nat.sub_le _ _) t.isLt⟩ := by
  have h : t.val < 51 := lt_of_lt_of_eq t.isLt N_0
  exact Fin.ext (Nat.mod_eq_of_lt (by omega))

/-- A buffer of window 2 that the body leaves alone is as the proof data say. -/
theorem leave2 (c : Dev nD) (t : Fin cfg0.N) (hi : cfg0.idle 2 (grid0.coords t) = true) (d) :
    owns (c : Thread nD τ) (stage2 t) fullShare ((dats m 0 c).before 2 t d) ⊢ ((dats m 0 c).leavesExact 2 t : sProp 𝕄) := by
  cases hf : (cfg0.win 2).flush t
  · rw [Dat.leavesExact_idle (dats m 0 c) 2 t hi hf]
    iintro H; iexists d; iexact H
  · obtain ⟨h0, hk⟩ := kept2 t hi hf
    have e : (dats m 0 c).before 2 t d = blockAt m c (src2 t) := by
      rw [Dat.before_out_traj (dats m 0 c) 2 rfl (fun _ _ => rfl) (fun u hu hiu hfu => by
        show blockAt m c (src2 u) = blockAt m c (src2 _)
        rw [carry2 u hu hiu hfu, pt_pred]) t.val t rfl d, hk, if_neg Bool.false_ne_true]
      show blockAt m c (src2 _) = _
      rw [carry2 t h0 hi hk, pt_pred]
    have e' : ((dats m 0 c).leavesExact 2 t : sProp 𝕄) = owns (c : Thread nD τ) (stage2 t) fullShare (blockAt m c (src2 t)) := by
      unfold Dat.leavesExact; rw [hi, hf]; rfl
    rw [e, e']

/-- Where the body stores into it, it holds what the point stored. -/
theorem store2 (c : Dev nD) (t : Fin cfg0.N) (hi : cfg0.idle 2 (grid0.coords t) = false) :
    ((dats m 0 c).leavesExact 2 t : sProp 𝕄) = owns (c : Thread nD τ) (stage2 t) fullShare (blockAt m c t) := by
  have e : ((dats m 0 c).leavesExact 2 t : sProp 𝕄) = owns (c : Thread nD τ) (stage2 t) fullShare (blockAt m c (src2 t)) := by
    unfold Dat.leavesExact; rw [hi]; rfl
  rw [e, own2 t hi]

/-- A buffer of window 3 that the body leaves alone is as the proof data say. -/
theorem leave3 (c : Dev nD) (t : Fin cfg0.N) (hi : cfg0.idle 3 (grid0.coords t) = true) (d) :
    owns (c : Thread nD τ) (stage3 t) fullShare ((dats m 0 c).before 3 t d) ⊢ ((dats m 0 c).leavesExact 3 t : sProp 𝕄) := by
  cases hf : (cfg0.win 3).flush t
  · rw [Dat.leavesExact_idle (dats m 0 c) 3 t hi hf]
    iintro H; iexists d; iexact H
  · obtain ⟨h0, hk⟩ := kept3 t hi hf
    have e : (dats m 0 c).before 3 t d = blockAt m c (src3 t) := by
      rw [Dat.before_out_traj (dats m 0 c) 3 rfl (fun _ _ => rfl) (fun u hu hiu hfu => by
        show blockAt m c (src3 u) = blockAt m c (src3 _)
        rw [carry3 u hu hiu hfu, pt_pred]) t.val t rfl d, hk, if_neg Bool.false_ne_true]
      show blockAt m c (src3 _) = _
      rw [carry3 t h0 hi hk, pt_pred]
    have e' : ((dats m 0 c).leavesExact 3 t : sProp 𝕄) = owns (c : Thread nD τ) (stage3 t) fullShare (blockAt m c (src3 t)) := by
      unfold Dat.leavesExact; rw [hi, hf]; rfl
    rw [e, e']

/-- Where the body stores into it, it holds what the point stored. -/
theorem store3 (c : Dev nD) (t : Fin cfg0.N) (hi : cfg0.idle 3 (grid0.coords t) = false) :
    ((dats m 0 c).leavesExact 3 t : sProp 𝕄) = owns (c : Thread nD τ) (stage3 t) fullShare (blockAt m c t) := by
  have e : ((dats m 0 c).leavesExact 3 t : sProp 𝕄) = owns (c : Thread nD τ) (stage3 t) fullShare (blockAt m c (src3 t)) := by
    unfold Dat.leavesExact; rw [hi]; rfl
  rw [e, own3 t hi]

/-- A buffer of window 4 that the body leaves alone is as the proof data say. -/
theorem leave4 (c : Dev nD) (t : Fin cfg0.N) (hi : cfg0.idle 4 (grid0.coords t) = true) (d) :
    owns (c : Thread nD τ) (stage4 t) fullShare ((dats m 0 c).before 4 t d) ⊢ ((dats m 0 c).leavesExact 4 t : sProp 𝕄) := by
  cases hf : (cfg0.win 4).flush t
  · rw [Dat.leavesExact_idle (dats m 0 c) 4 t hi hf]
    iintro H; iexists d; iexact H
  · obtain ⟨h0, hk⟩ := kept4 t hi hf
    have e : (dats m 0 c).before 4 t d = blockAt m c (src4 t) := by
      rw [Dat.before_out_traj (dats m 0 c) 4 rfl (fun _ _ => rfl) (fun u hu hiu hfu => by
        show blockAt m c (src4 u) = blockAt m c (src4 _)
        rw [carry4 u hu hiu hfu, pt_pred]) t.val t rfl d, hk, if_neg Bool.false_ne_true]
      show blockAt m c (src4 _) = _
      rw [carry4 t h0 hi hk, pt_pred]
    have e' : ((dats m 0 c).leavesExact 4 t : sProp 𝕄) = owns (c : Thread nD τ) (stage4 t) fullShare (blockAt m c (src4 t)) := by
      unfold Dat.leavesExact; rw [hi, hf]; rfl
    rw [e, e']

/-- Where the body stores into it, it holds what the point stored. -/
theorem store4 (c : Dev nD) (t : Fin cfg0.N) (hi : cfg0.idle 4 (grid0.coords t) = false) :
    ((dats m 0 c).leavesExact 4 t : sProp 𝕄) = owns (c : Thread nD τ) (stage4 t) fullShare (blockAt m c t) := by
  have e : ((dats m 0 c).leavesExact 4 t : sProp 𝕄) = owns (c : Thread nD τ) (stage4 t) fullShare (blockAt m c (src4 t)) := by
    unfold Dat.leavesExact; rw [hi]; rfl
  rw [e, own4 t hi]

/-- A buffer of window 5 that the body leaves alone is as the proof data say. -/
theorem leave5 (c : Dev nD) (t : Fin cfg0.N) (hi : cfg0.idle 5 (grid0.coords t) = true) (d) :
    owns (c : Thread nD τ) (stage5 t) fullShare ((dats m 0 c).before 5 t d) ⊢ ((dats m 0 c).leavesExact 5 t : sProp 𝕄) := by
  cases hf : (cfg0.win 5).flush t
  · rw [Dat.leavesExact_idle (dats m 0 c) 5 t hi hf]
    iintro H; iexists d; iexact H
  · obtain ⟨h0, hk⟩ := kept5 t hi hf
    have e : (dats m 0 c).before 5 t d = stripsAt m c (src5 t) := by
      rw [Dat.before_out_traj (dats m 0 c) 5 rfl (fun _ _ => rfl) (fun u hu hiu hfu => by
        show stripsAt m c (src5 u) = stripsAt m c (src5 _)
        rw [carry5 u hu hiu hfu, pt_pred]) t.val t rfl d, hk, if_neg Bool.false_ne_true]
      show stripsAt m c (src5 _) = _
      rw [carry5 t h0 hi hk, pt_pred]
    have e' : ((dats m 0 c).leavesExact 5 t : sProp 𝕄) = owns (c : Thread nD τ) (stage5 t) fullShare (stripsAt m c (src5 t)) := by
      unfold Dat.leavesExact; rw [hi, hf]; rfl
    rw [e, e']

/-- Where the body stores into it, it holds what the point stored. -/
theorem store5 (c : Dev nD) (t : Fin cfg0.N) (hi : cfg0.idle 5 (grid0.coords t) = false) :
    ((dats m 0 c).leavesExact 5 t : sProp 𝕄) = owns (c : Thread nD τ) (stage5 t) fullShare (stripsAt m c t) := by
  have e : ((dats m 0 c).leavesExact 5 t : sProp 𝕄) = owns (c : Thread nD τ) (stage5 t) fullShare (stripsAt m c (src5 t)) := by
    unfold Dat.leavesExact; rw [hi]; rfl
  rw [e, own5 t hi]

/-- A buffer of window 6 that the body leaves alone is as the proof data say. -/
theorem leave6 (c : Dev nD) (t : Fin cfg0.N) (hi : cfg0.idle 6 (grid0.coords t) = true) (d) :
    owns (c : Thread nD τ) (stage6 t) fullShare ((dats m 0 c).before 6 t d) ⊢ ((dats m 0 c).leavesExact 6 t : sProp 𝕄) := by
  cases hf : (cfg0.win 6).flush t
  · rw [Dat.leavesExact_idle (dats m 0 c) 6 t hi hf]
    iintro H; iexists d; iexact H
  · obtain ⟨h0, hk⟩ := kept6 t hi hf
    have e : (dats m 0 c).before 6 t d = stripsAt m c (src6 t) := by
      rw [Dat.before_out_traj (dats m 0 c) 6 rfl (fun _ _ => rfl) (fun u hu hiu hfu => by
        show stripsAt m c (src6 u) = stripsAt m c (src6 _)
        rw [carry6 u hu hiu hfu, pt_pred]) t.val t rfl d, hk, if_neg Bool.false_ne_true]
      show stripsAt m c (src6 _) = _
      rw [carry6 t h0 hi hk, pt_pred]
    have e' : ((dats m 0 c).leavesExact 6 t : sProp 𝕄) = owns (c : Thread nD τ) (stage6 t) fullShare (stripsAt m c (src6 t)) := by
      unfold Dat.leavesExact; rw [hi, hf]; rfl
    rw [e, e']

/-- Where the body stores into it, it holds what the point stored. -/
theorem store6 (c : Dev nD) (t : Fin cfg0.N) (hi : cfg0.idle 6 (grid0.coords t) = false) :
    ((dats m 0 c).leavesExact 6 t : sProp 𝕄) = owns (c : Thread nD τ) (stage6 t) fullShare (stripsAt m c t) := by
  have e : ((dats m 0 c).leavesExact 6 t : sProp 𝕄) = owns (c : Thread nD τ) (stage6 t) fullShare (stripsAt m c (src6 t)) := by
    unfold Dat.leavesExact; rw [hi]; rfl
  rw [e, own6 t hi]

/-- A buffer of window 7 that the body leaves alone is as the proof data say. -/
theorem leave7 (c : Dev nD) (t : Fin cfg0.N) (hi : cfg0.idle 7 (grid0.coords t) = true) (d) :
    owns (c : Thread nD τ) (stage7 t) fullShare ((dats m 0 c).before 7 t d) ⊢ ((dats m 0 c).leavesExact 7 t : sProp 𝕄) := by
  cases hf : (cfg0.win 7).flush t
  · rw [Dat.leavesExact_idle (dats m 0 c) 7 t hi hf]
    iintro H; iexists d; iexact H
  · obtain ⟨h0, hk⟩ := kept7 t hi hf
    have e : (dats m 0 c).before 7 t d = stripsAt m c (src7 t) := by
      rw [Dat.before_out_traj (dats m 0 c) 7 rfl (fun _ _ => rfl) (fun u hu hiu hfu => by
        show stripsAt m c (src7 u) = stripsAt m c (src7 _)
        rw [carry7 u hu hiu hfu, pt_pred]) t.val t rfl d, hk, if_neg Bool.false_ne_true]
      show stripsAt m c (src7 _) = _
      rw [carry7 t h0 hi hk, pt_pred]
    have e' : ((dats m 0 c).leavesExact 7 t : sProp 𝕄) = owns (c : Thread nD τ) (stage7 t) fullShare (stripsAt m c (src7 t)) := by
      unfold Dat.leavesExact; rw [hi, hf]; rfl
    rw [e, e']

/-- Where the body stores into it, it holds what the point stored. -/
theorem store7 (c : Dev nD) (t : Fin cfg0.N) (hi : cfg0.idle 7 (grid0.coords t) = false) :
    ((dats m 0 c).leavesExact 7 t : sProp 𝕄) = owns (c : Thread nD τ) (stage7 t) fullShare (stripsAt m c t) := by
  have e : ((dats m 0 c).leavesExact 7 t : sProp 𝕄) = owns (c : Thread nD τ) (stage7 t) fullShare (stripsAt m c (src7 t)) := by
    unfold Dat.leavesExact; rw [hi]; rfl
  rw [e, own7 t hi]

/-- A buffer of window 8 that the body leaves alone is as the proof data say. -/
theorem leave8 (c : Dev nD) (t : Fin cfg0.N) (hi : cfg0.idle 8 (grid0.coords t) = true) (d) :
    owns (c : Thread nD τ) (stage8 t) fullShare ((dats m 0 c).before 8 t d) ⊢ ((dats m 0 c).leavesExact 8 t : sProp 𝕄) := by
  cases hf : (cfg0.win 8).flush t
  · rw [Dat.leavesExact_idle (dats m 0 c) 8 t hi hf]
    iintro H; iexists d; iexact H
  · obtain ⟨h0, hk⟩ := kept8 t hi hf
    have e : (dats m 0 c).before 8 t d = stripsAt m c (src8 t) := by
      rw [Dat.before_out_traj (dats m 0 c) 8 rfl (fun _ _ => rfl) (fun u hu hiu hfu => by
        show stripsAt m c (src8 u) = stripsAt m c (src8 _)
        rw [carry8 u hu hiu hfu, pt_pred]) t.val t rfl d, hk, if_neg Bool.false_ne_true]
      show stripsAt m c (src8 _) = _
      rw [carry8 t h0 hi hk, pt_pred]
    have e' : ((dats m 0 c).leavesExact 8 t : sProp 𝕄) = owns (c : Thread nD τ) (stage8 t) fullShare (stripsAt m c (src8 t)) := by
      unfold Dat.leavesExact; rw [hi, hf]; rfl
    rw [e, e']

/-- Where the body stores into it, it holds what the point stored. -/
theorem store8 (c : Dev nD) (t : Fin cfg0.N) (hi : cfg0.idle 8 (grid0.coords t) = false) :
    ((dats m 0 c).leavesExact 8 t : sProp 𝕄) = owns (c : Thread nD τ) (stage8 t) fullShare (stripsAt m c t) := by
  have e : ((dats m 0 c).leavesExact 8 t : sProp 𝕄) = owns (c : Thread nD τ) (stage8 t) fullShare (stripsAt m c (src8 t)) := by
    unfold Dat.leavesExact; rw [hi]; rfl
  rw [e, own8 t hi]

/-! ## The body at a point -/

/-- Every point is of one of five kinds. -/
theorem kinds : ∀ t : Fin cfg0.N,
    (k0_cond1 (grid0.coords t) = 1#1 ∧ ¬ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1)
    ∨ (¬ k0_cond1 (grid0.coords t) = 1#1 ∧ k0_cond2 (grid0.coords t) = 1#1 ∧ ¬ k0_cond3 (grid0.coords t) = 1#1 ∧ k0_cond4 (grid0.coords t) = 1#1 ∧ ¬ k0_cond5 (grid0.coords t) = 1#1 ∧ ¬ k0_cond6 (grid0.coords t) = 1#1 ∧ ¬ k0_cond7 (grid0.coords t) = 1#1)
    ∨ (¬ k0_cond1 (grid0.coords t) = 1#1 ∧ k0_cond2 (grid0.coords t) = 1#1 ∧ ¬ k0_cond3 (grid0.coords t) = 1#1 ∧ ¬ k0_cond4 (grid0.coords t) = 1#1 ∧ k0_cond5 (grid0.coords t) = 1#1 ∧ ¬ k0_cond6 (grid0.coords t) = 1#1 ∧ ¬ k0_cond7 (grid0.coords t) = 1#1)
    ∨ (¬ k0_cond1 (grid0.coords t) = 1#1 ∧ ¬ k0_cond2 (grid0.coords t) = 1#1 ∧ k0_cond3 (grid0.coords t) = 1#1 ∧ ¬ k0_cond4 (grid0.coords t) = 1#1 ∧ ¬ k0_cond5 (grid0.coords t) = 1#1 ∧ k0_cond6 (grid0.coords t) = 1#1 ∧ ¬ k0_cond7 (grid0.coords t) = 1#1)
    ∨ (¬ k0_cond1 (grid0.coords t) = 1#1 ∧ ¬ k0_cond2 (grid0.coords t) = 1#1 ∧ k0_cond3 (grid0.coords t) = 1#1 ∧ ¬ k0_cond4 (grid0.coords t) = 1#1 ∧ ¬ k0_cond5 (grid0.coords t) = 1#1 ∧ ¬ k0_cond6 (grid0.coords t) = 1#1 ∧ k0_cond7 (grid0.coords t) = 1#1) := by decide +kernel

/-- Window 2 is stored exactly under its condition. -/
theorem on2 (t : Fin cfg0.N) (h : k0_cond1 (grid0.coords t) = 1#1) : cfg0.idle 2 (grid0.coords t) = false := by
  show (!(k0_cond1 (grid0.coords t) == 1#1)) = false
  rw [h]; rfl
theorem off2 (t : Fin cfg0.N) (h : ¬ k0_cond1 (grid0.coords t) = 1#1) : cfg0.idle 2 (grid0.coords t) = true := by
  show (!(k0_cond1 (grid0.coords t) == 1#1)) = true
  rw [beq_eq_false_iff_ne.mpr h]; rfl

/-- Window 3 is stored exactly under its condition. -/
theorem on3 (t : Fin cfg0.N) (h : k0_cond2 (grid0.coords t) = 1#1) : cfg0.idle 3 (grid0.coords t) = false := by
  show (!(k0_cond2 (grid0.coords t) == 1#1)) = false
  rw [h]; rfl
theorem off3 (t : Fin cfg0.N) (h : ¬ k0_cond2 (grid0.coords t) = 1#1) : cfg0.idle 3 (grid0.coords t) = true := by
  show (!(k0_cond2 (grid0.coords t) == 1#1)) = true
  rw [beq_eq_false_iff_ne.mpr h]; rfl

/-- Window 4 is stored exactly under its condition. -/
theorem on4 (t : Fin cfg0.N) (h : k0_cond3 (grid0.coords t) = 1#1) : cfg0.idle 4 (grid0.coords t) = false := by
  show (!(k0_cond3 (grid0.coords t) == 1#1)) = false
  rw [h]; rfl
theorem off4 (t : Fin cfg0.N) (h : ¬ k0_cond3 (grid0.coords t) = 1#1) : cfg0.idle 4 (grid0.coords t) = true := by
  show (!(k0_cond3 (grid0.coords t) == 1#1)) = true
  rw [beq_eq_false_iff_ne.mpr h]; rfl

/-- Window 5 is stored exactly under its condition. -/
theorem on5 (t : Fin cfg0.N) (h : k0_cond4 (grid0.coords t) = 1#1) : cfg0.idle 5 (grid0.coords t) = false := by
  show (!(k0_cond4 (grid0.coords t) == 1#1)) = false
  rw [h]; rfl
theorem off5 (t : Fin cfg0.N) (h : ¬ k0_cond4 (grid0.coords t) = 1#1) : cfg0.idle 5 (grid0.coords t) = true := by
  show (!(k0_cond4 (grid0.coords t) == 1#1)) = true
  rw [beq_eq_false_iff_ne.mpr h]; rfl

/-- Window 6 is stored exactly under its condition. -/
theorem on6 (t : Fin cfg0.N) (h : k0_cond6 (grid0.coords t) = 1#1) : cfg0.idle 6 (grid0.coords t) = false := by
  show (!(k0_cond6 (grid0.coords t) == 1#1)) = false
  rw [h]; rfl
theorem off6 (t : Fin cfg0.N) (h : ¬ k0_cond6 (grid0.coords t) = 1#1) : cfg0.idle 6 (grid0.coords t) = true := by
  show (!(k0_cond6 (grid0.coords t) == 1#1)) = true
  rw [beq_eq_false_iff_ne.mpr h]; rfl

/-- Window 7 is stored exactly under its condition. -/
theorem on7 (t : Fin cfg0.N) (h : k0_cond5 (grid0.coords t) = 1#1) : cfg0.idle 7 (grid0.coords t) = false := by
  show (!(k0_cond5 (grid0.coords t) == 1#1)) = false
  rw [h]; rfl
theorem off7 (t : Fin cfg0.N) (h : ¬ k0_cond5 (grid0.coords t) = 1#1) : cfg0.idle 7 (grid0.coords t) = true := by
  show (!(k0_cond5 (grid0.coords t) == 1#1)) = true
  rw [beq_eq_false_iff_ne.mpr h]; rfl

/-- Window 8 is stored exactly under its condition. -/
theorem on8 (t : Fin cfg0.N) (h : k0_cond7 (grid0.coords t) = 1#1) : cfg0.idle 8 (grid0.coords t) = false := by
  show (!(k0_cond7 (grid0.coords t) == 1#1)) = false
  rw [h]; rfl
theorem off8 (t : Fin cfg0.N) (h : ¬ k0_cond7 (grid0.coords t) = 1#1) : cfg0.idle 8 (grid0.coords t) = true := by
  show (!(k0_cond7 (grid0.coords t) == 1#1)) = true
  rw [beq_eq_false_iff_ne.mpr h]; rfl

set_option maxHeartbeats 6400000 in
/-- The body at any point leaves each window's buffer as the proof data say. -/
theorem sound_body (c : Dev nD) (t : Fin cfg0.N) :
    iprop(Pipeline.ΦA spec0 c ∗ (dats m 0 c).owesAt () t.castSucc ∗ (∃ d, owns (c : Thread nD τ) (stage0 t) fullShare ((dats m 0 c).before 0 t d)) ∗ (∃ d, owns (c : Thread nD τ) (stage1 t) fullShare ((dats m 0 c).before 1 t d)) ∗ (∃ d, owns (c : Thread nD τ) (stage2 t) fullShare ((dats m 0 c).before 2 t d)) ∗ (∃ d, owns (c : Thread nD τ) (stage3 t) fullShare ((dats m 0 c).before 3 t d)) ∗ (∃ d, owns (c : Thread nD τ) (stage4 t) fullShare ((dats m 0 c).before 4 t d)) ∗ (∃ d, owns (c : Thread nD τ) (stage5 t) fullShare ((dats m 0 c).before 5 t d)) ∗ (∃ d, owns (c : Thread nD τ) (stage6 t) fullShare ((dats m 0 c).before 6 t d)) ∗ (∃ d, owns (c : Thread nD τ) (stage7 t) fullShare ((dats m 0 c).before 7 t d)) ∗ (∃ d, owns (c : Thread nD τ) (stage8 t) fullShare ((dats m 0 c).before 8 t d)))
      ⊢ wp frame (wpE (defs₀ (F := F)) Variants.none c none) Set.univ (bodyAt0 t) (fun _ =>
        iprop(Pipeline.ΦA spec0 c ∗ (dats m 0 c).owesAt () t.castSucc ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)) := by
  unfold bodyAt0
  simp only [before0, before1]
  rw [show ((dats m 0 c).leavesExact 0 t : sProp 𝕄) = owns (c : Thread nD τ) (stage0 t) fullShare (iblk m c 0 t) from by
    unfold Dat.leavesExact; rw [live0 t]; rfl]
  rw [show ((dats m 0 c).leavesExact 1 t : sProp 𝕄) = owns (c : Thread nD τ) (stage1 t) fullShare (iblk m c 1 t) from by
    unfold Dat.leavesExact; rw [live1 t]; rfl]
  obtain ⟨h1, h2, h3, h4, h5, h6, h7⟩ | ⟨h1, h2, h3, h4, h5, h6, h7⟩ | ⟨h1, h2, h3, h4, h5, h6, h7⟩ | ⟨h1, h2, h3, h4, h5, h6, h7⟩ | ⟨h1, h2, h3, h4, h5, h6, h7⟩ := kinds t
  · rw [store2 m c t (on2 t h1)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) (stage0 t) (whole0 t) (stage1 t) (whole1 t) (Memref.whole main_arg2) (Memref.isWhole_whole _) (Memref.whole main_arg3) (Memref.isWhole_whole _) (Memref.whole main_arg4) (Memref.isWhole_whole _) (Memref.whole main_arg5) (Memref.isWhole_whole _) (stage2 t) (whole2 t) (stage3 t) (whole3 t) (stage4 t) (whole4 t) (stage5 t) (whole5 t) (stage6 t) (whole6 t) (stage7 t) (whole7 t) (stage8 t) (whole8 t) h1 h2 h3 h4 h5 h6 h7 (iblk m c 0 t) (iblk m c 1 t) _ _ _ _ _ _ Set.univ _)
    isplitl [H0]; · iexact H0
    isplitl [H1]; · iexact H1
    isplitl [H2]; · iexists _; iexact H2
    isplitl [H3]; · iexact H3
    isplitl [H4]; · iexact H4
    isplitl [H5]; · iexact H5
    isplitl [H6]; · iexact H6
    isplitl [H7]; · iexact H7
    isplitl [H8]; · iexact H8
    iintro ⟨H0, H1, ⟨%e2, H2⟩, H3, H4, H5, H6, H7, H8⟩
    isplitl [HΦ]; · iexact HΦ
    isplitl [Ho]; · iexact Ho
    isplitl [H0]; · iexact H0
    isplitl [H1]; · iexact H1
    isplitl [H2]
    · unfold owns; iexists _; isplitr
      swap; · iexact H2
      ipureintro; unfold blockAt; exact View.read_writes_of_cover _ _ _ _ _ (block_covers _ _)
    isplitl [H3]
    · iapply (leave3 m c t (off3 t h2) _); iexact H3
    isplitl [H4]
    · iapply (leave4 m c t (off4 t h3) _); iexact H4
    isplitl [H5]
    · iapply (leave5 m c t (off5 t h4) _); iexact H5
    isplitl [H6]
    · iapply (leave6 m c t (off6 t h6) _); iexact H6
    isplitl [H7]
    · iapply (leave7 m c t (off7 t h5) _); iexact H7
    iapply (leave8 m c t (off8 t h7) _); iexact H8
  · rw [store3 m c t (on3 t h2), store5 m c t (on5 t h4)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) (stage0 t) (whole0 t) (stage1 t) (whole1 t) (Memref.whole main_arg2) (Memref.isWhole_whole _) (Memref.whole main_arg3) (Memref.isWhole_whole _) (Memref.whole main_arg4) (Memref.isWhole_whole _) (Memref.whole main_arg5) (Memref.isWhole_whole _) (stage2 t) (whole2 t) (stage3 t) (whole3 t) (stage4 t) (whole4 t) (stage5 t) (whole5 t) (stage6 t) (whole6 t) (stage7 t) (whole7 t) (stage8 t) (whole8 t) h1 h2 h3 h4 h5 h6 h7 (iblk m c 0 t) (iblk m c 1 t) _ _ _ _ _ Set.univ _)
    isplitl [H0]; · iexact H0
    isplitl [H1]; · iexact H1
    isplitl [H2]; · iexact H2
    isplitl [H3]; · iexists _; iexact H3
    isplitl [H4]; · iexact H4
    isplitl [H5]; · iexists _; iexact H5
    isplitl [H6]; · iexact H6
    isplitl [H7]; · iexact H7
    isplitl [H8]; · iexact H8
    iintro ⟨H0, H1, H2, ⟨%e3, H3⟩, H4, ⟨%e5, H5⟩, H6, H7, H8⟩
    isplitl [HΦ]; · iexact HΦ
    isplitl [Ho]; · iexact Ho
    isplitl [H0]; · iexact H0
    isplitl [H1]; · iexact H1
    isplitl [H2]
    · iapply (leave2 m c t (off2 t h1) _); iexact H2
    isplitl [H3]
    · unfold owns; iexists _; isplitr
      swap; · iexact H3
      ipureintro; unfold blockAt; exact View.read_writes_of_cover _ _ _ _ _ (block_covers _ _)
    isplitl [H4]
    · iapply (leave4 m c t (off4 t h3) _); iexact H4
    isplitl [H5]
    · unfold owns; iexists _; isplitr
      swap; · iexact H5
      ipureintro; unfold stripsAt; exact View.read_writes_of_cover _ _ _ _ _ (strips_cover _)
    isplitl [H6]
    · iapply (leave6 m c t (off6 t h6) _); iexact H6
    isplitl [H7]
    · iapply (leave7 m c t (off7 t h5) _); iexact H7
    iapply (leave8 m c t (off8 t h7) _); iexact H8
  · rw [store3 m c t (on3 t h2), store7 m c t (on7 t h5)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runC c (grid0.coords t) (stage0 t) (whole0 t) (stage1 t) (whole1 t) (Memref.whole main_arg2) (Memref.isWhole_whole _) (Memref.whole main_arg3) (Memref.isWhole_whole _) (Memref.whole main_arg4) (Memref.isWhole_whole _) (Memref.whole main_arg5) (Memref.isWhole_whole _) (stage2 t) (whole2 t) (stage3 t) (whole3 t) (stage4 t) (whole4 t) (stage5 t) (whole5 t) (stage6 t) (whole6 t) (stage7 t) (whole7 t) (stage8 t) (whole8 t) h1 h2 h3 h4 h5 h6 h7 (iblk m c 0 t) (iblk m c 1 t) _ _ _ _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [H7]; · iexists _; iexact H7
    isplitl [H8]; · iexact H8
    iintro ⟨H0, H1, H2, ⟨%e3, H3⟩, H4, H5, H6, ⟨%e7, H7⟩, H8⟩
    isplitl [HΦ]; · iexact HΦ
    isplitl [Ho]; · iexact Ho
    isplitl [H0]; · iexact H0
    isplitl [H1]; · iexact H1
    isplitl [H2]
    · iapply (leave2 m c t (off2 t h1) _); iexact H2
    isplitl [H3]
    · unfold owns; iexists _; isplitr
      swap; · iexact H3
      ipureintro; unfold blockAt; exact View.read_writes_of_cover _ _ _ _ _ (block_covers _ _)
    isplitl [H4]
    · iapply (leave4 m c t (off4 t h3) _); iexact H4
    isplitl [H5]
    · iapply (leave5 m c t (off5 t h4) _); iexact H5
    isplitl [H6]
    · iapply (leave6 m c t (off6 t h6) _); iexact H6
    isplitl [H7]
    · unfold owns; iexists _; isplitr
      swap; · iexact H7
      ipureintro; unfold stripsAt; exact View.read_writes_of_cover _ _ _ _ _ (strips_cover _)
    iapply (leave8 m c t (off8 t h7) _); iexact H8
  · rw [store4 m c t (on4 t h3), store6 m c t (on6 t h6)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runD c (grid0.coords t) (stage0 t) (whole0 t) (stage1 t) (whole1 t) (Memref.whole main_arg2) (Memref.isWhole_whole _) (Memref.whole main_arg3) (Memref.isWhole_whole _) (Memref.whole main_arg4) (Memref.isWhole_whole _) (Memref.whole main_arg5) (Memref.isWhole_whole _) (stage2 t) (whole2 t) (stage3 t) (whole3 t) (stage4 t) (whole4 t) (stage5 t) (whole5 t) (stage6 t) (whole6 t) (stage7 t) (whole7 t) (stage8 t) (whole8 t) h1 h2 h3 h4 h5 h6 h7 (iblk m c 0 t) (iblk m c 1 t) _ _ _ _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [H7]; · iexact H7
    isplitl [H8]; · iexact H8
    iintro ⟨H0, H1, H2, H3, ⟨%e4, H4⟩, H5, ⟨%e6, H6⟩, H7, H8⟩
    isplitl [HΦ]; · iexact HΦ
    isplitl [Ho]; · iexact Ho
    isplitl [H0]; · iexact H0
    isplitl [H1]; · iexact H1
    isplitl [H2]
    · iapply (leave2 m c t (off2 t h1) _); iexact H2
    isplitl [H3]
    · iapply (leave3 m c t (off3 t h2) _); iexact H3
    isplitl [H4]
    · unfold owns; iexists _; isplitr
      swap; · iexact H4
      ipureintro; unfold blockAt; exact View.read_writes_of_cover _ _ _ _ _ (block_covers _ _)
    isplitl [H5]
    · iapply (leave5 m c t (off5 t h4) _); iexact H5
    isplitl [H6]
    · unfold owns; iexists _; isplitr
      swap; · iexact H6
      ipureintro; unfold stripsAt; exact View.read_writes_of_cover _ _ _ _ _ (strips_cover _)
    isplitl [H7]
    · iapply (leave7 m c t (off7 t h5) _); iexact H7
    iapply (leave8 m c t (off8 t h7) _); iexact H8
  · rw [store4 m c t (on4 t h3), store8 m c t (on8 t h7)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runE c (grid0.coords t) (stage0 t) (whole0 t) (stage1 t) (whole1 t) (Memref.whole main_arg2) (Memref.isWhole_whole _) (Memref.whole main_arg3) (Memref.isWhole_whole _) (Memref.whole main_arg4) (Memref.isWhole_whole _) (Memref.whole main_arg5) (Memref.isWhole_whole _) (stage2 t) (whole2 t) (stage3 t) (whole3 t) (stage4 t) (whole4 t) (stage5 t) (whole5 t) (stage6 t) (whole6 t) (stage7 t) (whole7 t) (stage8 t) (whole8 t) h1 h2 h3 h4 h5 h6 h7 (iblk m c 0 t) (iblk m c 1 t) _ _ _ _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [H8]; · iexists _; iexact H8
    iintro ⟨H0, H1, H2, H3, ⟨%e4, H4⟩, H5, H6, H7, ⟨%e8, H8⟩⟩
    isplitl [HΦ]; · iexact HΦ
    isplitl [Ho]; · iexact Ho
    isplitl [H0]; · iexact H0
    isplitl [H1]; · iexact H1
    isplitl [H2]
    · iapply (leave2 m c t (off2 t h1) _); iexact H2
    isplitl [H3]
    · iapply (leave3 m c t (off3 t h2) _); iexact H3
    isplitl [H4]
    · unfold owns; iexists _; isplitr
      swap; · iexact H4
      ipureintro; unfold blockAt; exact View.read_writes_of_cover _ _ _ _ _ (block_covers _ _)
    isplitl [H5]
    · iapply (leave5 m c t (off5 t h4) _); iexact H5
    isplitl [H6]
    · iapply (leave6 m c t (off6 t h6) _); iexact H6
    isplitl [H7]
    · iapply (leave7 m c t (off7 t h5) _); iexact H7
    unfold owns; iexists _; isplitr
    swap; · iexact H8
    ipureintro; unfold stripsAt; exact View.read_writes_of_cover _ _ _ _ _ (strips_cover _)

/-- The body's row of the table at a point is the body there. -/
theorem row_at (t : Fin cfg0.N) : defs₀ (F := F) .tc cfg0.body (cfg0.bodyArgs t (cfg0.slots t)) = bodyAt0 t := by
  unfold defs₀; rw [Defs.onTc_tc]

/-- The library's obligation, at every point. -/
theorem obligation (c : Dev nD) : BodyObligation (dats (F := F) m 0 c) (defs₀ (F := F)) Variants.none () Set.univ := fun t => by
  rw [bigSep_W0, bigSep_W0, row_at]
  exact triple_restated (sound_body m c t) rfl .rfl fun _ => .rfl

/-! ## The program's run -/

set_option backward.isDefEq.respectTransparency.types false in
/-- Every weakly fair execution ends, with the arrays at what the pipeline's data say and every counter at zero. -/
theorem runs : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := fun _ => .rfl) (hout := fun _ => .rfl)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (runs m ρ)))
    ((θ_run defs _ _).mono (fun _ h => h.2) (runs m ρ))

end Cert.Qkv

end
-- ==== Proof.Qkv.lean ====
/- The value of the attention's projection: the run's seven results are the reference's. Each point's product is the
   reference's at the place of its block; a strip's row `8 r + h` holds head `h` of row `r`, which is what the reference's
   reshape of a row of eight heads reads. -/
module

public import proofs.«01_k».proof.Defs
public import proofs.«01_k».proof.Proof.QkvRun
public import proofs.«01_k».proof.Proof.Gen.Reference4Ideal.Read
public import Idealize.ShloMosaic.Lib.Pipeline.ValueKit

@[expose] public section

set_option maxRecDepth 16384

noncomputable section

namespace Cert.Qkv

open Cert.Kernel4Ideal Cert.Kernel4Ideal.Gen Idealize.ShloMosaic Idealize.ShloMosaic.TcCoe Idealize.SL.Sem
open Cert.Reference4Ideal.Read

/-! ## The products -/

/-- The reference's product, at row `r` and column `j`. -/
theorem ref_prod (x0 x1) (r : Fin 8704) (j : Fin 3072) :
    val_main_v4 (F := Ideal) x0 x1 (ix2 r j) = ∑ k : Fin 2048, x0 (ix2 r k) * x1 (ix3 1 k j) := by
  unfold val_main_v4 val_main_v3 val_main_v2 val_main_v1 val_main_v0
  pointwise

/-- A point's product, over what it reads. -/
theorem pay_eq (a : Vec Ideal S512x2048 .bf16) (b : Vec Ideal S1x2048x1024 .bf16) (r : Fin 512) (j : Fin 1024) :
    k0_pay34 a b (ix2 r j) = ∑ k : Fin 2048, a (ix2 r k) * b (ix3 0 k j) := by
  unfold k0_pay34
  pointwise

/-- Where each window's block lies at a grid point. -/
theorem idx : ∀ t : Fin grid0.N,
    win0_0.index t = ![t.val / 3, 0] ∧ win0_1.index t = ![1, 0, t.val % 3] ∧ win0_2.index t = ![t.val / 3, 0]
      ∧ win0_3.index t = ![t.val / 3, 0] ∧ win0_4.index t = ![t.val / 3, 0] ∧ win0_5.index t = ![1, min (t.val / 3) 15, 0]
      ∧ win0_6.index t = ![1, min (t.val / 3) 15, 0] ∧ win0_7.index t = ![1, 0, 0] ∧ win0_8.index t = ![1, 0, 0] := by
  decide +kernel

/-- An index of the rows a point reads is the same index of its block. -/
theorem rows_idx (r : Fin 512) (k : Fin 2048) : (Rect.unit (s := S512x2048) ![0, 0] S512x2048.size inb_S512x2048_S512x2048_0_0).toLoadRect.idx (ix2 r k) = ix2 r k := by
  funext x
  refine Fin.ext ?_
  match x with
  | ⟨0, _⟩ => show 0 + 1 * r.val = r.val; omega
  | ⟨1, _⟩ => show 0 + 1 * k.val = k.val; omega
/-- The same for the columns. -/
theorem cols_idx (q : Fin 1) (k : Fin 2048) (j : Fin 1024) : (Rect.unit (s := S1x2048x1024) ![0, 0, 0] S1x2048x1024.size inb_S1x2048x1024_S1x2048x1024_0_0_0).toLoadRect.idx (ix3 q k j) = ix3 q k j := by
  funext x
  refine Fin.ext ?_
  match x with
  | ⟨0, _⟩ => show 0 + 1 * q.val = q.val; omega
  | ⟨1, _⟩ => show 0 + 1 * k.val = k.val; omega
  | ⟨2, _⟩ => show 0 + 1 * j.val = j.val; omega

variable (m : (ℓ : Loc nD τ sig) → Buf (Elt Ideal) ℓ) (c : Dev nD)

/-- A point's product is the reference's at the place of its block. -/
theorem prod_eq (t : Fin cfg0.N) (r : Fin 512) (j : Fin 1024) (R : Fin 8704) (J : Fin 3072)
    (hR : R.val = t.val / 3 * 512 + r.val) (hJ : J.val = t.val % 3 * 1024 + j.val) :
    k0_pay34 (rowsAt m c t) (colsAt m c t) (ix2 r j) = val_main_v4 (F := Ideal) (m ((c : Thread nD τ).loc main_arg0)) (m ((c : Thread nD τ).loc main_arg1)) (ix2 R J) := by
  obtain ⟨e0, e1, -⟩ := idx t
  rw [pay_eq, ref_prod]
  obtain ⟨R, lR⟩ := R
  obtain ⟨J, lJ⟩ := J
  dsimp only at hR hJ
  subst hR hJ
  refine Finset.sum_congr rfl fun k _ => ?_
  simp only [rowsAt, colsAt, View.readAt_apply, Memref.IsWhole.read_unread]
  congr 1
  · rw [rows_idx]
    blk_point [iblk, V, e0]
  · rw [cols_idx]
    blk_point [iblk, V, e1]

/-! ## What the points store -/

/-- The rounded block that a point stores; in exact arithmetic it is its product. -/
theorem blockAt_eq (t : Fin cfg0.N) (r : Fin 512) (j : Fin 1024) : blockAt m c t (ix2 r j) = k0_pay34 (rowsAt m c t) (colsAt m c t) (ix2 r j) := by
  unfold blockAt
  refine (View.read_writes_cons_unit_of_mem viewB viewB.junk inb_S512x1024_S512x1024_0_0 _ [] (ix2 r j) (ix2 r j) rfl fun a => ?_).trans ?_
  · match a with
    | ⟨0, _⟩ => exact (Nat.zero_add _).symm
    | ⟨1, _⟩ => exact (Nat.zero_add _).symm
  · unfold k0_pay35
    generalize k0_pay34 (rowsAt m c t) (colsAt m c t) = u
    pointwise

/-- What the eight strips of `u` hold together: at row `q`, head `q % 8` of row `q / 8`. -/
def heads (u : FVec Ideal S512x1024 .f32) (y : S1x4096x128.Idx) : EReal :=
  u (ix2 ⟨(y 1).val / 8, by have h : (y 1).val < 4096 := (y 1).isLt; omega⟩ ⟨(y 1).val % 8 * 128 + (y 2).val, by have h : (y 2).val < 128 := (y 2).isLt; omega⟩)

/-- Head 0 of a product. -/
theorem head0 (u : FVec Ideal S512x1024 .f32) (r : Fin 512) (l : Fin 128) : k0_pay2 u (ix3 0 r l) = u (ix2 r ⟨0 + l.val, by omega⟩) := by
  unfold k0_pay2
  pointwise

/-- Head 1 of a product. -/
theorem head1 (u : FVec Ideal S512x1024 .f32) (r : Fin 512) (l : Fin 128) : k0_pay3 u (ix3 0 r l) = u (ix2 r ⟨128 + l.val, by omega⟩) := by
  unfold k0_pay3
  pointwise

/-- Head 2 of a product. -/
theorem head2 (u : FVec Ideal S512x1024 .f32) (r : Fin 512) (l : Fin 128) : k0_pay4 u (ix3 0 r l) = u (ix2 r ⟨256 + l.val, by omega⟩) := by
  unfold k0_pay4
  pointwise

/-- Head 3 of a product. -/
theorem head3 (u : FVec Ideal S512x1024 .f32) (r : Fin 512) (l : Fin 128) : k0_pay5 u (ix3 0 r l) = u (ix2 r ⟨384 + l.val, by omega⟩) := by
  unfold k0_pay5
  pointwise

/-- Head 4 of a product. -/
theorem head4 (u : FVec Ideal S512x1024 .f32) (r : Fin 512) (l : Fin 128) : k0_pay6 u (ix3 0 r l) = u (ix2 r ⟨512 + l.val, by omega⟩) := by
  unfold k0_pay6
  pointwise

/-- Head 5 of a product. -/
theorem head5 (u : FVec Ideal S512x1024 .f32) (r : Fin 512) (l : Fin 128) : k0_pay7 u (ix3 0 r l) = u (ix2 r ⟨640 + l.val, by omega⟩) := by
  unfold k0_pay7
  pointwise

/-- Head 6 of a product. -/
theorem head6 (u : FVec Ideal S512x1024 .f32) (r : Fin 512) (l : Fin 128) : k0_pay8 u (ix3 0 r l) = u (ix2 r ⟨768 + l.val, by omega⟩) := by
  unfold k0_pay8
  pointwise

/-- Head 7 of a product. -/
theorem head7 (u : FVec Ideal S512x1024 .f32) (r : Fin 512) (l : Fin 128) : k0_pay38 (k0_pay9 u) (ix3 0 r l) = u (ix2 r ⟨896 + l.val, by omega⟩) := by
  unfold k0_pay38 k0_pay9
  pointwise

/-- A strip's place in the buffer: row `r` of strip `k` is row `8 r + k`. -/
theorem heads_at (u : FVec Ideal S512x1024 .f32) (k : ℕ) (hk : k < 8) (y : S1x4096x128.Idx) (r : Fin 512) (l : Fin 128) (h1 : (y 1).val = k + 8 * r.val) (h2 : (y 2).val = l.val)
    (J : Fin 1024) (hJ : J.val = 128 * k + l.val) : u (ix2 r J) = heads u y := by
  unfold heads
  have e1 : r = ⟨(y 1).val / 8, by have h : (y 1).val < 4096 := (y 1).isLt; omega⟩ := Fin.ext (by dsimp only; omega)
  have e2 : J = ⟨(y 1).val % 8 * 128 + (y 2).val, by have h : (y 2).val < 128 := (y 2).isLt; omega⟩ := Fin.ext (by dsimp only; omega)
  rw [← e1, ← e2]

/-- The strips that a point stores, at row `q`: head `q % 8` of row `q / 8`. -/
theorem stripsAt_eq (t : Fin cfg0.N) (y : S1x4096x128.Idx) : stripsAt m c t y = heads (k0_pay34 (rowsAt m c t) (colsAt m c t)) y := by
  unfold stripsAt
  generalize k0_pay34 (rowsAt m c t) (colsAt m c t) = u
  refine View.read_writes_apply_of_pieces viewS viewS.junk (heads u) (strips u) ?_ y (strips_cover u y)
  intro p hp
  simp only [strips, List.mem_cons, List.not_mem_nil, or_false] at hp
  obtain rfl | rfl | rfl | rfl | rfl | rfl | rfl | rfl := hp
  · intro x
    obtain ⟨z, r, l, rfl⟩ : ∃ (z : Fin 1) (r : Fin 512) (l : Fin 128), x = ix3 z r l := ⟨_, _, _, eq_ix3 x⟩
    obtain rfl : z = 0 := Subsingleton.elim _ _
    exact (head7 u r l).trans (heads_at u 7 (by decide) _ r l rfl (by show 0 + 1 * l.val = l.val; omega) _ rfl)
  · intro x
    obtain ⟨z, r, l, rfl⟩ : ∃ (z : Fin 1) (r : Fin 512) (l : Fin 128), x = ix3 z r l := ⟨_, _, _, eq_ix3 x⟩
    obtain rfl : z = 0 := Subsingleton.elim _ _
    exact (head6 u r l).trans (heads_at u 6 (by decide) _ r l rfl (by show 0 + 1 * l.val = l.val; omega) _ rfl)
  · intro x
    obtain ⟨z, r, l, rfl⟩ : ∃ (z : Fin 1) (r : Fin 512) (l : Fin 128), x = ix3 z r l := ⟨_, _, _, eq_ix3 x⟩
    obtain rfl : z = 0 := Subsingleton.elim _ _
    exact (head5 u r l).trans (heads_at u 5 (by decide) _ r l rfl (by show 0 + 1 * l.val = l.val; omega) _ rfl)
  · intro x
    obtain ⟨z, r, l, rfl⟩ : ∃ (z : Fin 1) (r : Fin 512) (l : Fin 128), x = ix3 z r l := ⟨_, _, _, eq_ix3 x⟩
    obtain rfl : z = 0 := Subsingleton.elim _ _
    exact (head4 u r l).trans (heads_at u 4 (by decide) _ r l rfl (by show 0 + 1 * l.val = l.val; omega) _ rfl)
  · intro x
    obtain ⟨z, r, l, rfl⟩ : ∃ (z : Fin 1) (r : Fin 512) (l : Fin 128), x = ix3 z r l := ⟨_, _, _, eq_ix3 x⟩
    obtain rfl : z = 0 := Subsingleton.elim _ _
    exact (head3 u r l).trans (heads_at u 3 (by decide) _ r l rfl (by show 0 + 1 * l.val = l.val; omega) _ rfl)
  · intro x
    obtain ⟨z, r, l, rfl⟩ : ∃ (z : Fin 1) (r : Fin 512) (l : Fin 128), x = ix3 z r l := ⟨_, _, _, eq_ix3 x⟩
    obtain rfl : z = 0 := Subsingleton.elim _ _
    exact (head2 u r l).trans (heads_at u 2 (by decide) _ r l rfl (by show 0 + 1 * l.val = l.val; omega) _ rfl)
  · intro x
    obtain ⟨z, r, l, rfl⟩ : ∃ (z : Fin 1) (r : Fin 512) (l : Fin 128), x = ix3 z r l := ⟨_, _, _, eq_ix3 x⟩
    obtain rfl : z = 0 := Subsingleton.elim _ _
    exact (head1 u r l).trans (heads_at u 1 (by decide) _ r l rfl (by show 0 + 1 * l.val = l.val; omega) _ rfl)
  · intro x
    obtain ⟨z, r, l, rfl⟩ : ∃ (z : Fin 1) (r : Fin 512) (l : Fin 128), x = ix3 z r l := ⟨_, _, _, eq_ix3 x⟩
    obtain rfl : z = 0 := Subsingleton.elim _ _
    exact (head0 u r l).trans (heads_at u 0 (by decide) _ r l rfl (by show 0 + 1 * l.val = l.val; omega) _ rfl)

/-! ## The reference's results -/

/-- The reference's queries: columns 0 on of its product. -/
theorem ref8 (x0 x1) (R : Fin 8704) (j : Fin 1024) : val_main_v8 (F := Ideal) x0 x1 (ix2 R j) = val_main_v4 (F := Ideal) x0 x1 (ix2 R ⟨0 + j.val, by omega⟩) := by
  unfold val_main_v8 val_main_v5
  generalize val_main_v4 (F := Ideal) x0 x1 = u
  pointwise

/-- The reference's keys: columns 1024 on of its product. -/
theorem ref9 (x0 x1) (R : Fin 8704) (j : Fin 1024) : val_main_v9 (F := Ideal) x0 x1 (ix2 R j) = val_main_v4 (F := Ideal) x0 x1 (ix2 R ⟨1024 + j.val, by omega⟩) := by
  unfold val_main_v9 val_main_v6
  generalize val_main_v4 (F := Ideal) x0 x1 = u
  pointwise

/-- The reference's values: columns 2048 on of its product. -/
theorem ref10 (x0 x1) (R : Fin 8704) (j : Fin 1024) : val_main_v10 (F := Ideal) x0 x1 (ix2 R j) = val_main_v4 (F := Ideal) x0 x1 (ix2 R ⟨2048 + j.val, by omega⟩) := by
  unfold val_main_v10 val_main_v7
  generalize val_main_v4 (F := Ideal) x0 x1 = u
  pointwise

/-- The prompt's keys in the reference, layer 1: row `q` holds head `q % 8` of row `q / 8`. -/
theorem ref14_new (x0 x1 x2) (q : Fin 65536) (l : Fin 128) (R : Fin 8704) (J : Fin 3072) (hR : R.val = 0 + q.val / 8) (hJ : J.val = 1024 + (q.val % 8 * 128 + l.val)) :
    val_main_v14 (F := Ideal) x0 x1 x2 (ix3 1 q l) = val_main_v4 (F := Ideal) x0 x1 (ix2 R J) := by
  unfold val_main_v14
  refine (concatenate_pair_apply_right (t := S2x65536x128) (s₁ := Cert.Reference4Ideal.S1x65536x128) (s₂ := Cert.Reference4Ideal.S1x65536x128) 0 _ _ _ _ rfl rfl (ix3 (0 : Fin 1) q l) ?_ ?_).trans ?_
  · intro a
    fin_cases a <;> simp
  · rfl
  · unfold val_main_v13
    refine (shapeCast_apply _ _ (ix3 (0 : Fin 1) q l) (ix2 (⟨q.val / 8, by omega⟩ : Fin 8192) (⟨q.val % 8 * 128 + l.val, by omega⟩ : Fin 1024)) ?_).trans ?_
    · rw [Shape.rowMajor_val_two, Shape.rowMajor_val_three]
      simp
      omega
    · unfold val_main_v12 val_main_v6
      generalize val_main_v4 (F := Ideal) x0 x1 = u
      obtain ⟨R, lR⟩ := R
      obtain ⟨J, lJ⟩ := J
      dsimp only at hR hJ
      subst hR hJ
      pointwise

/-- Layer 0 is as it was given. -/
theorem ref14_old (x0 x1 x2) (q : Fin 65536) (l : Fin 128) : val_main_v14 (F := Ideal) x0 x1 x2 (ix3 0 q l) = x2 (ix3 0 q l) := by
  unfold val_main_v14
  refine (concatenate_pair_apply_left (t := S2x65536x128) (s₁ := Cert.Reference4Ideal.S1x65536x128) (s₂ := Cert.Reference4Ideal.S1x65536x128) 0 _ _ _ _ rfl (ix3 (0 : Fin 1) q l) ?_).trans ?_
  · intro a
    fin_cases a <;> rfl
  · unfold val_main_v11
    pointwise

/-- The prompt's values in the reference, layer 1: row `q` holds head `q % 8` of row `q / 8`. -/
theorem ref18_new (x0 x1 x3) (q : Fin 65536) (l : Fin 128) (R : Fin 8704) (J : Fin 3072) (hR : R.val = 0 + q.val / 8) (hJ : J.val = 2048 + (q.val % 8 * 128 + l.val)) :
    val_main_v18 (F := Ideal) x0 x1 x3 (ix3 1 q l) = val_main_v4 (F := Ideal) x0 x1 (ix2 R J) := by
  unfold val_main_v18
  refine (concatenate_pair_apply_right (t := S2x65536x128) (s₁ := Cert.Reference4Ideal.S1x65536x128) (s₂ := Cert.Reference4Ideal.S1x65536x128) 0 _ _ _ _ rfl rfl (ix3 (0 : Fin 1) q l) ?_ ?_).trans ?_
  · intro a
    fin_cases a <;> simp
  · rfl
  · unfold val_main_v17
    refine (shapeCast_apply _ _ (ix3 (0 : Fin 1) q l) (ix2 (⟨q.val / 8, by omega⟩ : Fin 8192) (⟨q.val % 8 * 128 + l.val, by omega⟩ : Fin 1024)) ?_).trans ?_
    · rw [Shape.rowMajor_val_two, Shape.rowMajor_val_three]
      simp
      omega
    · unfold val_main_v16 val_main_v7
      generalize val_main_v4 (F := Ideal) x0 x1 = u
      obtain ⟨R, lR⟩ := R
      obtain ⟨J, lJ⟩ := J
      dsimp only at hR hJ
      subst hR hJ
      pointwise

/-- Layer 0 is as it was given. -/
theorem ref18_old (x0 x1 x3) (q : Fin 65536) (l : Fin 128) : val_main_v18 (F := Ideal) x0 x1 x3 (ix3 0 q l) = x3 (ix3 0 q l) := by
  unfold val_main_v18
  refine (concatenate_pair_apply_left (t := S2x65536x128) (s₁ := Cert.Reference4Ideal.S1x65536x128) (s₂ := Cert.Reference4Ideal.S1x65536x128) 0 _ _ _ _ rfl (ix3 (0 : Fin 1) q l) ?_).trans ?_
  · intro a
    fin_cases a <;> rfl
  · unfold val_main_v15
    pointwise

/-- The sample's keys in the reference, layer 1: row `q` holds head `q % 8` of row `q / 8`. -/
theorem ref22_new (x0 x1 x4) (q : Fin 4096) (l : Fin 128) (R : Fin 8704) (J : Fin 3072) (hR : R.val = 8192 + q.val / 8) (hJ : J.val = 1024 + (q.val % 8 * 128 + l.val)) :
    val_main_v22 (F := Ideal) x0 x1 x4 (ix3 1 q l) = val_main_v4 (F := Ideal) x0 x1 (ix2 R J) := by
  unfold val_main_v22
  refine (concatenate_pair_apply_right (t := S2x4096x128) (s₁ := Cert.Reference4Ideal.S1x4096x128) (s₂ := Cert.Reference4Ideal.S1x4096x128) 0 _ _ _ _ rfl rfl (ix3 (0 : Fin 1) q l) ?_ ?_).trans ?_
  · intro a
    fin_cases a <;> simp
  · rfl
  · unfold val_main_v21
    refine (shapeCast_apply _ _ (ix3 (0 : Fin 1) q l) (ix2 (⟨q.val / 8, by omega⟩ : Fin 512) (⟨q.val % 8 * 128 + l.val, by omega⟩ : Fin 1024)) ?_).trans ?_
    · rw [Shape.rowMajor_val_two, Shape.rowMajor_val_three]
      simp
      omega
    · unfold val_main_v20 val_main_v6
      generalize val_main_v4 (F := Ideal) x0 x1 = u
      obtain ⟨R, lR⟩ := R
      obtain ⟨J, lJ⟩ := J
      dsimp only at hR hJ
      subst hR hJ
      pointwise

/-- Layer 0 is as it was given. -/
theorem ref22_old (x0 x1 x4) (q : Fin 4096) (l : Fin 128) : val_main_v22 (F := Ideal) x0 x1 x4 (ix3 0 q l) = x4 (ix3 0 q l) := by
  unfold val_main_v22
  refine (concatenate_pair_apply_left (t := S2x4096x128) (s₁ := Cert.Reference4Ideal.S1x4096x128) (s₂ := Cert.Reference4Ideal.S1x4096x128) 0 _ _ _ _ rfl (ix3 (0 : Fin 1) q l) ?_).trans ?_
  · intro a
    fin_cases a <;> rfl
  · unfold val_main_v19
    pointwise

/-- The sample's values in the reference, layer 1: row `q` holds head `q % 8` of row `q / 8`. -/
theorem ref26_new (x0 x1 x5) (q : Fin 4096) (l : Fin 128) (R : Fin 8704) (J : Fin 3072) (hR : R.val = 8192 + q.val / 8) (hJ : J.val = 2048 + (q.val % 8 * 128 + l.val)) :
    val_main_v26 (F := Ideal) x0 x1 x5 (ix3 1 q l) = val_main_v4 (F := Ideal) x0 x1 (ix2 R J) := by
  unfold val_main_v26
  refine (concatenate_pair_apply_right (t := S2x4096x128) (s₁ := Cert.Reference4Ideal.S1x4096x128) (s₂ := Cert.Reference4Ideal.S1x4096x128) 0 _ _ _ _ rfl rfl (ix3 (0 : Fin 1) q l) ?_ ?_).trans ?_
  · intro a
    fin_cases a <;> simp
  · rfl
  · unfold val_main_v25
    refine (shapeCast_apply _ _ (ix3 (0 : Fin 1) q l) (ix2 (⟨q.val / 8, by omega⟩ : Fin 512) (⟨q.val % 8 * 128 + l.val, by omega⟩ : Fin 1024)) ?_).trans ?_
    · rw [Shape.rowMajor_val_two, Shape.rowMajor_val_three]
      simp
      omega
    · unfold val_main_v24 val_main_v7
      generalize val_main_v4 (F := Ideal) x0 x1 = u
      obtain ⟨R, lR⟩ := R
      obtain ⟨J, lJ⟩ := J
      dsimp only at hR hJ
      subst hR hJ
      pointwise

/-- Layer 0 is as it was given. -/
theorem ref26_old (x0 x1 x5) (q : Fin 4096) (l : Fin 128) : val_main_v26 (F := Ideal) x0 x1 x5 (ix3 0 q l) = x5 (ix3 0 q l) := by
  unfold val_main_v26
  refine (concatenate_pair_apply_left (t := S2x4096x128) (s₁ := Cert.Reference4Ideal.S1x4096x128) (s₂ := Cert.Reference4Ideal.S1x4096x128) 0 _ _ _ _ rfl (ix3 (0 : Fin 1) q l) ?_).trans ?_
  · intro a
    fin_cases a <;> rfl
  · unfold val_main_v23
    pointwise

/-! ## The results of the run -/

/-- The number of a point. -/
theorem pt_val (n : ℕ) (h : n < 51) : (pt n).val = n := Nat.mod_eq_of_lt h

/-- The rounded queries after the run are the reference's. -/
theorem final2 : (dats m 0 c).arrAt 2 cfg0.N = val_main_v8 (F := Ideal) (m ((c : Thread nD τ).loc main_arg0)) (m ((c : Thread nD τ).loc main_arg1)) := by
  refine (dats m 0 c).arrAt_eq_of_covers 2 _ (by decide +kernel) fun t hf y => ?_
  have ht : t.val < 51 := lt_of_lt_of_eq t.isLt N_0
  obtain ⟨-, -, e2, e3, e4, -⟩ := idx t
  blk_simp
  rw [show (dats m 0 c).after 2 t = blockAt m c (src2 t) from rfl]
  obtain ⟨r, j, rfl⟩ : ∃ (r : Fin 512) (j : Fin 1024), y = ix2 r j := ⟨_, _, eq_ix2 y⟩
  have hi : (((View.whole main_v0_0).slice (win0_2.rect t)).emb (ix2 r j)) = ix2 ⟨t.val / 3 * 512 + r.val, by omega⟩ j := by
    blk_ext [e2]
  rw [hi, ref8]
  refine (blockAt_eq m c _ r j).trans (prod_eq m c _ r j _ _ ?_ ?_)
  · unfold src2; rw [pt_val _ (by omega)]; dsimp only; omega
  · unfold src2; rw [pt_val _ (by omega)]; dsimp only; omega

/-- The rounded keys after the run are the reference's. -/
theorem final3 : (dats m 0 c).arrAt 3 cfg0.N = val_main_v9 (F := Ideal) (m ((c : Thread nD τ).loc main_arg0)) (m ((c : Thread nD τ).loc main_arg1)) := by
  refine (dats m 0 c).arrAt_eq_of_covers 3 _ (by decide +kernel) fun t hf y => ?_
  have ht : t.val < 51 := lt_of_lt_of_eq t.isLt N_0
  obtain ⟨-, -, e2, e3, e4, -⟩ := idx t
  blk_simp
  rw [show (dats m 0 c).after 3 t = blockAt m c (src3 t) from rfl]
  obtain ⟨r, j, rfl⟩ : ∃ (r : Fin 512) (j : Fin 1024), y = ix2 r j := ⟨_, _, eq_ix2 y⟩
  have hi : (((View.whole main_v0_1).slice (win0_3.rect t)).emb (ix2 r j)) = ix2 ⟨t.val / 3 * 512 + r.val, by omega⟩ j := by
    blk_ext [e3]
  rw [hi, ref9]
  refine (blockAt_eq m c _ r j).trans (prod_eq m c _ r j _ _ ?_ ?_)
  · unfold src3; rw [pt_val _ (by omega)]; dsimp only; omega
  · unfold src3; rw [pt_val _ (by omega)]; dsimp only; omega

/-- The rounded values after the run are the reference's. -/
theorem final4 : (dats m 0 c).arrAt 4 cfg0.N = val_main_v10 (F := Ideal) (m ((c : Thread nD τ).loc main_arg0)) (m ((c : Thread nD τ).loc main_arg1)) := by
  refine (dats m 0 c).arrAt_eq_of_covers 4 _ (by decide +kernel) fun t hf y => ?_
  have ht : t.val < 51 := lt_of_lt_of_eq t.isLt N_0
  obtain ⟨-, -, e2, e3, e4, -⟩ := idx t
  blk_simp
  rw [show (dats m 0 c).after 4 t = blockAt m c (src4 t) from rfl]
  obtain ⟨r, j, rfl⟩ : ∃ (r : Fin 512) (j : Fin 1024), y = ix2 r j := ⟨_, _, eq_ix2 y⟩
  have hi : (((View.whole main_v0_2).slice (win0_4.rect t)).emb (ix2 r j)) = ix2 ⟨t.val / 3 * 512 + r.val, by omega⟩ j := by
    blk_ext [e4]
  rw [hi, ref10]
  refine (blockAt_eq m c _ r j).trans (prod_eq m c _ r j _ _ ?_ ?_)
  · unfold src4; rw [pt_val _ (by omega)]; dsimp only; omega
  · unfold src4; rw [pt_val _ (by omega)]; dsimp only; omega

/-- The prompt's stored keys after the run are the reference's: layer 1 new, layer 0 as given. -/
theorem final5 : (dats m 0 c).arrAt 5 cfg0.N = val_main_v14 (F := Ideal) (m ((c : Thread nD τ).loc main_arg0)) (m ((c : Thread nD τ).loc main_arg1)) (m ((c : Thread nD τ).loc main_arg2)) := by
  refine (dats m 0 c).arrAt_eq_of_coversWhere_of_agree 5 _ (fun β => 1 ≤ β 0) (by decide +kernel) (fun t _ y => ?_) (fun y hy => ?_)
  · have ht : t.val < 51 := lt_of_lt_of_eq t.isLt N_0
    obtain ⟨-, -, -, -, -, e5, e6, e7, e8⟩ := idx t
    blk_simp
    rw [show (dats m 0 c).after 5 t = stripsAt m c (src5 t) from rfl]
    obtain ⟨z, q, l, rfl⟩ : ∃ (z : Fin 1) (q : Fin 4096) (l : Fin 128), y = ix3 z q l := ⟨_, _, _, eq_ix3 y⟩
    obtain ⟨Q, hQ⟩ : ∃ Q : Fin 65536, Q.val = min (t.val / 3) 15 * 4096 + q.val := ⟨⟨min (t.val / 3) 15 * 4096 + q.val, by omega⟩, rfl⟩
    have hi : (((View.whole main_v0_3).slice (win0_5.rect t)).emb (ix3 z q l)) = ix3 1 Q l := by
      blk_ext [e5, hQ]
    rw [hi, stripsAt_eq]
    have hl : l.val < 128 := l.isLt
    have hq : q.val < 4096 := q.isLt
    rw [ref14_new _ _ _ Q l ⟨0 + Q.val / 8, by omega⟩ ⟨1024 + (Q.val % 8 * 128 + l.val), by omega⟩ rfl rfl]
    refine prod_eq m c _ _ _ _ _ ?_ ?_
    · unfold src5; rw [pt_val _ (by omega)]; show 0 + Q.val / 8 = _ + q.val / 8; omega
    · unfold src5; rw [pt_val _ (by omega)]; show 1024 + (Q.val % 8 * 128 + l.val) = _ + (q.val % 8 * 128 + l.val); omega
  · blk_simp [Pipeline.Window.cell_apply] at hy
    obtain ⟨z, q, l, rfl⟩ : ∃ (z : Fin 2) (q : Fin 65536) (l : Fin 128), y = ix3 z q l := ⟨_, _, _, eq_ix3 y⟩
    obtain rfl : z = 0 := by
      apply Fin.ext
      simp at hy
      omega
    refine Eq.trans ?_ (ref14_old _ _ _ q l).symm
    rfl

/-- The prompt's stored values after the run are the reference's: layer 1 new, layer 0 as given. -/
theorem final6 : (dats m 0 c).arrAt 6 cfg0.N = val_main_v18 (F := Ideal) (m ((c : Thread nD τ).loc main_arg0)) (m ((c : Thread nD τ).loc main_arg1)) (m ((c : Thread nD τ).loc main_arg3)) := by
  refine (dats m 0 c).arrAt_eq_of_coversWhere_of_agree 6 _ (fun β => 1 ≤ β 0) (by decide +kernel) (fun t _ y => ?_) (fun y hy => ?_)
  · have ht : t.val < 51 := lt_of_lt_of_eq t.isLt N_0
    obtain ⟨-, -, -, -, -, e5, e6, e7, e8⟩ := idx t
    blk_simp
    rw [show (dats m 0 c).after 6 t = stripsAt m c (src6 t) from rfl]
    obtain ⟨z, q, l, rfl⟩ : ∃ (z : Fin 1) (q : Fin 4096) (l : Fin 128), y = ix3 z q l := ⟨_, _, _, eq_ix3 y⟩
    obtain ⟨Q, hQ⟩ : ∃ Q : Fin 65536, Q.val = min (t.val / 3) 15 * 4096 + q.val := ⟨⟨min (t.val / 3) 15 * 4096 + q.val, by omega⟩, rfl⟩
    have hi : (((View.whole main_v0_4).slice (win0_6.rect t)).emb (ix3 z q l)) = ix3 1 Q l := by
      blk_ext [e6, hQ]
    rw [hi, stripsAt_eq]
    have hl : l.val < 128 := l.isLt
    have hq : q.val < 4096 := q.isLt
    rw [ref18_new _ _ _ Q l ⟨0 + Q.val / 8, by omega⟩ ⟨2048 + (Q.val % 8 * 128 + l.val), by omega⟩ rfl rfl]
    refine prod_eq m c _ _ _ _ _ ?_ ?_
    · unfold src6; rw [pt_val _ (by omega)]; show 0 + Q.val / 8 = _ + q.val / 8; omega
    · unfold src6; rw [pt_val _ (by omega)]; show 2048 + (Q.val % 8 * 128 + l.val) = _ + (q.val % 8 * 128 + l.val); omega
  · blk_simp [Pipeline.Window.cell_apply] at hy
    obtain ⟨z, q, l, rfl⟩ : ∃ (z : Fin 2) (q : Fin 65536) (l : Fin 128), y = ix3 z q l := ⟨_, _, _, eq_ix3 y⟩
    obtain rfl : z = 0 := by
      apply Fin.ext
      simp at hy
      omega
    refine Eq.trans ?_ (ref18_old _ _ _ q l).symm
    rfl

/-- The sample's stored keys after the run are the reference's: layer 1 new, layer 0 as given. -/
theorem final7 : (dats m 0 c).arrAt 7 cfg0.N = val_main_v22 (F := Ideal) (m ((c : Thread nD τ).loc main_arg0)) (m ((c : Thread nD τ).loc main_arg1)) (m ((c : Thread nD τ).loc main_arg4)) := by
  refine (dats m 0 c).arrAt_eq_of_coversWhere_of_agree 7 _ (fun β => 1 ≤ β 0) (by decide +kernel) (fun t _ y => ?_) (fun y hy => ?_)
  · have ht : t.val < 51 := lt_of_lt_of_eq t.isLt N_0
    obtain ⟨-, -, -, -, -, e5, e6, e7, e8⟩ := idx t
    blk_simp
    rw [show (dats m 0 c).after 7 t = stripsAt m c (src7 t) from rfl]
    obtain ⟨z, q, l, rfl⟩ : ∃ (z : Fin 1) (q : Fin 4096) (l : Fin 128), y = ix3 z q l := ⟨_, _, _, eq_ix3 y⟩
    obtain ⟨Q, hQ⟩ : ∃ Q : Fin 4096, Q.val = q.val := ⟨⟨q.val, by omega⟩, rfl⟩
    have hi : (((View.whole main_v0_5).slice (win0_7.rect t)).emb (ix3 z q l)) = ix3 1 Q l := by
      blk_ext [e7, hQ]
    rw [hi, stripsAt_eq]
    have hl : l.val < 128 := l.isLt
    have hq : q.val < 4096 := q.isLt
    rw [ref22_new _ _ _ Q l ⟨8192 + Q.val / 8, by omega⟩ ⟨1024 + (Q.val % 8 * 128 + l.val), by omega⟩ rfl rfl]
    refine prod_eq m c _ _ _ _ _ ?_ ?_
    · unfold src7; rw [pt_val _ (by omega)]; show 8192 + Q.val / 8 = _ + q.val / 8; omega
    · unfold src7; rw [pt_val _ (by omega)]; show 1024 + (Q.val % 8 * 128 + l.val) = _ + (q.val % 8 * 128 + l.val); omega
  · blk_simp [Pipeline.Window.cell_apply] at hy
    obtain ⟨z, q, l, rfl⟩ : ∃ (z : Fin 2) (q : Fin 4096) (l : Fin 128), y = ix3 z q l := ⟨_, _, _, eq_ix3 y⟩
    obtain rfl : z = 0 := by
      apply Fin.ext
      simp at hy
      omega
    refine Eq.trans ?_ (ref22_old _ _ _ q l).symm
    rfl

/-- The sample's stored values after the run are the reference's: layer 1 new, layer 0 as given. -/
theorem final8 : (dats m 0 c).arrAt 8 cfg0.N = val_main_v26 (F := Ideal) (m ((c : Thread nD τ).loc main_arg0)) (m ((c : Thread nD τ).loc main_arg1)) (m ((c : Thread nD τ).loc main_arg5)) := by
  refine (dats m 0 c).arrAt_eq_of_coversWhere_of_agree 8 _ (fun β => 1 ≤ β 0) (by decide +kernel) (fun t _ y => ?_) (fun y hy => ?_)
  · have ht : t.val < 51 := lt_of_lt_of_eq t.isLt N_0
    obtain ⟨-, -, -, -, -, e5, e6, e7, e8⟩ := idx t
    blk_simp
    rw [show (dats m 0 c).after 8 t = stripsAt m c (src8 t) from rfl]
    obtain ⟨z, q, l, rfl⟩ : ∃ (z : Fin 1) (q : Fin 4096) (l : Fin 128), y = ix3 z q l := ⟨_, _, _, eq_ix3 y⟩
    obtain ⟨Q, hQ⟩ : ∃ Q : Fin 4096, Q.val = q.val := ⟨⟨q.val, by omega⟩, rfl⟩
    have hi : (((View.whole main_v0_6).slice (win0_8.rect t)).emb (ix3 z q l)) = ix3 1 Q l := by
      blk_ext [e8, hQ]
    rw [hi, stripsAt_eq]
    have hl : l.val < 128 := l.isLt
    have hq : q.val < 4096 := q.isLt
    rw [ref26_new _ _ _ Q l ⟨8192 + Q.val / 8, by omega⟩ ⟨2048 + (Q.val % 8 * 128 + l.val), by omega⟩ rfl rfl]
    refine prod_eq m c _ _ _ _ _ ?_ ?_
    · unfold src8; rw [pt_val _ (by omega)]; show 8192 + Q.val / 8 = _ + q.val / 8; omega
    · unfold src8; rw [pt_val _ (by omega)]; show 2048 + (Q.val % 8 * 128 + l.val) = _ + (q.val % 8 * 128 + l.val); omega
  · blk_simp [Pipeline.Window.cell_apply] at hy
    obtain ⟨z, q, l, rfl⟩ : ∃ (z : Fin 2) (q : Fin 4096) (l : Fin 128), y = ix3 z q l := ⟨_, _, _, eq_ix3 y⟩
    obtain rfl : z = 0 := by
      apply Fin.ext
      simp at hy
      omega
    refine Eq.trans ?_ (ref26_old _ _ _ q l).symm
    rfl

end Cert.Qkv

namespace Cert.Qkv

open Cert.Kernel4Ideal Cert.Kernel4Ideal.Gen Idealize.ShloMosaic Idealize.ShloMosaic.TcCoe Idealize.SL.Sem
open Cert.Reference4Ideal.Read

/-- The program and the reference, run in exact arithmetic on the same arguments, end with the same results. -/
theorem equal : Cert.algebraic_Kernel4Ideal_Reference4Ideal := by
  intro m ρ m' ρ' _ hagree
  refine ⟨fun c => val_main_v8 (F := Ideal) (m ((c : Thread nD τ).loc main_arg0)) (m ((c : Thread nD τ).loc main_arg1)), fun c => val_main_v9 (F := Ideal) (m ((c : Thread nD τ).loc main_arg0)) (m ((c : Thread nD τ).loc main_arg1)), fun c => val_main_v10 (F := Ideal) (m ((c : Thread nD τ).loc main_arg0)) (m ((c : Thread nD τ).loc main_arg1)), fun c => val_main_v14 (F := Ideal) (m ((c : Thread nD τ).loc main_arg0)) (m ((c : Thread nD τ).loc main_arg1)) (m ((c : Thread nD τ).loc main_arg2)), fun c => val_main_v18 (F := Ideal) (m ((c : Thread nD τ).loc main_arg0)) (m ((c : Thread nD τ).loc main_arg1)) (m ((c : Thread nD τ).loc main_arg3)), fun c => val_main_v22 (F := Ideal) (m ((c : Thread nD τ).loc main_arg0)) (m ((c : Thread nD τ).loc main_arg1)) (m ((c : Thread nD τ).loc main_arg4)), fun c => val_main_v26 (F := Ideal) (m ((c : Thread nD τ).loc main_arg0)) (m ((c : Thread nD τ).loc main_arg1)) (m ((c : Thread nD τ).loc main_arg5)), ?_, ?_⟩
  · refine (θ_run Cert.Kernel4Ideal.defs _ _).mono (fun r h c => ?_)
      (θ_run_and (frame (F := Ideal) m ρ) (runs (F := Ideal) m ρ))
    refine ⟨((h.2.1 c).1 2).trans (final2 m c), ((h.2.1 c).1 3).trans (final3 m c), ((h.2.1 c).1 4).trans (final4 m c), ((h.2.1 c).1 5).trans (final5 m c), ((h.2.1 c).1 6).trans (final6 m c), ((h.2.1 c).1 7).trans (final7 m c), ((h.2.1 c).1 8).trans (final8 m c), h.1.1 c⟩
  · refine (θ_run Cert.Reference4Ideal.defs _ _).mono (fun r h c => ?_) (Cert.Reference4Ideal.Value.run (F := Ideal) m' ρ')
    have h' := h c
    obtain ⟨a0, a1, a2, a3, a4, a5⟩ := hagree c
    refine ⟨h'.1.trans ?_, h'.2.1.trans ?_, h'.2.2.1.trans ?_, h'.2.2.2.1.trans ?_, h'.2.2.2.2.1.trans ?_, h'.2.2.2.2.2.1.trans ?_, h'.2.2.2.2.2.2.1.trans ?_, h'.2.2.2.2.2.2.2⟩
    · rw [val_main_v8_eq, a0, a1]
    · rw [val_main_v9_eq, a0, a1]
    · rw [val_main_v10_eq, a0, a1]
    · rw [val_main_v14_eq, a0, a1, a2]
    · rw [val_main_v18_eq, a0, a1, a3]
    · rw [val_main_v22_eq, a0, a1, a4]
    · rw [val_main_v26_eq, a0, a1, a5]

end Cert.Qkv

end
-- ==== Proof.OutProj.lean ====
module

public import proofs.«01_k».proof.Defs
public import proofs.«01_k».proof.Proof.Gen.Kernel5Ideal.Value
public import proofs.«01_k».proof.Proof.Gen.Reference5Ideal.Read
public import Idealize.ShloMosaic.Lib.Pipeline.ValueKit
public import proofs.«01_k».proof.Proof.Rows

@[expose] public section

set_option maxRecDepth 16384

noncomputable section

namespace Cert.OutProj

open Cert.Kernel5Ideal Cert.Kernel5Ideal.Gen Idealize.ShloMosaic Idealize.ShloMosaic.TcCoe Idealize.SL.Sem
open Cert.Reference5Ideal.Read
open Cert.Rows

/-- Row `r` of what the kernel's norm is taken of: the residual times its factor plus the two half products. -/
def pre (P0 : Vec Ideal S544x1024 .bf16) (P1 : Vec Ideal S1x1024x2048 .bf16) (P2 : Vec Ideal S544x1024 .bf16) (P3 : Vec Ideal S1x1024x2048 .bf16) (P4 : Vec Ideal S544x2048 .f32) (r : Fin 544) (j : Fin 2048) : EReal :=
  alpha * P4 (ix2 r j) + (∑ k : Fin 1024, P0 (ix2 r k) * P1 (ix3 0 k j) + ∑ k : Fin 1024, P2 (ix2 r k) * P3 (ix3 0 k j))

/-- The first result of the kernel's body, at row `r` and column `j` of its block. -/
theorem pay_eq (P0 : Vec Ideal S544x1024 .bf16) (P1 : Vec Ideal S1x1024x2048 .bf16) (P2 : Vec Ideal S544x1024 .bf16) (P3 : Vec Ideal S1x1024x2048 .bf16) (P4 : Vec Ideal S544x2048 .f32) (P5 : Vec Ideal S1x2048 .f32) (P6 : Vec Ideal S1x2048 .f32) (r : Fin 544) (j : Fin 2048) :
    k0_pay1 (k0_pay3 P6) (k0_pay4 P0 P1 P2 P3 P4 P5) (ix2 r j) = lnorm (pre P0 P1 P2 P3 P4 r) (P5 (ix2 0 j)) (P6 (ix2 0 j)) j := by
  unfold k0_pay1 k0_pay3 k0_pay4 lnorm rowMean pre alpha
  pointwise

/-- The first result of the reference, at row `r` and column `j`. -/
theorem ref_eq (x0 x1 x2 x3 x4 x5) (r : Fin 8704) (j : Fin 2048) :
    val_main_v32 (F := Ideal) x0 x1 x2 x3 x4 x5 (ix2 r j)
      = lnorm (fun j => alpha * x3 (ix2 r j) + (∑ k : Fin 1024, x0 (ix2 r k) * x2 (ix3 0 ⟨k.val, by omega⟩ j)
          + ∑ k : Fin 1024, x1 (ix2 r k) * x2 (ix3 0 ⟨1024 + k.val, by omega⟩ j))) (x4 (ix1 j)) (x5 (ix1 j)) j := by
  have hZ : ∀ (r : Fin 8704) (j : Fin 2048), val_main_v8 (F := Ideal) x0 x1 x2 x3 (ix2 r j) = alpha * x3 (ix2 r j)
      + (∑ k : Fin 1024, x0 (ix2 r k) * x2 (ix3 0 ⟨k.val, by omega⟩ j) + ∑ k : Fin 1024, x1 (ix2 r k) * x2 (ix3 0 ⟨1024 + k.val, by omega⟩ j)) := by
    intro r j
    rw [val_main_v8_apply, val_main_v5_apply]
    unfold alpha val_main_v7 val_main_v6 val_main_cst val_main_v1 val_main_v4 val_main_v3 val_main_v2 val_main_v0
    pointwise
  unfold lnorm rowMean val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_cst_0 val_main_cst_1 val_main_cst_2 val_main_cst_3 val_main_cst_4
  generalize val_main_v8 (F := Ideal) x0 x1 x2 x3 = Z at hZ ⊢
  pointwise
  simp only [hZ]

/-- Where each window's block lies at a grid point. -/
theorem idx : ∀ t : Fin grid0.N,
    win0_0.index t = ![(grid0.coords t 0).val, 0] ∧ win0_1.index t = ![(grid0.coords t 0).val, 0]
      ∧ win0_2.index t = ![0, 0, 0] ∧ win0_3.index t = ![0, 1, 0] ∧ win0_4.index t = ![(grid0.coords t 0).val, 0]
      ∧ win0_5.index t = ![0, 0] ∧ win0_6.index t = ![0, 0]
      ∧ win0_7.index t = ![(grid0.coords t 0).val, 0] ∧ win0_8.index t = ![(grid0.coords t 0).val, 0] := by
  decide +kernel

/-- The first result of the body at a grid point, at row `r` and column `j` of its block, is the reference's first result at
    the place the block has in the array. -/
theorem point (m : (ℓ : Loc nD τ sig) → Buf (Elt Ideal) ℓ) (c : Dev nD) (t : Fin grid0.N) (r : Fin 544) (j : Fin 2048) (hr : (grid0.coords t 0).val * 544 + r.val < 8704) :
    k0_pay1 (k0_pay3 (iblk m c 6 t)) (k0_pay4 (iblk m c 0 t) (iblk m c 2 t) (iblk m c 1 t) (iblk m c 3 t) (iblk m c 4 t) (iblk m c 5 t)) (ix2 r j)
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨(grid0.coords t 0).val * 544 + r.val, hr⟩ j) := by
  obtain ⟨e0, e1, e2, e3, e4, e5, e6, e7, e8⟩ := idx t
  refine (pay_eq _ _ _ _ _ _ _ _ _).trans (Eq.trans ?_ (ref_eq _ _ _ _ _ _ _ _).symm)
  unfold pre
  congr 1
  · funext j
    blk_point [iblk, V, e0, e1, e2, e3, e4]
  · blk_point [iblk, V, e5]
  · blk_point [iblk, V, e6]

/-- The first result array after the run is the reference's first result of the launched arguments. -/
theorem final7 (m : (ℓ : Loc nD τ sig) → Buf (Elt Ideal) ℓ) (c : Dev nD) :
    (dats m 0 c).arrAt 7 cfg0.N
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨-, -, -, -, -, -, -, e7, -⟩ := idx t
  blk_simp
  rw [after0_7]
  frame_open
  simp only [k0_pay5, k0_pay6]
  frame_out
  obtain ⟨r, j, rfl⟩ : ∃ (r : Fin 544) (j : Fin 2048), y = ix2 r j := ⟨_, _, eq_ix2 y⟩
  have hx : (grid0.coords t 0).val < 16 := (grid0.coords t 0).isLt
  have hi : (((View.whole main_v2_0).slice (win0_7.rect t)).emb (ix2 r j)) = ix2 ⟨(grid0.coords t 0).val * 544 + r.val, by omega⟩ j := by
    blk_ext [e7]
  rw [hi]
  exact point m c t r j _

/-- The second result array after the run is the reference's second result: the first in the narrower type. -/
theorem final8 (m : (ℓ : Loc nD τ sig) → Buf (Elt Ideal) ℓ) (c : Dev nD) :
    (dats m 0 c).arrAt 8 cfg0.N
      = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨-, -, -, -, -, -, -, -, e8⟩ := idx t
  blk_simp
  rw [after0_8]
  frame_open
  simp only [k0_pay5, k0_pay6]
  frame_out
  obtain ⟨r, j, rfl⟩ : ∃ (r : Fin 544) (j : Fin 2048), y = ix2 r j := ⟨_, _, eq_ix2 y⟩
  have hx : (grid0.coords t 0).val < 16 := (grid0.coords t 0).isLt
  have hi : (((View.whole main_v2_1).slice (win0_8.rect t)).emb (ix2 r j)) = ix2 ⟨(grid0.coords t 0).val * 544 + r.val, by omega⟩ j := by
    blk_ext [e8]
  rw [hi]
  exact point m c t r j _

/-- The program and the reference, run in exact arithmetic on the same arguments, end with the same results. -/
theorem equal : Cert.algebraic_Kernel5Ideal_Reference5Ideal := by
  intro m ρ m' ρ' _ hagree
  refine ⟨fun c => val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · refine (θ_run Cert.Kernel5Ideal.defs _ _).mono (fun r h c => ?_) (Cert.Kernel5Ideal.Value.run_blocks (F := Ideal) m ρ)
    have h' := h c
    rw [final7 m c, final8 m c] at h'
    exact h'
  · refine (θ_run Cert.Reference5Ideal.defs _ _).mono (fun r h c => ?_) (Cert.Reference5Ideal.Value.run (F := Ideal) m' ρ')
    have h' := h c
    obtain ⟨a0, a1, a2, a3, a4, a5⟩ := hagree c
    refine ⟨h'.1.trans ?_, h'.2.1.trans ?_, h'.2.2⟩
    · rw [val_main_v32_eq, a0, a1, a2, a3, a4, a5]
    · rw [val_main_v33_eq, a0, a1, a2, a3, a4, a5]

end Cert.OutProj

end
-- ==== Proof.Ple.lean ====
module

public import proofs.«01_k».proof.Defs
public import proofs.«01_k».proof.Proof.Gen.Kernel6Ideal.Value
public import proofs.«01_k».proof.Proof.Gen.Reference6Ideal.Read
public import Idealize.ShloMosaic.Lib.Pipeline.ValueKit
public import proofs.«01_k».proof.Proof.Rows

@[expose] public section

set_option maxRecDepth 16384

noncomputable section

namespace Cert.Ple

open Cert.Kernel6Ideal Cert.Kernel6Ideal.Gen Idealize.ShloMosaic Idealize.ShloMosaic.TcCoe Idealize.SL.Sem
open Cert.Reference6Ideal.Read
open Cert.Rows

/-- Row `r` of what the kernel's norm is taken of: the residual times its factor plus the gate (the logistic function of the
    first product) times the second product. -/
def pre (P0 : Vec Ideal S544x2048 .bf16) (P1 : Vec Ideal S1x2048x2048 .bf16) (P2 : Vec Ideal S1x544x256 .f32) (P3 : Vec Ideal S1x256x2048 .bf16) (P4 : Vec Ideal S544x2048 .f32) (r : Fin 544) (j : Fin 2048) : EReal :=
  alpha * P4 (ix2 r j) + Ideal.div 1 (1 + Ideal.exp (-∑ k : Fin 2048, P0 (ix2 r k) * P1 (ix3 0 k j))) * ∑ k : Fin 256, P2 (ix3 0 r k) * P3 (ix3 0 k j)

/-- The first result of the kernel's body, at row `r` and column `j` of its block. -/
theorem pay_eq (P0 : Vec Ideal S544x2048 .bf16) (P1 : Vec Ideal S1x2048x2048 .bf16) (P2 : Vec Ideal S1x544x256 .f32) (P3 : Vec Ideal S1x256x2048 .bf16) (P4 : Vec Ideal S544x2048 .f32) (P5 : Vec Ideal S1x2048 .f32) (P6 : Vec Ideal S1x2048 .f32) (r : Fin 544) (j : Fin 2048) :
    k0_pay1 (k0_pay3 P5) (k0_pay4 P6) (k0_pay5 P0 P1 P2 P3 P4) (k0_pay6 P0 P1 P2 P3 P4) (ix2 r j) = lnorm (pre P0 P1 P2 P3 P4 r) (P5 (ix2 0 j)) (P6 (ix2 0 j)) j := by
  unfold k0_pay1 k0_pay3 k0_pay4 k0_pay6 k0_pay5 lnorm rowMean pre alpha
  simp only [← zero_sub]
  pointwise

/-- The first result of the reference, at row `r` and column `j`. -/
theorem ref_eq (x0 x1 x2 x3 x4 x5 x6) (r : Fin 8704) (j : Fin 2048) :
    val_main_v46 (F := Ideal) x0 x1 x2 x3 x4 x5 x6 (ix2 r j)
      = lnorm (fun j => alpha * x4 (ix2 r j) + Ideal.div 1 (1 + Ideal.exp (-∑ k : Fin 2048, x0 (ix2 r k) * x1 (ix3 1 k j))) * ∑ k : Fin 256, x2 (ix3 1 r k) * x3 (ix3 1 k j))
          (x5 (ix1 j)) (x6 (ix1 j)) j := by
  have hZ : ∀ (r : Fin 8704) (j : Fin 2048), val_main_v22 (F := Ideal) x0 x1 x2 x3 x4 (ix2 r j)
      = alpha * x4 (ix2 r j) + Ideal.div 1 (1 + Ideal.exp (-∑ k : Fin 2048, x0 (ix2 r k) * x1 (ix3 1 k j))) * ∑ k : Fin 256, x2 (ix3 1 r k) * x3 (ix3 1 k j) := by
    intro r j
    rw [val_main_v22_apply, val_main_v19_apply, val_main_v18_apply, val_main_v10_apply, val_main_v8_apply, val_main_v6_apply, val_main_v5_apply, val_main_v4_apply]
    unfold alpha val_main_v21 val_main_v20 val_main_cst_1 val_main_v17 val_main_v16 val_main_v15 val_main_v14 val_main_v13 val_main_v12 val_main_v11 val_main_v9 val_main_cst_0 val_main_v7 val_main_cst val_main_v3 val_main_v2 val_main_v1 val_main_v0
    pointwise
    have hl : ∀ k : Fin 2048, lidx_main_v4 (ix2 r j) k = ix2 r k := fun k => by ext a; fin_cases a <;> rfl
    simp only [hl]
  unfold lnorm rowMean val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_cst_2 val_main_cst_3 val_main_cst_4 val_main_cst_5 val_main_cst_6
  generalize val_main_v22 (F := Ideal) x0 x1 x2 x3 x4 = Z at hZ ⊢
  pointwise
  simp only [hZ]

/-- Where each window's block lies at a grid point. -/
theorem idx : ∀ t : Fin grid0.N,
    win0_0.index t = ![(grid0.coords t 0).val, 0] ∧ win0_1.index t = ![1, 0, 0]
      ∧ win0_2.index t = ![1, (grid0.coords t 0).val, 0] ∧ win0_3.index t = ![1, 0, 0] ∧ win0_4.index t = ![(grid0.coords t 0).val, 0]
      ∧ win0_5.index t = ![0, 0] ∧ win0_6.index t = ![0, 0]
      ∧ win0_7.index t = ![(grid0.coords t 0).val, 0] ∧ win0_8.index t = ![(grid0.coords t 0).val, 0] := by
  decide +kernel

/-- The first result of the body at a grid point, at row `r` and column `j` of its block, is the reference's first result at
    the place the block has in the array. -/
theorem point (m : (ℓ : Loc nD τ sig) → Buf (Elt Ideal) ℓ) (c : Dev nD) (t : Fin grid0.N) (r : Fin 544) (j : Fin 2048) (hr : (grid0.coords t 0).val * 544 + r.val < 8704) :
    k0_pay1 (k0_pay3 (iblk m c 5 t)) (k0_pay4 (iblk m c 6 t)) (k0_pay5 (iblk m c 0 t) (iblk m c 1 t) (iblk m c 2 t) (iblk m c 3 t) (iblk m c 4 t)) (k0_pay6 (iblk m c 0 t) (iblk m c 1 t) (iblk m c 2 t) (iblk m c 3 t) (iblk m c 4 t)) (ix2 r j)
      = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨(grid0.coords t 0).val * 544 + r.val, hr⟩ j) := by
  obtain ⟨e0, e1, e2, e3, e4, e5, e6, e7, e8⟩ := idx t
  refine (pay_eq _ _ _ _ _ _ _ _ _).trans (Eq.trans ?_ (ref_eq _ _ _ _ _ _ _ _ _).symm)
  unfold pre
  congr 1
  · funext j
    blk_point [iblk, V, e0, e1, e2, e3, e4]
  · blk_point [iblk, V, e5]
  · blk_point [iblk, V, e6]

/-- The first result array after the run is the reference's first result of the launched arguments. -/
theorem final7 (m : (ℓ : Loc nD τ sig) → Buf (Elt Ideal) ℓ) (c : Dev nD) :
    (dats m 0 c).arrAt 7 cfg0.N
      = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨-, -, -, -, -, -, -, e7, -⟩ := idx t
  blk_simp
  rw [after0_7]
  frame_open
  simp only [k0_pay7, k0_pay8, k0_pay9, k0_pay10]
  frame_out
  obtain ⟨r, j, rfl⟩ : ∃ (r : Fin 544) (j : Fin 2048), y = ix2 r j := ⟨_, _, eq_ix2 y⟩
  have hx : (grid0.coords t 0).val < 16 := (grid0.coords t 0).isLt
  have hi : (((View.whole main_v2_0).slice (win0_7.rect t)).emb (ix2 r j)) = ix2 ⟨(grid0.coords t 0).val * 544 + r.val, by omega⟩ j := by
    blk_ext [e7]
  rw [hi]
  exact point m c t r j _

/-- The second result array after the run is the reference's second result: the first in the narrower type. -/
theorem final8 (m : (ℓ : Loc nD τ sig) → Buf (Elt Ideal) ℓ) (c : Dev nD) :
    (dats m 0 c).arrAt 8 cfg0.N
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  obtain ⟨-, -, -, -, -, -, -, -, e8⟩ := idx t
  blk_simp
  rw [after0_8]
  frame_open
  simp only [k0_pay7, k0_pay8, k0_pay9, k0_pay10]
  frame_out
  obtain ⟨r, j, rfl⟩ : ∃ (r : Fin 544) (j : Fin 2048), y = ix2 r j := ⟨_, _, eq_ix2 y⟩
  have hx : (grid0.coords t 0).val < 16 := (grid0.coords t 0).isLt
  have hi : (((View.whole main_v2_1).slice (win0_8.rect t)).emb (ix2 r j)) = ix2 ⟨(grid0.coords t 0).val * 544 + r.val, by omega⟩ j := by
    blk_ext [e8]
  rw [hi]
  exact point m c t r j _

/-- The program and the reference, run in exact arithmetic on the same arguments, end with the same results. -/
theorem equal : Cert.algebraic_Kernel6Ideal_Reference6Ideal := by
  intro m ρ m' ρ' _ hagree
  refine ⟨fun c => val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · refine (θ_run Cert.Kernel6Ideal.defs _ _).mono (fun r h c => ?_) (Cert.Kernel6Ideal.Value.run_blocks (F := Ideal) m ρ)
    have h' := h c
    rw [final7 m c, final8 m c] at h'
    exact h'
  · refine (θ_run Cert.Reference6Ideal.defs _ _).mono (fun r h c => ?_) (Cert.Reference6Ideal.Value.run (F := Ideal) m' ρ')
    have h' := h c
    obtain ⟨a0, a1, a2, a3, a4, a5, a6⟩ := hagree c
    refine ⟨h'.1.trans ?_, h'.2.1.trans ?_, h'.2.2⟩
    · rw [val_main_v46_eq, a0, a1, a2, a3, a4, a5, a6]
    · rw [val_main_v47_eq, a0, a1, a2, a3, a4, a5, a6]

end Cert.Ple

end
-- ==== Proof.lean ====
module

public import proofs.«01_k».proof.Defs
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Reference1Ideal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel1Ideal.Value
public import proofs.«01_k».proof.Proof.Gen.Reference1Ideal.Run
public import proofs.«01_k».proof.Proof.Gen.Reference1Ideal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import Idealize.ShloMosaic.Adequacy
public import Idealize.ShloMosaic.Init
public import proofs.«01_k».proof.Proof.Mlstm
public import proofs.«01_k».proof.Proof.FfnUp
public import proofs.«01_k».proof.Proof.FfnDownRun
public import proofs.«01_k».proof.Proof.FfnDown
public import proofs.«01_k».proof.Proof.QkvRun
public import proofs.«01_k».proof.Proof.QkvBits
public import proofs.«01_k».proof.Proof.Qkv
public import proofs.«01_k».proof.Proof.OutProj
public import proofs.«01_k».proof.Proof.Ple
public import Idealize.ShloMosaic.Lib.Quiescent
public import proofs.«01_k».proof.Proof.FfnDownBits

@[expose] public section

noncomputable section

namespace Cert.Proof

open Idealize.ShloMosaic Idealize.SL.Sem

/-- The reference of the recurrence of the sampled tokens runs to its end, leaves its arguments as they were, and, as it
    declares no semaphore, ends with every counter at zero. -/
theorem reference1_quiescent : Cert.quiescent_Reference1Ideal := fun m ρ _ =>
  (θ_run Cert.Reference1Ideal.defs _ _).mono (fun r h => ⟨fun c => (h c).2.2.2.2, sem_eq_zero_of_no_sems rfl r.2⟩)
    (Cert.Reference1Ideal.Value.run (F := Ideal) m ρ)

/-- The reference of the up projection of the feed-forward block runs to its end, leaves its arguments as they were, and, as it declares
    no semaphore, ends with every counter at zero. -/
theorem reference2_quiescent : Cert.quiescent_Reference2Ideal := fun m ρ _ =>
  (θ_run Cert.Reference2Ideal.defs _ _).mono (fun r h => ⟨fun c => (h c).2, sem_eq_zero_of_no_sems rfl r.2⟩)
    (Cert.Reference2Ideal.Value.run (F := Ideal) m ρ)

/-- The reference of the down projection of the feed-forward block runs to its end, leaves its arguments as they were, and, as it declares
    no semaphore, ends with every counter at zero. -/
theorem reference3_quiescent : Cert.quiescent_Reference3Ideal := fun m ρ _ =>
  (θ_run Cert.Reference3Ideal.defs _ _).mono (fun r h => ⟨fun c => (h c).2.2, sem_eq_zero_of_no_sems rfl r.2⟩)
    (Cert.Reference3Ideal.Value.run (F := Ideal) m ρ)

/-- The reference of the attention's projection runs to its end, leaves its arguments as they were, and, as it declares
    no semaphore, ends with every counter at zero. -/
theorem reference4_quiescent : Cert.quiescent_Reference4Ideal := fun m ρ _ =>
  (θ_run Cert.Reference4Ideal.defs _ _).mono (fun r h => ⟨fun c => (h c).2.2.2.2.2.2.2, sem_eq_zero_of_no_sems rfl r.2⟩)
    (Cert.Reference4Ideal.Value.run (F := Ideal) m ρ)

/-- The reference of the attention's output projection runs to its end, leaves its arguments as they were, and, as it declares
    no semaphore, ends with every counter at zero. -/
theorem reference5_quiescent : Cert.quiescent_Reference5Ideal := fun m ρ _ =>
  (θ_run Cert.Reference5Ideal.defs _ _).mono (fun r h => ⟨fun c => (h c).2.2, sem_eq_zero_of_no_sems rfl r.2⟩)
    (Cert.Reference5Ideal.Value.run (F := Ideal) m ρ)

/-- The reference of the per-layer embedding runs to its end, leaves its arguments as they were, and, as it declares
    no semaphore, ends with every counter at zero. -/
theorem reference6_quiescent : Cert.quiescent_Reference6Ideal := fun m ρ _ =>
  (θ_run Cert.Reference6Ideal.defs _ _).mono (fun r h => ⟨fun c => (h c).2.2, sem_eq_zero_of_no_sems rfl r.2⟩)
    (Cert.Reference6Ideal.Value.run (F := Ideal) m ρ)

/-- `Cert.Claim`: the programs' stated facts, the frames of the six calls with their references, and for each call
    that nothing was rewritten and that the kernel computes its reference over the extended reals. -/
theorem claim : Cert.Claim := ⟨Cert.Kernel1.Gen.facts, Cert.Kernel1Ideal.Gen.facts, Cert.Reference1Ideal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Mlstm.facts,
  fun m ρ _ => Cert.Kernel1.Gen.frame m ρ,
  fun m ρ _ => Cert.Kernel1Ideal.Gen.frame m ρ,
  fun m ρ _ => Cert.Kernel1Ideal.Gen.frame m ρ,
  reference1_quiescent,
  fun m ρ _ => reference1_quiescent m ρ trivial,
  fun m ρ _ => Cert.Kernel2.Gen.frame m ρ,
  fun m ρ _ => Cert.Kernel2Ideal.Gen.frame m ρ,
  reference2_quiescent,
  fun m ρ _ => Cert.FfnDownBits.frame m ρ,
  fun m ρ _ => Cert.FfnDown.frame m ρ,
  reference3_quiescent,
  fun m ρ _ => Cert.QkvBits.frame m ρ,
  fun m ρ _ => Cert.Qkv.frame m ρ,
  reference4_quiescent,
  fun m ρ _ => Cert.Kernel5.Gen.frame m ρ,
  fun m ρ _ => Cert.Kernel5Ideal.Gen.frame m ρ,
  reference5_quiescent,
  fun m ρ _ => Cert.Kernel6.Gen.frame m ρ,
  fun m ρ _ => Cert.Kernel6Ideal.Gen.frame m ρ,
  reference6_quiescent,
  trivial, @Cert.Mlstm.equal Cert.Mlstm.facts,
  trivial, Cert.FfnUp.equal,
  trivial, Cert.FfnDown.equal,
  trivial, Cert.Qkv.equal,
  trivial, Cert.OutProj.equal,
  trivial, Cert.Ple.equal⟩

end Cert.Proof

end
